-- ==== Defs.lean ====
def Pre_Kernel [hPre_first_nonneg : Cert.Pre_first_nonneg.Facts] (m : (ℓ : Loc Cert.Kernel.nD Cert.Kernel.τ Cert.Kernel.sig) → Buf (Elt Bits) ℓ) : Prop :=
  ∀ c : Dev Cert.Kernel.nD,
    (Cert.Pre_first_nonneg.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_first_nonneg : Cert.Pre_first_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_first_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_first_nonneg : Cert.Pre_first_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_first_nonneg : Cert.Pre_first_nonneg.Facts] (m : (ℓ : Loc Cert.Kernel5.nD Cert.Kernel5.τ Cert.Kernel5.sig) → Buf (Elt Bits) ℓ) : Prop :=
  ∀ c : Dev Cert.Kernel5.nD,
    (Cert.Pre_first_nonneg.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))) = (fun _ => 1#1)

def Pre_Kernel5Ideal [hPre_first_nonneg : Cert.Pre_first_nonneg.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_first_nonneg.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal [hPre_first_nonneg : Cert.Pre_first_nonneg.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_first_nonneg.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] [hPre_first_nonneg : Cert.Pre_first_nonneg.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_first_nonneg : Cert.Pre_first_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_first_nonneg : Cert.Pre_first_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] [hPre_first_nonneg : Cert.Pre_first_nonneg.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_first_nonneg : Cert.Pre_first_nonneg.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] [hPre_first_nonneg : Cert.Pre_first_nonneg.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v83) = v1 c
          ∧ r.2.mem ((c.tc : Thread Cert.Reference2Ideal.nD Cert.Reference2Ideal.τ).loc Cert.Reference2Ideal.main_v84) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "mask" .f32 0xF149F2CA#32 ⊥

def algebraic_Kernel5Ideal_Reference5Ideal [hKernel5Ideal : Cert.Kernel5Ideal.Facts] [hReference5Ideal : Cert.Reference5Ideal.Facts] [hPre_first_nonneg : Cert.Pre_first_nonneg.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v2_1)) (v1 : (c : Dev Cert.Kernel5Ideal.nD) → Buf (Elt Ideal) ((c.tc : Thread Cert.Kernel5Ideal.nD Cert.Kernel5Ideal.τ).loc Cert.Kernel5Ideal.main_v2_2)) (v2 : (c : Dev Cert.Kernel5Ideal.nD) → Buf (Elt Ideal) ((c.tc : Thread Cert.Kernel5Ideal.nD Cert.Kernel5Ideal.τ).loc Cert.Kernel5Ideal.main_v2_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_1) = v0 c
          ∧ r.2.mem ((c.tc : Thread Cert.Kernel5Ideal.nD Cert.Kernel5Ideal.τ).loc Cert.Kernel5Ideal.main_v2_2) = v1 c
          ∧ r.2.mem ((c.tc : Thread Cert.Kernel5Ideal.nD Cert.Kernel5Ideal.τ).loc Cert.Kernel5Ideal.main_v2_3) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v2) = v1 c
          ∧ r.2.mem ((c.tc : Thread Cert.Reference5Ideal.nD Cert.Reference5Ideal.τ).loc Cert.Reference5Ideal.main_v4) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_first_nonneg : Cert.Pre_first_nonneg.Facts),
    quiescent_Kernel (hKernel := hKernel) (hPre_first_nonneg := hPre_first_nonneg)
    ∧ quiescent_KernelIdeal (hKernelIdeal := hKernelIdeal) (hPre_first_nonneg := hPre_first_nonneg)
    ∧ quiescent_ReferenceIdeal (hReferenceIdeal := hReferenceIdeal) (hPre_first_nonneg := hPre_first_nonneg)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_first_nonneg := hPre_first_nonneg)
    ∧ quiescent_Kernel5Ideal (hKernel5Ideal := hKernel5Ideal) (hPre_first_nonneg := hPre_first_nonneg)
    ∧ quiescent_Reference5Ideal (hReference5Ideal := hReference5Ideal) (hPre_first_nonneg := hPre_first_nonneg)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_first_nonneg := hPre_first_nonneg)
-- ==== Pre_first_nonneg.lean ====
abbrev S4096 : Shape := ⟨1, ![4096]⟩
abbrev S2x16x512x512 : Shape := ⟨4, ![2, 16, 512, 512]⟩
abbrev S2x8192x1024 : Shape := ⟨3, ![2, 8192, 1024]⟩
abbrev S2x512x1024 : Shape := ⟨3, ![2, 512, 1024]⟩
abbrev S1024x1024 : Shape := ⟨2, ![1024, 1024]⟩
abbrev S1024x5128 : Shape := ⟨2, ![1024, 5128]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S2x16x512x512 .bf16) (main_arg2 : FVec F S2x8192x1024 .bf16) (main_arg3 : FVec F S2x16x512x512 .bf16) (main_arg4 : FVec F S2x512x1024 .f32) (main_arg5 : FVec F S1024x1024 .f32) (main_arg6 : FVec F S1024x5128 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  main_v1
-- ==== Kernel.lean ====
abbrev S4096 : Shape := ⟨1, ![4096]⟩
abbrev S2x16x512x512 : Shape := ⟨4, ![2, 16, 512, 512]⟩
abbrev S2x8192x1024 : Shape := ⟨3, ![2, 8192, 1024]⟩
abbrev S2x512x1024 : Shape := ⟨3, ![2, 512, 1024]⟩
abbrev S1024x1024 : Shape := ⟨2, ![1024, 1024]⟩
abbrev S1024x5128 : Shape := ⟨2, ![1024, 5128]⟩
abbrev S5128x1024 : Shape := ⟨2, ![5128, 1024]⟩
abbrev S2x8192x512 : Shape := ⟨3, ![2, 8192, 512]⟩
abbrev S1024x3584 : Shape := ⟨2, ![1024, 3584]⟩
abbrev S1x16x128x512 : Shape := ⟨4, ![1, 16, 128, 512]⟩
abbrev S1x8192x256 : Shape := ⟨3, ![1, 8192, 256]⟩
abbrev S128x1024 : Shape := ⟨2, ![128, 1024]⟩
abbrev S512x1024 : Shape := ⟨2, ![512, 1024]⟩
abbrev S1x8192x128 : Shape := ⟨3, ![1, 8192, 128]⟩
abbrev S1024x512 : Shape := ⟨2, ![1024, 512]⟩
abbrev S2x256x1024 : Shape := ⟨3, ![2, 256, 1024]⟩
abbrev S2x2x1x1024 : Shape := ⟨4, ![2, 2, 1, 1024]⟩
abbrev S2x1x1024 : Shape := ⟨3, ![2, 1, 1024]⟩
abbrev S2x80x1024 : Shape := ⟨3, ![2, 80, 1024]⟩
abbrev S128x512 : Shape := ⟨2, ![128, 512]⟩
abbrev S1x128x1024 : Shape := ⟨3, ![1, 128, 1024]⟩
abbrev S1x1x128x512 : Shape := ⟨4, ![1, 1, 128, 512]⟩
abbrev S1x128x512 : Shape := ⟨3, ![1, 128, 512]⟩
abbrev S256x256 : Shape := ⟨2, ![256, 256]⟩
abbrev S512x256 : Shape := ⟨2, ![512, 256]⟩
abbrev S1x256x256 : Shape := ⟨3, ![1, 256, 256]⟩
abbrev S256 : Shape := ⟨1, ![256]⟩
abbrev S1x256 : Shape := ⟨2, ![1, 256]⟩
abbrev S1x1x1x256 : Shape := ⟨4, ![1, 1, 1, 256]⟩
abbrev S1x512x256 : Shape := ⟨3, ![1, 512, 256]⟩
abbrev S1x1x256 : Shape := ⟨3, ![1, 1, 256]⟩
abbrev S1x1x64x512 : Shape := ⟨4, ![1, 1, 64, 512]⟩
abbrev S64x512 : Shape := ⟨2, ![64, 512]⟩
abbrev S64x256 : Shape := ⟨2, ![64, 256]⟩
abbrev S16x256 : Shape := ⟨2, ![16, 256]⟩
abbrev S80x256 : Shape := ⟨2, ![80, 256]⟩
abbrev S1x80x256 : Shape := ⟨3, ![1, 80, 256]⟩
abbrev S16x512 : Shape := ⟨2, ![16, 512]⟩
abbrev S80x512 : Shape := ⟨2, ![80, 512]⟩
abbrev S1 : Shape := ⟨1, ![1]⟩
abbrev S1x80x1024 : Shape := ⟨3, ![1, 80, 1024]⟩
abbrev S80x1024 : Shape := ⟨2, ![80, 1024]⟩
abbrev S64x1024 : Shape := ⟨2, ![64, 1024]⟩
abbrev S1x1024 : Shape := ⟨2, ![1, 1024]⟩
abbrev S1024x128 : Shape := ⟨2, ![1024, 128]⟩
abbrev S1x1024x128 : Shape := ⟨3, ![1, 1024, 128]⟩

abbrev nBuf : Space → Nat
  | .hbm => 12
  | .vmem => 26
  | .smem => 1
  | _ => 0

abbrev bufTy : (tb : Table) → Fin (tcTables nBuf tb) → BufTy
  | .hbm, ⟨0, _⟩ => ⟨S2x16x512x512, .bf16⟩
  | .hbm, ⟨1, _⟩ => ⟨S2x8192x1024, .bf16⟩
  | .hbm, ⟨2, _⟩ => ⟨S2x16x512x512, .bf16⟩
  | .hbm, ⟨3, _⟩ => ⟨S2x512x1024, .f32⟩
  | .hbm, ⟨4, _⟩ => ⟨S1024x1024, .f32⟩
  | .hbm, ⟨5, _⟩ => ⟨S1024x5128, .f32⟩
  | .hbm, ⟨6, _⟩ => ⟨S5128x1024, .f32⟩
  | .hbm, ⟨7, _⟩ => ⟨S1024x1024, .f32⟩
  | .hbm, ⟨8, _⟩ => ⟨S2x8192x512, .bf16⟩
  | .hbm, ⟨9, _⟩ => ⟨S1024x1024, .bf16⟩
  | .hbm, ⟨10, _⟩ => ⟨S1024x1024, .bf16⟩
  | .hbm, ⟨11, _⟩ => ⟨S1024x3584, .bf16⟩
  | .local _ .vmem, ⟨0, _⟩ => ⟨S1x16x128x512, .bf16⟩
  | .local _ .vmem, ⟨1, _⟩ => ⟨S1x16x128x512, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x16x128x512, .bf16⟩
  | .local _ .vmem, ⟨5, _⟩ => ⟨S1x16x128x512, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S512x1024, .f32⟩
  | .local _ .vmem, ⟨11, _⟩ => ⟨S512x1024, .f32⟩
  | .local _ .vmem, ⟨12, _⟩ => ⟨S1x8192x128, .bf16⟩
  | .local _ .vmem, ⟨13, _⟩ => ⟨S1x8192x128, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S1024x512, .bf16⟩
  | .local _ .vmem, ⟨19, _⟩ => ⟨S1024x512, .bf16⟩
  | .local _ .vmem, ⟨20, _⟩ => ⟨S2x256x1024, .bf16⟩
  | .local _ .vmem, ⟨21, _⟩ => ⟨S2x512x1024, .f32⟩
  | .local _ .vmem, ⟨22, _⟩ => ⟨S2x512x1024, .f32⟩
  | .local _ .vmem, ⟨23, _⟩ => ⟨S2x2x1x1024, .f32⟩
  | .local _ .vmem, ⟨24, _⟩ => ⟨S2x1x1024, .f32⟩
  | .local _ .vmem, ⟨25, _⟩ => ⟨S2x80x1024, .f32⟩
  | .local _ .smem, ⟨0, _⟩ => ⟨S4096, .i32⟩
  | _, _ => ⟨S2x16x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let c1544_i32 : BitVec 32 := 1544#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c6_i32 : BitVec 32 := 6#32
  let v2 : BitVec 32 := Scalar.minsi v1 c6_i32
  let c512_i32 : BitVec 32 := 512#32
  let v3 : BitVec 32 := Scalar.muli v2 c512_i32
  let v4 : BitVec 32 := Scalar.addi c1544_i32 v3
  v4
def k0_mult2 : BitVec 32 :=
  let c0_i32_49 : BitVec 32 := 0#32
  c0_i32_49
def k0_mult3 : BitVec 32 :=
  let c0_i32_65 : BitVec 32 := 0#32
  c0_i32_65
def k0_mult4 : BitVec 32 :=
  let c0_i32_80 : BitVec 32 := 0#32
  c0_i32_80
def k0_mult5 : BitVec 32 :=
  let c0_i32_95 : BitVec 32 := 0#32
  c0_i32_95
def k0_mult6 : BitVec 32 :=
  let c0_i32_109 : BitVec 32 := 0#32
  c0_i32_109
def k0_mult7 : BitVec 32 :=
  let c0_i32_125 : BitVec 32 := 0#32
  c0_i32_125
def k0_mult8 : BitVec 32 :=
  let c0_i32_141 : BitVec 32 := 0#32
  c0_i32_141
def k0_mult9 : BitVec 32 :=
  let c0_i32_156 : BitVec 32 := 0#32
  c0_i32_156
def k0_mult10 : BitVec 32 :=
  let c512_i32 : BitVec 32 := 512#32
  c512_i32
def k0_mult11 : BitVec 32 :=
  let c512_i32_215 : BitVec 32 := 512#32
  c512_i32_215
def k0_mult12 : BitVec 32 :=
  let c512_i32_256 : BitVec 32 := 512#32
  c512_i32_256
def k0_mult13 : BitVec 32 :=
  let c512_i32_297 : BitVec 32 := 512#32
  c512_i32_297
def k0_off1 (i : grid0.Coords) (c0_i32_452 : BitVec 32) (c0_i32_455 : BitVec 32) : Fin 1 → Nat :=
  let arg0 : BitVec 32 := BitVec.ofNat 32 (i 0).val
  let c16_i32_450 : BitVec 32 := 16#32
  let v581 : BitVec 32 := Scalar.muli arg0 c16_i32_450
  let c1_i32_449 : BitVec 32 := 1#32
  let c7_i32 : BitVec 32 := 7#32
  let v580 : BitVec 32 := Scalar.minsi c1_i32_449 c7_i32
  let c2_i32_451 : BitVec 32 := 2#32
  let v582 : BitVec 32 := Scalar.muli v580 c2_i32_451
  let v583 : BitVec 32 := Scalar.addi v581 v582
  let v584 : BitVec 32 := Scalar.addi v583 c0_i32_452
  let c128_i32_453 : BitVec 32 := 128#32
  let v585 : BitVec 32 := Scalar.muli v584 c128_i32_453
  let arg1 : BitVec 32 := BitVec.ofNat 32 (i 1).val
  let c2_i32_454 : BitVec 32 := 2#32
  let v586 : BitVec 32 := Scalar.muli arg1 c2_i32_454
  let v587 : BitVec 32 := Scalar.addi v585 v586
  let v588 : BitVec 32 := Scalar.addi v587 c0_i32_455
  let v589 : Index := Scalar.indexCast v588
  ![v589.toNat]
def k0_off2 (c0_i32_481 : BitVec 32) : Fin 4 → Nat :=
  let c0_482 : Index := 0#32
  let c1_i32_449 : BitVec 32 := 1#32
  let c7_i32 : BitVec 32 := 7#32
  let v580 : BitVec 32 := Scalar.minsi c1_i32_449 c7_i32
  let c2_i32_480 : BitVec 32 := 2#32
  let v631 : BitVec 32 := Scalar.muli v580 c2_i32_480
  let v632 : BitVec 32 := Scalar.addi v631 c0_i32_481
  let v633 : Index := Scalar.indexCast v632
  let c0_483 : Index := 0#32
  let c0_484 : Index := 0#32
  ![0, v633.toNat, 0, 0]
def k0_mult14 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_514 : BitVec 32 := 512#32
  let v687 : BitVec 32 := Scalar.muli v630 c512_i32_514
  v687

def k0_off3 (v590 : BitVec 32) (v601 : BitVec 32) (v612 : BitVec 32) (v623 : BitVec 32) : Fin 3 → Nat :=
  let c0_515 : Index := 0#32
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_514 : BitVec 32 := 512#32
  let v687 : BitVec 32 := Scalar.muli v630 c512_i32_514
  let v688 : BitVec 32 := v687
  let v689 : Index := Scalar.indexCast v688
  let c0_516 : Index := 0#32
  ![0, v689.toNat, 0]
def k0_mult15 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_542 : BitVec 32 := 512#32
  let v719 : BitVec 32 := Scalar.muli v630 c512_i32_542
  v719
def k0_mult16 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_582 : BitVec 32 := 512#32
  let v765 : BitVec 32 := Scalar.muli v630 c512_i32_582
  v765
def k0_mult17 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_622 : BitVec 32 := 512#32
  let v810 : BitVec 32 := Scalar.muli v630 c512_i32_622
  v810
def k0_mult18 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_662 : BitVec 32 := 512#32
  let v856 : BitVec 32 := Scalar.muli v630 c512_i32_662
  v856
def k0_mult19 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_689 : BitVec 32 := 512#32
  let v885 : BitVec 32 := Scalar.muli v630 c512_i32_689
  v885
def k0_mult20 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_704 : BitVec 32 := 512#32
  let v901 : BitVec 32 := Scalar.muli v630 c512_i32_704
  v901
def k0_mult21 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_719 : BitVec 32 := 512#32
  let v917 : BitVec 32 := Scalar.muli v630 c512_i32_719
  v917

def k0_chk1 (v590 : BitVec 32) (v601 : BitVec 32) (v612 : BitVec 32) (v623 : BitVec 32) : Prop :=
  (512 ∣ (k0_mult14 v590 v601 v612 v623).toNat) ∧
  (∀ a, (k0_off3 v590 v601 v612 v623) a + S1x512x256.size a ≤ S1x8192x256.size a) ∧
  (512 ∣ (k0_mult15 v590 v601 v612 v623).toNat) ∧
  (512 ∣ (k0_mult16 v590 v601 v612 v623).toNat) ∧
  (512 ∣ (k0_mult17 v590 v601 v612 v623).toNat) ∧
  (512 ∣ (k0_mult18 v590 v601 v612 v623).toNat) ∧
  (512 ∣ (k0_mult19 v590 v601 v612 v623).toNat) ∧
  (512 ∣ (k0_mult20 v590 v601 v612 v623).toNat) ∧
  (512 ∣ (k0_mult21 v590 v601 v612 v623).toNat)
theorem k0_mult14_dvd : ∀ (v590 : BitVec 32) (v601 : BitVec 32) (v612 : BitVec 32) (v623 : BitVec 32) (k0_hw1 : k0_chk1 v590 v601 v612 v623), 512 ∣ (k0_mult14 v590 v601 v612 v623).toNat := fun v590 v601 v612 v623 k0_hw1 => k0_hw1.1
theorem k0_off3_inb : ∀ (v590 : BitVec 32) (v601 : BitVec 32) (v612 : BitVec 32) (v623 : BitVec 32) (k0_hw1 : k0_chk1 v590 v601 v612 v623), ∀ a, (k0_off3 v590 v601 v612 v623) a + S1x512x256.size a ≤ S1x8192x256.size a := fun v590 v601 v612 v623 k0_hw1 => k0_hw1.2.1
theorem k0_mult15_dvd : ∀ (v590 : BitVec 32) (v601 : BitVec 32) (v612 : BitVec 32) (v623 : BitVec 32) (k0_hw1 : k0_chk1 v590 v601 v612 v623), 512 ∣ (k0_mult15 v590 v601 v612 v623).toNat := fun v590 v601 v612 v623 k0_hw1 => k0_hw1.2.2.1
theorem k0_mult16_dvd : ∀ (v590 : BitVec 32) (v601 : BitVec 32) (v612 : BitVec 32) (v623 : BitVec 32) (k0_hw1 : k0_chk1 v590 v601 v612 v623), 512 ∣ (k0_mult16 v590 v601 v612 v623).toNat := fun v590 v601 v612 v623 k0_hw1 => k0_hw1.2.2.2.1
theorem k0_mult17_dvd : ∀ (v590 : BitVec 32) (v601 : BitVec 32) (v612 : BitVec 32) (v623 : BitVec 32) (k0_hw1 : k0_chk1 v590 v601 v612 v623), 512 ∣ (k0_mult17 v590 v601 v612 v623).toNat := fun v590 v601 v612 v623 k0_hw1 => k0_hw1.2.2.2.2.1
theorem k0_mult18_dvd : ∀ (v590 : BitVec 32) (v601 : BitVec 32) (v612 : BitVec 32) (v623 : BitVec 32) (k0_hw1 : k0_chk1 v590 v601 v612 v623), 512 ∣ (k0_mult18 v590 v601 v612 v623).toNat := fun v590 v601 v612 v623 k0_hw1 => k0_hw1.2.2.2.2.2.1
theorem k0_mult19_dvd : ∀ (v590 : BitVec 32) (v601 : BitVec 32) (v612 : BitVec 32) (v623 : BitVec 32) (k0_hw1 : k0_chk1 v590 v601 v612 v623), 512 ∣ (k0_mult19 v590 v601 v612 v623).toNat := fun v590 v601 v612 v623 k0_hw1 => k0_hw1.2.2.2.2.2.2.1
theorem k0_mult20_dvd : ∀ (v590 : BitVec 32) (v601 : BitVec 32) (v612 : BitVec 32) (v623 : BitVec 32) (k0_hw1 : k0_chk1 v590 v601 v612 v623), 512 ∣ (k0_mult20 v590 v601 v612 v623).toNat := fun v590 v601 v612 v623 k0_hw1 => k0_hw1.2.2.2.2.2.2.2.1
theorem k0_mult21_dvd : ∀ (v590 : BitVec 32) (v601 : BitVec 32) (v612 : BitVec 32) (v623 : BitVec 32) (k0_hw1 : k0_chk1 v590 v601 v612 v623), 512 ∣ (k0_mult21 v590 v601 v612 v623).toNat := fun v590 v601 v612 v623 k0_hw1 => k0_hw1.2.2.2.2.2.2.2.2

@[reducible] def k0_t1_loop : Scf.Loop 32 :=
  let c1_i32_751 : BitVec 32 := 1#32
  let c7_i32_752 : BitVec 32 := 7#32
  let v959 : BitVec 32 := Scalar.addi c1_i32_751 c7_i32_752
  let c1_i32_753 : BitVec 32 := 1#32
  ⟨c1_i32_751, v959, c1_i32_753⟩
def k0_off4 (i : grid0.Coords) (k0_t1 : Fin k0_t1_loop.trips) (c0_i32_758 : BitVec 32) (c0_i32_761 : BitVec 32) : Fin 1 → Nat :=
  let arg0 : BitVec 32 := BitVec.ofNat 32 (i 0).val
  let c16_i32_756 : BitVec 32 := 16#32
  let v961 : BitVec 32 := Scalar.muli arg0 c16_i32_756
  let c1_i32_751 : BitVec 32 := 1#32
  let c1_i32_753 : BitVec 32 := 1#32
  let arg19 : BitVec 32 := Scf.iv c1_i32_751 c1_i32_753 k0_t1
  let c2_i32_757 : BitVec 32 := 2#32
  let v962 : BitVec 32 := Scalar.muli arg19 c2_i32_757
  let v963 : BitVec 32 := Scalar.addi v961 v962
  let v964 : BitVec 32 := Scalar.addi v963 c0_i32_758
  let c128_i32_759 : BitVec 32 := 128#32
  let v965 : BitVec 32 := Scalar.muli v964 c128_i32_759
  let arg1 : BitVec 32 := BitVec.ofNat 32 (i 1).val
  let c2_i32_760 : BitVec 32 := 2#32
  let v966 : BitVec 32 := Scalar.muli arg1 c2_i32_760
  let v967 : BitVec 32 := Scalar.addi v965 v966
  let v968 : BitVec 32 := Scalar.addi v967 c0_i32_761
  let v969 : Index := Scalar.indexCast v968
  ![v969.toNat]
@[reducible] def k0_t2_loop (k0_t1 : Fin k0_t1_loop.trips) (v970 : BitVec 32) (v981 : BitVec 32) (v992 : BitVec 32) (v1003 : BitVec 32) : Scf.Loop 32 :=
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_791 : BitVec 32 := 1#32
  ⟨v1011, v1018, c1_i32_791⟩

def k0_mult22 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_1994 : BitVec 32 := 512#32
  let v2515 : BitVec 32 := Scalar.muli v2514 c512_i32_1994
  v2515
def k0_off5 (k0_t1 : Fin k0_t1_loop.trips) (v970 : BitVec 32) (v981 : BitVec 32) (v992 : BitVec 32) (v1003 : BitVec 32) (k0_t2 : Fin (k0_t2_loop k0_t1 v970 v981 v992 v1003).trips) : Fin 3 → Nat :=
  let c0_1995 : Index := 0#32
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_1994 : BitVec 32 := 512#32
  let v2515 : BitVec 32 := Scalar.muli v2514 c512_i32_1994
  let v2516 : BitVec 32 := v2515
  let v2517 : Index := Scalar.indexCast v2516
  let c0_1996 : Index := 0#32
  ![0, v2517.toNat, 0]
def k0_mult23 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2022 : BitVec 32 := 512#32
  let v2547 : BitVec 32 := Scalar.muli v2514 c512_i32_2022
  v2547
def k0_off6 (k0_t1 : Fin k0_t1_loop.trips) (v970 : BitVec 32) (v981 : BitVec 32) (v992 : BitVec 32) (v1003 : BitVec 32) (k0_t2 : Fin (k0_t2_loop k0_t1 v970 v981 v992 v1003).trips) : Fin 4 → Nat :=
  let c0_2037 : Index := 0#32
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let v2563 : Index := Scalar.indexCast v2513
  let c0_2038 : Index := 0#32
  let c0_2039 : Index := 0#32
  ![0, v2563.toNat, 0, 0]
def k0_mult24 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2061 : BitVec 32 := 512#32
  let v2593 : BitVec 32 := Scalar.muli v2514 c512_i32_2061
  v2593
def k0_mult25 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2100 : BitVec 32 := 512#32
  let v2639 : BitVec 32 := Scalar.muli v2514 c512_i32_2100
  v2639
def k0_mult26 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2139 : BitVec 32 := 512#32
  let v2685 : BitVec 32 := Scalar.muli v2514 c512_i32_2139
  v2685
def k0_mult27 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2178 : BitVec 32 := 512#32
  let v2731 : BitVec 32 := Scalar.muli v2514 c512_i32_2178
  v2731
def k0_off7 (k0_t1 : Fin k0_t1_loop.trips) (v970 : BitVec 32) (v981 : BitVec 32) (v992 : BitVec 32) (v1003 : BitVec 32) (k0_t2 : Fin (k0_t2_loop k0_t1 v970 v981 v992 v1003).trips) : Fin 4 → Nat :=
  let c0_2193 : Index := 0#32
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let v2747 : Index := Scalar.indexCast v2513
  let c64_2194 : Index := 64#32
  let c0_2195 : Index := 0#32
  ![0, v2747.toNat, 64, 0]
def k0_mult28 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2217 : BitVec 32 := 512#32
  let v2777 : BitVec 32 := Scalar.muli v2514 c512_i32_2217
  v2777
def k0_mult29 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2256 : BitVec 32 := 512#32
  let v2823 : BitVec 32 := Scalar.muli v2514 c512_i32_2256
  v2823
def k0_mult30 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2309 : BitVec 32 := 512#32
  let v2886 : BitVec 32 := Scalar.muli v2885 c512_i32_2309
  v2886
def k0_off8 (k0_t1 : Fin k0_t1_loop.trips) (v970 : BitVec 32) (v981 : BitVec 32) (v992 : BitVec 32) (v1003 : BitVec 32) (k0_t2 : Fin (k0_t2_loop k0_t1 v970 v981 v992 v1003).trips) : Fin 3 → Nat :=
  let c0_2310 : Index := 0#32
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2309 : BitVec 32 := 512#32
  let v2886 : BitVec 32 := Scalar.muli v2885 c512_i32_2309
  let v2887 : BitVec 32 := v2886
  let v2888 : Index := Scalar.indexCast v2887
  let c0_2311 : Index := 0#32
  ![0, v2888.toNat, 0]
def k0_mult31 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2337 : BitVec 32 := 512#32
  let v2918 : BitVec 32 := Scalar.muli v2885 c512_i32_2337
  v2918
def k0_off9 (k0_t1 : Fin k0_t1_loop.trips) (v970 : BitVec 32) (v981 : BitVec 32) (v992 : BitVec 32) (v1003 : BitVec 32) (k0_t2 : Fin (k0_t2_loop k0_t1 v970 v981 v992 v1003).trips) : Fin 4 → Nat :=
  let c0_2352 : Index := 0#32
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let v2934 : Index := Scalar.indexCast v2884
  let c0_2353 : Index := 0#32
  let c0_2354 : Index := 0#32
  ![0, v2934.toNat, 0, 0]
def k0_mult32 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2376 : BitVec 32 := 512#32
  let v2964 : BitVec 32 := Scalar.muli v2885 c512_i32_2376
  v2964
def k0_mult33 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2415 : BitVec 32 := 512#32
  let v3010 : BitVec 32 := Scalar.muli v2885 c512_i32_2415
  v3010
def k0_mult34 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2454 : BitVec 32 := 512#32
  let v3056 : BitVec 32 := Scalar.muli v2885 c512_i32_2454
  v3056
def k0_mult35 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2493 : BitVec 32 := 512#32
  let v3102 : BitVec 32 := Scalar.muli v2885 c512_i32_2493
  v3102
def k0_off10 (k0_t1 : Fin k0_t1_loop.trips) (v970 : BitVec 32) (v981 : BitVec 32) (v992 : BitVec 32) (v1003 : BitVec 32) (k0_t2 : Fin (k0_t2_loop k0_t1 v970 v981 v992 v1003).trips) : Fin 4 → Nat :=
  let c0_2508 : Index := 0#32
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let v3118 : Index := Scalar.indexCast v2884
  let c64_2509 : Index := 64#32
  let c0_2510 : Index := 0#32
  ![0, v3118.toNat, 64, 0]
def k0_mult36 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2532 : BitVec 32 := 512#32
  let v3148 : BitVec 32 := Scalar.muli v2885 c512_i32_2532
  v3148
def k0_mult37 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2571 : BitVec 32 := 512#32
  let v3194 : BitVec 32 := Scalar.muli v2885 c512_i32_2571
  v3194
@[reducible] def k0_t3_loop (k0_t1 : Fin k0_t1_loop.trips) (v970 : BitVec 32) (v981 : BitVec 32) (v992 : BitVec 32) (v1003 : BitVec 32) : Scf.Loop 32 :=
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let v1015 : BitVec 32 := Scalar.addi v1011 v1014
  let c1_i32_792 : BitVec 32 := 1#32
  ⟨v1018, v1015, c1_i32_792⟩
def k0_mult38 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_1994 : BitVec 32 := 512#32
  let v2515 : BitVec 32 := Scalar.muli v2514 c512_i32_1994
  v2515
def k0_off11 (k0_t1 : Fin k0_t1_loop.trips) (v970 : BitVec 32) (v981 : BitVec 32) (v992 : BitVec 32) (v1003 : BitVec 32) (k0_t3 : Fin (k0_t3_loop k0_t1 v970 v981 v992 v1003).trips) : Fin 3 → Nat :=
  let c0_1995 : Index := 0#32
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_1994 : BitVec 32 := 512#32
  let v2515 : BitVec 32 := Scalar.muli v2514 c512_i32_1994
  let v2516 : BitVec 32 := v2515
  let v2517 : Index := Scalar.indexCast v2516
  let c0_1996 : Index := 0#32
  ![0, v2517.toNat, 0]
def k0_mult39 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2022 : BitVec 32 := 512#32
  let v2547 : BitVec 32 := Scalar.muli v2514 c512_i32_2022
  v2547
def k0_off12 (k0_t1 : Fin k0_t1_loop.trips) (v970 : BitVec 32) (v981 : BitVec 32) (v992 : BitVec 32) (v1003 : BitVec 32) (k0_t3 : Fin (k0_t3_loop k0_t1 v970 v981 v992 v1003).trips) : Fin 4 → Nat :=
  let c0_2037 : Index := 0#32
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let v2563 : Index := Scalar.indexCast v2513
  let c0_2038 : Index := 0#32
  let c0_2039 : Index := 0#32
  ![0, v2563.toNat, 0, 0]
def k0_mult40 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2061 : BitVec 32 := 512#32
  let v2593 : BitVec 32 := Scalar.muli v2514 c512_i32_2061
  v2593
def k0_mult41 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2100 : BitVec 32 := 512#32
  let v2639 : BitVec 32 := Scalar.muli v2514 c512_i32_2100
  v2639
def k0_mult42 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2139 : BitVec 32 := 512#32
  let v2685 : BitVec 32 := Scalar.muli v2514 c512_i32_2139
  v2685
def k0_mult43 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2178 : BitVec 32 := 512#32
  let v2731 : BitVec 32 := Scalar.muli v2514 c512_i32_2178
  v2731
def k0_off13 (k0_t1 : Fin k0_t1_loop.trips) (v970 : BitVec 32) (v981 : BitVec 32) (v992 : BitVec 32) (v1003 : BitVec 32) (k0_t3 : Fin (k0_t3_loop k0_t1 v970 v981 v992 v1003).trips) : Fin 4 → Nat :=
  let c0_2193 : Index := 0#32
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let v2747 : Index := Scalar.indexCast v2513
  let c64_2194 : Index := 64#32
  let c0_2195 : Index := 0#32
  ![0, v2747.toNat, 64, 0]
def k0_mult44 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2217 : BitVec 32 := 512#32
  let v2777 : BitVec 32 := Scalar.muli v2514 c512_i32_2217
  v2777
def k0_mult45 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2256 : BitVec 32 := 512#32
  let v2823 : BitVec 32 := Scalar.muli v2514 c512_i32_2256
  v2823
def k0_mult46 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2309 : BitVec 32 := 512#32
  let v2886 : BitVec 32 := Scalar.muli v2885 c512_i32_2309
  v2886
def k0_off14 (k0_t1 : Fin k0_t1_loop.trips) (v970 : BitVec 32) (v981 : BitVec 32) (v992 : BitVec 32) (v1003 : BitVec 32) (k0_t3 : Fin (k0_t3_loop k0_t1 v970 v981 v992 v1003).trips) : Fin 3 → Nat :=
  let c0_2310 : Index := 0#32
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2309 : BitVec 32 := 512#32
  let v2886 : BitVec 32 := Scalar.muli v2885 c512_i32_2309
  let v2887 : BitVec 32 := v2886
  let v2888 : Index := Scalar.indexCast v2887
  let c0_2311 : Index := 0#32
  ![0, v2888.toNat, 0]
def k0_mult47 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2337 : BitVec 32 := 512#32
  let v2918 : BitVec 32 := Scalar.muli v2885 c512_i32_2337
  v2918
def k0_off15 (k0_t1 : Fin k0_t1_loop.trips) (v970 : BitVec 32) (v981 : BitVec 32) (v992 : BitVec 32) (v1003 : BitVec 32) (k0_t3 : Fin (k0_t3_loop k0_t1 v970 v981 v992 v1003).trips) : Fin 4 → Nat :=
  let c0_2352 : Index := 0#32
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let v2934 : Index := Scalar.indexCast v2884
  let c0_2353 : Index := 0#32
  let c0_2354 : Index := 0#32
  ![0, v2934.toNat, 0, 0]
def k0_mult48 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2376 : BitVec 32 := 512#32
  let v2964 : BitVec 32 := Scalar.muli v2885 c512_i32_2376
  v2964
def k0_mult49 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2415 : BitVec 32 := 512#32
  let v3010 : BitVec 32 := Scalar.muli v2885 c512_i32_2415
  v3010
def k0_mult50 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2454 : BitVec 32 := 512#32
  let v3056 : BitVec 32 := Scalar.muli v2885 c512_i32_2454
  v3056
def k0_mult51 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2493 : BitVec 32 := 512#32
  let v3102 : BitVec 32 := Scalar.muli v2885 c512_i32_2493
  v3102
def k0_off16 (k0_t1 : Fin k0_t1_loop.trips) (v970 : BitVec 32) (v981 : BitVec 32) (v992 : BitVec 32) (v1003 : BitVec 32) (k0_t3 : Fin (k0_t3_loop k0_t1 v970 v981 v992 v1003).trips) : Fin 4 → Nat :=
  let c0_2508 : Index := 0#32
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let v3118 : Index := Scalar.indexCast v2884
  let c64_2509 : Index := 64#32
  let c0_2510 : Index := 0#32
  ![0, v3118.toNat, 64, 0]
def k0_mult52 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2532 : BitVec 32 := 512#32
  let v3148 : BitVec 32 := Scalar.muli v2885 c512_i32_2532
  v3148
def k0_mult53 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2571 : BitVec 32 := 512#32
  let v3194 : BitVec 32 := Scalar.muli v2885 c512_i32_2571
  v3194

def k0_chk2_0 (k0_t1 : Fin k0_t1_loop.trips) (v970 : BitVec 32) (v981 : BitVec 32) (v992 : BitVec 32) (v1003 : BitVec 32) : Prop :=
  ((k0_t2_loop k0_t1 v970 v981 v992 v1003).OK) ∧
  (∀ k0_t2 : Fin (k0_t2_loop k0_t1 v970 v981 v992 v1003).trips, 512 ∣ (k0_mult22 k0_t1 v970 v981 v992 v1003 k0_t2).toNat) ∧
  (∀ k0_t2 : Fin (k0_t2_loop k0_t1 v970 v981 v992 v1003).trips, ∀ a, (k0_off5 k0_t1 v970 v981 v992 v1003 k0_t2) a + S1x512x256.size a ≤ S1x8192x256.size a) ∧
  (∀ k0_t2 : Fin (k0_t2_loop k0_t1 v970 v981 v992 v1003).trips, 512 ∣ (k0_mult23 k0_t1 v970 v981 v992 v1003 k0_t2).toNat) ∧
  (∀ k0_t2 : Fin (k0_t2_loop k0_t1 v970 v981 v992 v1003).trips, ∀ a, (k0_off6 k0_t1 v970 v981 v992 v1003 k0_t2) a + S1x1x64x512.size a ≤ S1x16x128x512.size a) ∧
  (∀ k0_t2 : Fin (k0_t2_loop k0_t1 v970 v981 v992 v1003).trips, 512 ∣ (k0_mult24 k0_t1 v970 v981 v992 v1003 k0_t2).toNat) ∧
  (∀ k0_t2 : Fin (k0_t2_loop k0_t1 v970 v981 v992 v1003).trips, 512 ∣ (k0_mult25 k0_t1 v970 v981 v992 v1003 k0_t2).toNat) ∧
  (∀ k0_t2 : Fin (k0_t2_loop k0_t1 v970 v981 v992 v1003).trips, 512 ∣ (k0_mult26 k0_t1 v970 v981 v992 v1003 k0_t2).toNat) ∧
  (∀ k0_t2 : Fin (k0_t2_loop k0_t1 v970 v981 v992 v1003).trips, 512 ∣ (k0_mult27 k0_t1 v970 v981 v992 v1003 k0_t2).toNat) ∧
  (∀ k0_t2 : Fin (k0_t2_loop k0_t1 v970 v981 v992 v1003).trips, ∀ a, (k0_off7 k0_t1 v970 v981 v992 v1003 k0_t2) a + S1x1x64x512.size a ≤ S1x16x128x512.size a) ∧
  (∀ k0_t2 : Fin (k0_t2_loop k0_t1 v970 v981 v992 v1003).trips, 512 ∣ (k0_mult28 k0_t1 v970 v981 v992 v1003 k0_t2).toNat) ∧
  (∀ k0_t2 : Fin (k0_t2_loop k0_t1 v970 v981 v992 v1003).trips, 512 ∣ (k0_mult29 k0_t1 v970 v981 v992 v1003 k0_t2).toNat) ∧
  (∀ k0_t2 : Fin (k0_t2_loop k0_t1 v970 v981 v992 v1003).trips, 512 ∣ (k0_mult30 k0_t1 v970 v981 v992 v1003 k0_t2).toNat) ∧
  (∀ k0_t2 : Fin (k0_t2_loop k0_t1 v970 v981 v992 v1003).trips, ∀ a, (k0_off8 k0_t1 v970 v981 v992 v1003 k0_t2) a + S1x512x256.size a ≤ S1x8192x256.size a) ∧
  (∀ k0_t2 : Fin (k0_t2_loop k0_t1 v970 v981 v992 v1003).trips, 512 ∣ (k0_mult31 k0_t1 v970 v981 v992 v1003 k0_t2).toNat) ∧
  (∀ k0_t2 : Fin (k0_t2_loop k0_t1 v970 v981 v992 v1003).trips, ∀ a, (k0_off9 k0_t1 v970 v981 v992 v1003 k0_t2) a + S1x1x64x512.size a ≤ S1x16x128x512.size a) ∧
  (∀ k0_t2 : Fin (k0_t2_loop k0_t1 v970 v981 v992 v1003).trips, 512 ∣ (k0_mult32 k0_t1 v970 v981 v992 v1003 k0_t2).toNat) ∧
  (∀ k0_t2 : Fin (k0_t2_loop k0_t1 v970 v981 v992 v1003).trips, 512 ∣ (k0_mult33 k0_t1 v970 v981 v992 v1003 k0_t2).toNat) ∧
  (∀ k0_t2 : Fin (k0_t2_loop k0_t1 v970 v981 v992 v1003).trips, 512 ∣ (k0_mult34 k0_t1 v970 v981 v992 v1003 k0_t2).toNat) ∧
  (∀ k0_t2 : Fin (k0_t2_loop k0_t1 v970 v981 v992 v1003).trips, 512 ∣ (k0_mult35 k0_t1 v970 v981 v992 v1003 k0_t2).toNat) ∧
  (∀ k0_t2 : Fin (k0_t2_loop k0_t1 v970 v981 v992 v1003).trips, ∀ a, (k0_off10 k0_t1 v970 v981 v992 v1003 k0_t2) a + S1x1x64x512.size a ≤ S1x16x128x512.size a) ∧
  (∀ k0_t2 : Fin (k0_t2_loop k0_t1 v970 v981 v992 v1003).trips, 512 ∣ (k0_mult36 k0_t1 v970 v981 v992 v1003 k0_t2).toNat) ∧
  (∀ k0_t2 : Fin (k0_t2_loop k0_t1 v970 v981 v992 v1003).trips, 512 ∣ (k0_mult37 k0_t1 v970 v981 v992 v1003 k0_t2).toNat) ∧
  ((k0_t3_loop k0_t1 v970 v981 v992 v1003).OK) ∧
  (∀ k0_t3 : Fin (k0_t3_loop k0_t1 v970 v981 v992 v1003).trips, 512 ∣ (k0_mult38 k0_t1 v970 v981 v992 v1003 k0_t3).toNat) ∧
  (∀ k0_t3 : Fin (k0_t3_loop k0_t1 v970 v981 v992 v1003).trips, ∀ a, (k0_off11 k0_t1 v970 v981 v992 v1003 k0_t3) a + S1x512x256.size a ≤ S1x8192x256.size a) ∧
  (∀ k0_t3 : Fin (k0_t3_loop k0_t1 v970 v981 v992 v1003).trips, 512 ∣ (k0_mult39 k0_t1 v970 v981 v992 v1003 k0_t3).toNat) ∧
  (∀ k0_t3 : Fin (k0_t3_loop k0_t1 v970 v981 v992 v1003).trips, ∀ a, (k0_off12 k0_t1 v970 v981 v992 v1003 k0_t3) a + S1x1x64x512.size a ≤ S1x16x128x512.size a) ∧
  (∀ k0_t3 : Fin (k0_t3_loop k0_t1 v970 v981 v992 v1003).trips, 512 ∣ (k0_mult40 k0_t1 v970 v981 v992 v1003 k0_t3).toNat) ∧
  (∀ k0_t3 : Fin (k0_t3_loop k0_t1 v970 v981 v992 v1003).trips, 512 ∣ (k0_mult41 k0_t1 v970 v981 v992 v1003 k0_t3).toNat) ∧
  (∀ k0_t3 : Fin (k0_t3_loop k0_t1 v970 v981 v992 v1003).trips, 512 ∣ (k0_mult42 k0_t1 v970 v981 v992 v1003 k0_t3).toNat) ∧
  (∀ k0_t3 : Fin (k0_t3_loop k0_t1 v970 v981 v992 v1003).trips, 512 ∣ (k0_mult43 k0_t1 v970 v981 v992 v1003 k0_t3).toNat)
def k0_chk2_1 (k0_t1 : Fin k0_t1_loop.trips) (v970 : BitVec 32) (v981 : BitVec 32) (v992 : BitVec 32) (v1003 : BitVec 32) : Prop :=
  (∀ k0_t3 : Fin (k0_t3_loop k0_t1 v970 v981 v992 v1003).trips, ∀ a, (k0_off13 k0_t1 v970 v981 v992 v1003 k0_t3) a + S1x1x64x512.size a ≤ S1x16x128x512.size a) ∧
  (∀ k0_t3 : Fin (k0_t3_loop k0_t1 v970 v981 v992 v1003).trips, 512 ∣ (k0_mult44 k0_t1 v970 v981 v992 v1003 k0_t3).toNat) ∧
  (∀ k0_t3 : Fin (k0_t3_loop k0_t1 v970 v981 v992 v1003).trips, 512 ∣ (k0_mult45 k0_t1 v970 v981 v992 v1003 k0_t3).toNat) ∧
  (∀ k0_t3 : Fin (k0_t3_loop k0_t1 v970 v981 v992 v1003).trips, 512 ∣ (k0_mult46 k0_t1 v970 v981 v992 v1003 k0_t3).toNat) ∧
  (∀ k0_t3 : Fin (k0_t3_loop k0_t1 v970 v981 v992 v1003).trips, ∀ a, (k0_off14 k0_t1 v970 v981 v992 v1003 k0_t3) a + S1x512x256.size a ≤ S1x8192x256.size a) ∧
  (∀ k0_t3 : Fin (k0_t3_loop k0_t1 v970 v981 v992 v1003).trips, 512 ∣ (k0_mult47 k0_t1 v970 v981 v992 v1003 k0_t3).toNat) ∧
  (∀ k0_t3 : Fin (k0_t3_loop k0_t1 v970 v981 v992 v1003).trips, ∀ a, (k0_off15 k0_t1 v970 v981 v992 v1003 k0_t3) a + S1x1x64x512.size a ≤ S1x16x128x512.size a) ∧
  (∀ k0_t3 : Fin (k0_t3_loop k0_t1 v970 v981 v992 v1003).trips, 512 ∣ (k0_mult48 k0_t1 v970 v981 v992 v1003 k0_t3).toNat) ∧
  (∀ k0_t3 : Fin (k0_t3_loop k0_t1 v970 v981 v992 v1003).trips, 512 ∣ (k0_mult49 k0_t1 v970 v981 v992 v1003 k0_t3).toNat) ∧
  (∀ k0_t3 : Fin (k0_t3_loop k0_t1 v970 v981 v992 v1003).trips, 512 ∣ (k0_mult50 k0_t1 v970 v981 v992 v1003 k0_t3).toNat) ∧
  (∀ k0_t3 : Fin (k0_t3_loop k0_t1 v970 v981 v992 v1003).trips, 512 ∣ (k0_mult51 k0_t1 v970 v981 v992 v1003 k0_t3).toNat) ∧
  (∀ k0_t3 : Fin (k0_t3_loop k0_t1 v970 v981 v992 v1003).trips, ∀ a, (k0_off16 k0_t1 v970 v981 v992 v1003 k0_t3) a + S1x1x64x512.size a ≤ S1x16x128x512.size a) ∧
  (∀ k0_t3 : Fin (k0_t3_loop k0_t1 v970 v981 v992 v1003).trips, 512 ∣ (k0_mult52 k0_t1 v970 v981 v992 v1003 k0_t3).toNat) ∧
  (∀ k0_t3 : Fin (k0_t3_loop k0_t1 v970 v981 v992 v1003).trips, 512 ∣ (k0_mult53 k0_t1 v970 v981 v992 v1003 k0_t3).toNat)
def k0_chk2 (k0_t1 : Fin k0_t1_loop.trips) (v970 : BitVec 32) (v981 : BitVec 32) (v992 : BitVec 32) (v1003 : BitVec 32) : Prop :=
  k0_chk2_0 k0_t1 v970 v981 v992 v1003 ∧
  k0_chk2_1 k0_t1 v970 v981 v992 v1003
theorem k0_t2_ok : ∀ (k0_t1 : Fin k0_t1_loop.trips) (v970 : BitVec 32) (v981 : BitVec 32) (v992 : BitVec 32) (v1003 : BitVec 32) (k0_hw2 : k0_chk2 k0_t1 v970 v981 v992 v1003), (k0_t2_loop k0_t1 v970 v981 v992 v1003).OK := fun k0_t1 v970 v981 v992 v1003 k0_hw2 => k0_hw2.1.1
theorem k0_mult22_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult22 k0_t1 v970 v981 v992 v1003 k0_t2).toNat := fun k0_t1 v970 v981 v992 v1003 k0_hw2 k0_t2 => k0_hw2.1.2.1 k0_t2
theorem k0_off5_inb : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), ∀ a, (k0_off5 k0_t1 v970 v981 v992 v1003 k0_t2) a + S1x512x256.size a ≤ S1x8192x256.size a := fun k0_t1 v970 v981 v992 v1003 k0_hw2 k0_t2 => k0_hw2.1.2.2.1 k0_t2
theorem k0_mult23_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult23 k0_t1 v970 v981 v992 v1003 k0_t2).toNat := fun k0_t1 v970 v981 v992 v1003 k0_hw2 k0_t2 => k0_hw2.1.2.2.2.1 k0_t2
theorem k0_off6_inb : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), ∀ a, (k0_off6 k0_t1 v970 v981 v992 v1003 k0_t2) a + S1x1x64x512.size a ≤ S1x16x128x512.size a := fun k0_t1 v970 v981 v992 v1003 k0_hw2 k0_t2 => k0_hw2.1.2.2.2.2.1 k0_t2
theorem k0_mult24_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult24 k0_t1 v970 v981 v992 v1003 k0_t2).toNat := fun k0_t1 v970 v981 v992 v1003 k0_hw2 k0_t2 => k0_hw2.1.2.2.2.2.2.1 k0_t2
theorem k0_mult25_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult25 k0_t1 v970 v981 v992 v1003 k0_t2).toNat := fun k0_t1 v970 v981 v992 v1003 k0_hw2 k0_t2 => k0_hw2.1.2.2.2.2.2.2.1 k0_t2
theorem k0_mult26_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult26 k0_t1 v970 v981 v992 v1003 k0_t2).toNat := fun k0_t1 v970 v981 v992 v1003 k0_hw2 k0_t2 => k0_hw2.1.2.2.2.2.2.2.2.1 k0_t2
theorem k0_mult27_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult27 k0_t1 v970 v981 v992 v1003 k0_t2).toNat := fun k0_t1 v970 v981 v992 v1003 k0_hw2 k0_t2 => k0_hw2.1.2.2.2.2.2.2.2.2.1 k0_t2
theorem k0_off7_inb : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), ∀ a, (k0_off7 k0_t1 v970 v981 v992 v1003 k0_t2) a + S1x1x64x512.size a ≤ S1x16x128x512.size a := fun k0_t1 v970 v981 v992 v1003 k0_hw2 k0_t2 => k0_hw2.1.2.2.2.2.2.2.2.2.2.1 k0_t2
theorem k0_mult28_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult28 k0_t1 v970 v981 v992 v1003 k0_t2).toNat := fun k0_t1 v970 v981 v992 v1003 k0_hw2 k0_t2 => k0_hw2.1.2.2.2.2.2.2.2.2.2.2.1 k0_t2
theorem k0_mult29_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult29 k0_t1 v970 v981 v992 v1003 k0_t2).toNat := fun k0_t1 v970 v981 v992 v1003 k0_hw2 k0_t2 => k0_hw2.1.2.2.2.2.2.2.2.2.2.2.2.1 k0_t2
theorem k0_mult30_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult30 k0_t1 v970 v981 v992 v1003 k0_t2).toNat := fun k0_t1 v970 v981 v992 v1003 k0_hw2 k0_t2 => k0_hw2.1.2.2.2.2.2.2.2.2.2.2.2.2.1 k0_t2
theorem k0_off8_inb : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), ∀ a, (k0_off8 k0_t1 v970 v981 v992 v1003 k0_t2) a + S1x512x256.size a ≤ S1x8192x256.size a := fun k0_t1 v970 v981 v992 v1003 k0_hw2 k0_t2 => k0_hw2.1.2.2.2.2.2.2.2.2.2.2.2.2.2.1 k0_t2
theorem k0_mult31_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult31 k0_t1 v970 v981 v992 v1003 k0_t2).toNat := fun k0_t1 v970 v981 v992 v1003 k0_hw2 k0_t2 => k0_hw2.1.2.2.2.2.2.2.2.2.2.2.2.2.2.2.1 k0_t2
theorem k0_off9_inb : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), ∀ a, (k0_off9 k0_t1 v970 v981 v992 v1003 k0_t2) a + S1x1x64x512.size a ≤ S1x16x128x512.size a := fun k0_t1 v970 v981 v992 v1003 k0_hw2 k0_t2 => k0_hw2.1.2.2.2.2.2.2.2.2.2.2.2.2.2.2.2.1 k0_t2
theorem k0_mult32_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult32 k0_t1 v970 v981 v992 v1003 k0_t2).toNat := fun k0_t1 v970 v981 v992 v1003 k0_hw2 k0_t2 => k0_hw2.1.2.2.2.2.2.2.2.2.2.2.2.2.2.2.2.2.1 k0_t2
theorem k0_mult33_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult33 k0_t1 v970 v981 v992 v1003 k0_t2).toNat := fun k0_t1 v970 v981 v992 v1003 k0_hw2 k0_t2 => k0_hw2.1.2.2.2.2.2.2.2.2.2.2.2.2.2.2.2.2.2.1 k0_t2
theorem k0_mult34_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult34 k0_t1 v970 v981 v992 v1003 k0_t2).toNat := fun k0_t1 v970 v981 v992 v1003 k0_hw2 k0_t2 => k0_hw2.1.2.2.2.2.2.2.2.2.2.2.2.2.2.2.2.2.2.2.1 k0_t2
theorem k0_mult35_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult35 k0_t1 v970 v981 v992 v1003 k0_t2).toNat := fun k0_t1 v970 v981 v992 v1003 k0_hw2 k0_t2 => k0_hw2.1.2.2.2.2.2.2.2.2.2.2.2.2.2.2.2.2.2.2.2.1 k0_t2
theorem k0_off10_inb : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), ∀ a, (k0_off10 k0_t1 v970 v981 v992 v1003 k0_t2) a + S1x1x64x512.size a ≤ S1x16x128x512.size a := fun k0_t1 v970 v981 v992 v1003 k0_hw2 k0_t2 => k0_hw2.1.2.2.2.2.2.2.2.2.2.2.2.2.2.2.2.2.2.2.2.2.1 k0_t2
theorem k0_mult36_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult36 k0_t1 v970 v981 v992 v1003 k0_t2).toNat := fun k0_t1 v970 v981 v992 v1003 k0_hw2 k0_t2 => k0_hw2.1.2.2.2.2.2.2.2.2.2.2.2.2.2.2.2.2.2.2.2.2.2.1 k0_t2
theorem k0_mult37_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult37 k0_t1 v970 v981 v992 v1003 k0_t2).toNat := fun k0_t1 v970 v981 v992 v1003 k0_hw2 k0_t2 => k0_hw2.1.2.2.2.2.2.2.2.2.2.2.2.2.2.2.2.2.2.2.2.2.2.2.1 k0_t2
theorem k0_t3_ok : ∀ (k0_t1 : Fin k0_t1_loop.trips) (v970 : BitVec 32) (v981 : BitVec 32) (v992 : BitVec 32) (v1003 : BitVec 32) (k0_hw2 : k0_chk2 k0_t1 v970 v981 v992 v1003), (k0_t3_loop k0_t1 v970 v981 v992 v1003).OK := fun k0_t1 v970 v981 v992 v1003 k0_hw2 => k0_hw2.1.2.2.2.2.2.2.2.2.2.2.2.2.2.2.2.2.2.2.2.2.2.2.2.1
theorem k0_mult38_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult38 k0_t1 v970 v981 v992 v1003 k0_t3).toNat := fun k0_t1 v970 v981 v992 v1003 k0_hw2 k0_t3 => k0_hw2.1.2.2.2.2.2.2.2.2.2.2.2.2.2.2.2.2.2.2.2.2.2.2.2.2.1 k0_t3
theorem k0_off11_inb : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), ∀ a, (k0_off11 k0_t1 v970 v981 v992 v1003 k0_t3) a + S1x512x256.size a ≤ S1x8192x256.size a := fun k0_t1 v970 v981 v992 v1003 k0_hw2 k0_t3 => k0_hw2.1.2.2.2.2.2.2.2.2.2.2.2.2.2.2.2.2.2.2.2.2.2.2.2.2.2.1 k0_t3
theorem k0_mult39_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult39 k0_t1 v970 v981 v992 v1003 k0_t3).toNat := fun k0_t1 v970 v981 v992 v1003 k0_hw2 k0_t3 => k0_hw2.1.2.2.2.2.2.2.2.2.2.2.2.2.2.2.2.2.2.2.2.2.2.2.2.2.2.2.1 k0_t3
theorem k0_off12_inb : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), ∀ a, (k0_off12 k0_t1 v970 v981 v992 v1003 k0_t3) a + S1x1x64x512.size a ≤ S1x16x128x512.size a := fun k0_t1 v970 v981 v992 v1003 k0_hw2 k0_t3 => k0_hw2.1.2.2.2.2.2.2.2.2.2.2.2.2.2.2.2.2.2.2.2.2.2.2.2.2.2.2.2.1 k0_t3
theorem k0_mult40_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult40 k0_t1 v970 v981 v992 v1003 k0_t3).toNat := fun k0_t1 v970 v981 v992 v1003 k0_hw2 k0_t3 => k0_hw2.1.2.2.2.2.2.2.2.2.2.2.2.2.2.2.2.2.2.2.2.2.2.2.2.2.2.2.2.2.1 k0_t3
theorem k0_mult41_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult41 k0_t1 v970 v981 v992 v1003 k0_t3).toNat := fun k0_t1 v970 v981 v992 v1003 k0_hw2 k0_t3 => k0_hw2.1.2.2.2.2.2.2.2.2.2.2.2.2.2.2.2.2.2.2.2.2.2.2.2.2.2.2.2.2.2.1 k0_t3
theorem k0_mult42_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult42 k0_t1 v970 v981 v992 v1003 k0_t3).toNat := fun k0_t1 v970 v981 v992 v1003 k0_hw2 k0_t3 => k0_hw2.1.2.2.2.2.2.2.2.2.2.2.2.2.2.2.2.2.2.2.2.2.2.2.2.2.2.2.2.2.2.2.1 k0_t3
theorem k0_mult43_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult43 k0_t1 v970 v981 v992 v1003 k0_t3).toNat := fun k0_t1 v970 v981 v992 v1003 k0_hw2 k0_t3 => k0_hw2.1.2.2.2.2.2.2.2.2.2.2.2.2.2.2.2.2.2.2.2.2.2.2.2.2.2.2.2.2.2.2.2 k0_t3
theorem k0_off13_inb : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), ∀ a, (k0_off13 k0_t1 v970 v981 v992 v1003 k0_t3) a + S1x1x64x512.size a ≤ S1x16x128x512.size a := fun k0_t1 v970 v981 v992 v1003 k0_hw2 k0_t3 => k0_hw2.2.1 k0_t3
theorem k0_mult44_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult44 k0_t1 v970 v981 v992 v1003 k0_t3).toNat := fun k0_t1 v970 v981 v992 v1003 k0_hw2 k0_t3 => k0_hw2.2.2.1 k0_t3
theorem k0_mult45_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult45 k0_t1 v970 v981 v992 v1003 k0_t3).toNat := fun k0_t1 v970 v981 v992 v1003 k0_hw2 k0_t3 => k0_hw2.2.2.2.1 k0_t3
theorem k0_mult46_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult46 k0_t1 v970 v981 v992 v1003 k0_t3).toNat := fun k0_t1 v970 v981 v992 v1003 k0_hw2 k0_t3 => k0_hw2.2.2.2.2.1 k0_t3
theorem k0_off14_inb : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), ∀ a, (k0_off14 k0_t1 v970 v981 v992 v1003 k0_t3) a + S1x512x256.size a ≤ S1x8192x256.size a := fun k0_t1 v970 v981 v992 v1003 k0_hw2 k0_t3 => k0_hw2.2.2.2.2.2.1 k0_t3
theorem k0_mult47_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult47 k0_t1 v970 v981 v992 v1003 k0_t3).toNat := fun k0_t1 v970 v981 v992 v1003 k0_hw2 k0_t3 => k0_hw2.2.2.2.2.2.2.1 k0_t3
theorem k0_off15_inb : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), ∀ a, (k0_off15 k0_t1 v970 v981 v992 v1003 k0_t3) a + S1x1x64x512.size a ≤ S1x16x128x512.size a := fun k0_t1 v970 v981 v992 v1003 k0_hw2 k0_t3 => k0_hw2.2.2.2.2.2.2.2.1 k0_t3
theorem k0_mult48_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult48 k0_t1 v970 v981 v992 v1003 k0_t3).toNat := fun k0_t1 v970 v981 v992 v1003 k0_hw2 k0_t3 => k0_hw2.2.2.2.2.2.2.2.2.1 k0_t3
theorem k0_mult49_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult49 k0_t1 v970 v981 v992 v1003 k0_t3).toNat := fun k0_t1 v970 v981 v992 v1003 k0_hw2 k0_t3 => k0_hw2.2.2.2.2.2.2.2.2.2.1 k0_t3
theorem k0_mult50_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult50 k0_t1 v970 v981 v992 v1003 k0_t3).toNat := fun k0_t1 v970 v981 v992 v1003 k0_hw2 k0_t3 => k0_hw2.2.2.2.2.2.2.2.2.2.2.1 k0_t3
theorem k0_mult51_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult51 k0_t1 v970 v981 v992 v1003 k0_t3).toNat := fun k0_t1 v970 v981 v992 v1003 k0_hw2 k0_t3 => k0_hw2.2.2.2.2.2.2.2.2.2.2.2.1 k0_t3
theorem k0_off16_inb : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), ∀ a, (k0_off16 k0_t1 v970 v981 v992 v1003 k0_t3) a + S1x1x64x512.size a ≤ S1x16x128x512.size a := fun k0_t1 v970 v981 v992 v1003 k0_hw2 k0_t3 => k0_hw2.2.2.2.2.2.2.2.2.2.2.2.2.1 k0_t3
theorem k0_mult52_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult52 k0_t1 v970 v981 v992 v1003 k0_t3).toNat := fun k0_t1 v970 v981 v992 v1003 k0_hw2 k0_t3 => k0_hw2.2.2.2.2.2.2.2.2.2.2.2.2.2.1 k0_t3
theorem k0_mult53_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult53 k0_t1 v970 v981 v992 v1003 k0_t3).toNat := fun k0_t1 v970 v981 v992 v1003 k0_hw2 k0_t3 => k0_hw2.2.2.2.2.2.2.2.2.2.2.2.2.2.2 k0_t3

def k0_mult54 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_795 : BitVec 32 := 512#32
  let v1021 : BitVec 32 := Scalar.muli v1020 c512_i32_795
  v1021
def k0_off17 (k0_t1 : Fin k0_t1_loop.trips) (c2_i32_793 : BitVec 32) : Fin 3 → Nat :=
  let c0_796 : Index := 0#32
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let v1019 : BitVec 32 := Scalar.subi v960 c2_i32_793
  let c1_i32_794 : BitVec 32 := 1#32
  let v1020 : BitVec 32 := Scalar.addi v1019 c1_i32_794
  let c512_i32_795 : BitVec 32 := 512#32
  let v1021 : BitVec 32 := Scalar.muli v1020 c512_i32_795
  let v1022 : BitVec 32 := v1021
  let v1023 : Index := Scalar.indexCast v1022
  let c0_797 : Index := 0#32
  ![0, v1023.toNat, 0]
def k0_mult55 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_823 : BitVec 32 := 512#32
  let v1053 : BitVec 32 := Scalar.muli v1020 c512_i32_823
  v1053
def k0_off18 (k0_t1 : Fin k0_t1_loop.trips) (c2_i32_793 : BitVec 32) : Fin 4 → Nat :=
  let c0_838 : Index := 0#32
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let v1019 : BitVec 32 := Scalar.subi v960 c2_i32_793
  let v1069 : Index := Scalar.indexCast v1019
  let c0_839 : Index := 0#32
  let c0_840 : Index := 0#32
  ![0, v1069.toNat, 0, 0]
def k0_mult56 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_862 : BitVec 32 := 512#32
  let v1099 : BitVec 32 := Scalar.muli v1020 c512_i32_862
  v1099
def k0_mult57 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_901 : BitVec 32 := 512#32
  let v1145 : BitVec 32 := Scalar.muli v1020 c512_i32_901
  v1145
def k0_mult58 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_940 : BitVec 32 := 512#32
  let v1191 : BitVec 32 := Scalar.muli v1020 c512_i32_940
  v1191
def k0_mult59 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_979 : BitVec 32 := 512#32
  let v1237 : BitVec 32 := Scalar.muli v1020 c512_i32_979
  v1237
def k0_off19 (k0_t1 : Fin k0_t1_loop.trips) (c2_i32_793 : BitVec 32) : Fin 4 → Nat :=
  let c0_994 : Index := 0#32
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let v1019 : BitVec 32 := Scalar.subi v960 c2_i32_793
  let v1253 : Index := Scalar.indexCast v1019
  let c64_995 : Index := 64#32
  let c0_996 : Index := 0#32
  ![0, v1253.toNat, 64, 0]
def k0_mult60 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_1018 : BitVec 32 := 512#32
  let v1283 : BitVec 32 := Scalar.muli v1020 c512_i32_1018
  v1283
def k0_mult61 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_1057 : BitVec 32 := 512#32
  let v1329 : BitVec 32 := Scalar.muli v1020 c512_i32_1057
  v1329
def k0_mult62 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1113 : BitVec 32 := 512#32
  let v1411 : BitVec 32 := Scalar.muli v1410 c512_i32_1113
  v1411
def k0_off20 (k0_t1 : Fin k0_t1_loop.trips) : Fin 3 → Nat :=
  let c0_1114 : Index := 0#32
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1113 : BitVec 32 := 512#32
  let v1411 : BitVec 32 := Scalar.muli v1410 c512_i32_1113
  let v1412 : BitVec 32 := v1411
  let v1413 : Index := Scalar.indexCast v1412
  let c0_1115 : Index := 0#32
  ![0, v1413.toNat, 0]
def k0_mult63 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1142 : BitVec 32 := 512#32
  let v1445 : BitVec 32 := Scalar.muli v1410 c512_i32_1142
  v1445
def k0_mult64 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1182 : BitVec 32 := 512#32
  let v1493 : BitVec 32 := Scalar.muli v1410 c512_i32_1182
  v1493
def k0_mult65 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1221 : BitVec 32 := 512#32
  let v1539 : BitVec 32 := Scalar.muli v1410 c512_i32_1221
  v1539
def k0_mult66 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1260 : BitVec 32 := 512#32
  let v1585 : BitVec 32 := Scalar.muli v1410 c512_i32_1260
  v1585
def k0_mult67 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1300 : BitVec 32 := 512#32
  let v1633 : BitVec 32 := Scalar.muli v1410 c512_i32_1300
  v1633
def k0_mult68 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1340 : BitVec 32 := 512#32
  let v1681 : BitVec 32 := Scalar.muli v1410 c512_i32_1340
  v1681
def k0_mult69 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1379 : BitVec 32 := 512#32
  let v1727 : BitVec 32 := Scalar.muli v1410 c512_i32_1379
  v1727
def k0_mult70 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let c1_i32_1435 : BitVec 32 := 1#32
  let v1809 : BitVec 32 := Scalar.addi v1788 c1_i32_1435
  let c512_i32_1436 : BitVec 32 := 512#32
  let v1810 : BitVec 32 := Scalar.muli v1809 c512_i32_1436
  v1810
def k0_off21 (k0_t1 : Fin k0_t1_loop.trips) : Fin 3 → Nat :=
  let c0_1437 : Index := 0#32
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let c1_i32_1435 : BitVec 32 := 1#32
  let v1809 : BitVec 32 := Scalar.addi v1788 c1_i32_1435
  let c512_i32_1436 : BitVec 32 := 512#32
  let v1810 : BitVec 32 := Scalar.muli v1809 c512_i32_1436
  let v1811 : BitVec 32 := v1810
  let v1812 : Index := Scalar.indexCast v1811
  let c0_1438 : Index := 0#32
  ![0, v1812.toNat, 0]
def k0_mult71 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let c1_i32_1435 : BitVec 32 := 1#32
  let v1809 : BitVec 32 := Scalar.addi v1788 c1_i32_1435
  let c512_i32_1465 : BitVec 32 := 512#32
  let v1844 : BitVec 32 := Scalar.muli v1809 c512_i32_1465
  v1844
def k0_off22 (k0_t1 : Fin k0_t1_loop.trips) : Fin 3 → Nat :=
  let c0_1466 : Index := 0#32
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let c1_i32_1435 : BitVec 32 := 1#32
  let v1809 : BitVec 32 := Scalar.addi v1788 c1_i32_1435
  let c512_i32_1465 : BitVec 32 := 512#32
  let v1844 : BitVec 32 := Scalar.muli v1809 c512_i32_1465
  let v1845 : BitVec 32 := v1844
  let v1846 : Index := Scalar.indexCast v1845
  let c0_1467 : Index := 0#32
  ![0, v1846.toNat, 0]
def k0_off23 (k0_t1 : Fin k0_t1_loop.trips) : Fin 4 → Nat :=
  let c0_1481 : Index := 0#32
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let v1862 : Index := Scalar.indexCast v1788
  let c0_1482 : Index := 0#32
  let c0_1483 : Index := 0#32
  ![0, v1862.toNat, 0, 0]
def k0_mult72 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let c1_i32_1435 : BitVec 32 := 1#32
  let v1809 : BitVec 32 := Scalar.addi v1788 c1_i32_1435
  let c512_i32_1505 : BitVec 32 := 512#32
  let v1893 : BitVec 32 := Scalar.muli v1809 c512_i32_1505
  v1893
def k0_mult73 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let c1_i32_1435 : BitVec 32 := 1#32
  let v1809 : BitVec 32 := Scalar.addi v1788 c1_i32_1435
  let c512_i32_1545 : BitVec 32 := 512#32
  let v1941 : BitVec 32 := Scalar.muli v1809 c512_i32_1545
  v1941
def k0_off24 (k0_t1 : Fin k0_t1_loop.trips) : Fin 4 → Nat :=
  let c0_1609 : Index := 0#32
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let v2019 : Index := Scalar.indexCast v1788
  let c64_1610 : Index := 64#32
  let c0_1611 : Index := 0#32
  ![0, v2019.toNat, 64, 0]
def k0_off25 (i : grid0.Coords) (k0_t1 : Fin k0_t1_loop.trips) (c0_i32_1698 : BitVec 32) (c0_i32_1701 : BitVec 32) : Fin 1 → Nat :=
  let arg0 : BitVec 32 := BitVec.ofNat 32 (i 0).val
  let c16_i32_1696 : BitVec 32 := 16#32
  let v2128 : BitVec 32 := Scalar.muli arg0 c16_i32_1696
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1697 : BitVec 32 := 2#32
  let v2129 : BitVec 32 := Scalar.muli v2125 c2_i32_1697
  let v2130 : BitVec 32 := Scalar.addi v2128 v2129
  let v2131 : BitVec 32 := Scalar.addi v2130 c0_i32_1698
  let c128_i32_1699 : BitVec 32 := 128#32
  let v2132 : BitVec 32 := Scalar.muli v2131 c128_i32_1699
  let arg1 : BitVec 32 := BitVec.ofNat 32 (i 1).val
  let c2_i32_1700 : BitVec 32 := 2#32
  let v2133 : BitVec 32 := Scalar.muli arg1 c2_i32_1700
  let v2134 : BitVec 32 := Scalar.addi v2132 v2133
  let v2135 : BitVec 32 := Scalar.addi v2134 c0_i32_1701
  let v2136 : Index := Scalar.indexCast v2135
  ![v2136.toNat]
def k0_off26 (k0_t1 : Fin k0_t1_loop.trips) (c0_i32_1727 : BitVec 32) : Fin 4 → Nat :=
  let c0_1728 : Index := 0#32
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1726 : BitVec 32 := 2#32
  let v2178 : BitVec 32 := Scalar.muli v2125 c2_i32_1726
  let v2179 : BitVec 32 := Scalar.addi v2178 c0_i32_1727
  let v2180 : Index := Scalar.indexCast v2179
  let c0_1729 : Index := 0#32
  let c0_1730 : Index := 0#32
  ![0, v2180.toNat, 0, 0]
def k0_mult74 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1760 : BitVec 32 := 512#32
  let v2234 : BitVec 32 := Scalar.muli v2177 c512_i32_1760
  v2234

def k0_off27 (k0_t1 : Fin k0_t1_loop.trips) (v2137 : BitVec 32) (v2148 : BitVec 32) (v2159 : BitVec 32) (v2170 : BitVec 32) : Fin 3 → Nat :=
  let c0_1761 : Index := 0#32
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1760 : BitVec 32 := 512#32
  let v2234 : BitVec 32 := Scalar.muli v2177 c512_i32_1760
  let v2235 : BitVec 32 := v2234
  let v2236 : Index := Scalar.indexCast v2235
  let c0_1762 : Index := 0#32
  ![0, v2236.toNat, 0]
def k0_mult75 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1788 : BitVec 32 := 512#32
  let v2266 : BitVec 32 := Scalar.muli v2177 c512_i32_1788
  v2266
def k0_off28 (k0_t1 : Fin k0_t1_loop.trips) : Fin 4 → Nat :=
  let c0_1803 : Index := 0#32
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c2_i32_1694 : BitVec 32 := 2#32
  let v2126 : BitVec 32 := Scalar.addi v1787 c2_i32_1694
  let c1_i32_1695 : BitVec 32 := 1#32
  let v2127 : BitVec 32 := Scalar.subi v2126 c1_i32_1695
  let v2282 : Index := Scalar.indexCast v2127
  let c0_1804 : Index := 0#32
  let c0_1805 : Index := 0#32
  ![0, v2282.toNat, 0, 0]
def k0_mult76 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1827 : BitVec 32 := 512#32
  let v2313 : BitVec 32 := Scalar.muli v2177 c512_i32_1827
  v2313
def k0_mult77 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1866 : BitVec 32 := 512#32
  let v2359 : BitVec 32 := Scalar.muli v2177 c512_i32_1866
  v2359
def k0_off29 (k0_t1 : Fin k0_t1_loop.trips) : Fin 4 → Nat :=
  let c0_1881 : Index := 0#32
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c2_i32_1694 : BitVec 32 := 2#32
  let v2126 : BitVec 32 := Scalar.addi v1787 c2_i32_1694
  let c1_i32_1695 : BitVec 32 := 1#32
  let v2127 : BitVec 32 := Scalar.subi v2126 c1_i32_1695
  let v2375 : Index := Scalar.indexCast v2127
  let c64_1882 : Index := 64#32
  let c0_1883 : Index := 0#32
  ![0, v2375.toNat, 64, 0]
def k0_mult78 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1905 : BitVec 32 := 512#32
  let v2406 : BitVec 32 := Scalar.muli v2177 c512_i32_1905
  v2406
def k0_mult79 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1931 : BitVec 32 := 512#32
  let v2436 : BitVec 32 := Scalar.muli v2177 c512_i32_1931
  v2436
def k0_mult80 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1946 : BitVec 32 := 512#32
  let v2452 : BitVec 32 := Scalar.muli v2177 c512_i32_1946
  v2452
def k0_mult81 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1961 : BitVec 32 := 512#32
  let v2468 : BitVec 32 := Scalar.muli v2177 c512_i32_1961
  v2468

def k0_chk3 (k0_t1 : Fin k0_t1_loop.trips) (v2137 : BitVec 32) (v2148 : BitVec 32) (v2159 : BitVec 32) (v2170 : BitVec 32) : Prop :=
  (512 ∣ (k0_mult74 k0_t1 v2137 v2148 v2159 v2170).toNat) ∧
  (∀ a, (k0_off27 k0_t1 v2137 v2148 v2159 v2170) a + S1x512x256.size a ≤ S1x8192x256.size a) ∧
  (512 ∣ (k0_mult75 k0_t1 v2137 v2148 v2159 v2170).toNat) ∧
  (512 ∣ (k0_mult76 k0_t1 v2137 v2148 v2159 v2170).toNat) ∧
  (512 ∣ (k0_mult77 k0_t1 v2137 v2148 v2159 v2170).toNat) ∧
  (512 ∣ (k0_mult78 k0_t1 v2137 v2148 v2159 v2170).toNat) ∧
  (512 ∣ (k0_mult79 k0_t1 v2137 v2148 v2159 v2170).toNat) ∧
  (512 ∣ (k0_mult80 k0_t1 v2137 v2148 v2159 v2170).toNat) ∧
  (512 ∣ (k0_mult81 k0_t1 v2137 v2148 v2159 v2170).toNat)
theorem k0_mult74_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult74 k0_t1 v2137 v2148 v2159 v2170).toNat := fun k0_t1 v2137 v2148 v2159 v2170 k0_hw3 => k0_hw3.1
theorem k0_off27_inb : ∀ (k0_t1 : Fin k0_t1_loop.trips) (v2137 : BitVec 32) (v2148 : BitVec 32) (v2159 : BitVec 32) (v2170 : BitVec 32) (k0_hw3 : k0_chk3 k0_t1 v2137 v2148 v2159 v2170), ∀ a, (k0_off27 k0_t1 v2137 v2148 v2159 v2170) a + S1x512x256.size a ≤ S1x8192x256.size a := fun k0_t1 v2137 v2148 v2159 v2170 k0_hw3 => k0_hw3.2.1
theorem k0_mult75_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult75 k0_t1 v2137 v2148 v2159 v2170).toNat := fun k0_t1 v2137 v2148 v2159 v2170 k0_hw3 => k0_hw3.2.2.1
theorem k0_mult76_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult76 k0_t1 v2137 v2148 v2159 v2170).toNat := fun k0_t1 v2137 v2148 v2159 v2170 k0_hw3 => k0_hw3.2.2.2.1
theorem k0_mult77_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult77 k0_t1 v2137 v2148 v2159 v2170).toNat := fun k0_t1 v2137 v2148 v2159 v2170 k0_hw3 => k0_hw3.2.2.2.2.1
theorem k0_mult78_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult78 k0_t1 v2137 v2148 v2159 v2170).toNat := fun k0_t1 v2137 v2148 v2159 v2170 k0_hw3 => k0_hw3.2.2.2.2.2.1
theorem k0_mult79_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult79 k0_t1 v2137 v2148 v2159 v2170).toNat := fun k0_t1 v2137 v2148 v2159 v2170 k0_hw3 => k0_hw3.2.2.2.2.2.2.1
theorem k0_mult80_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult80 k0_t1 v2137 v2148 v2159 v2170).toNat := fun k0_t1 v2137 v2148 v2159 v2170 k0_hw3 => k0_hw3.2.2.2.2.2.2.2.1
theorem k0_mult81_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult81 k0_t1 v2137 v2148 v2159 v2170).toNat := fun k0_t1 v2137 v2148 v2159 v2170 k0_hw3 => k0_hw3.2.2.2.2.2.2.2.2

def k0_mult82 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c1024_i32 : BitVec 32 := 1024#32
  let v2497 : BitVec 32 := Scalar.muli arg19 c1024_i32
  v2497
def k0_off30 (k0_t1 : Fin k0_t1_loop.trips) : Fin 3 → Nat :=
  let c0_1982 : Index := 0#32
  let c1_i32_751 : BitVec 32 := 1#32
  let c1_i32_753 : BitVec 32 := 1#32
  let arg19 : BitVec 32 := Scf.iv c1_i32_751 c1_i32_753 k0_t1
  let c1024_i32 : BitVec 32 := 1024#32
  let v2497 : BitVec 32 := Scalar.muli arg19 c1024_i32
  let v2498 : BitVec 32 := v2497
  let v2501 : Index := Scalar.indexCast v2498
  let c0_1983 : Index := 0#32
  ![0, v2501.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let v2 : BitVec 32 := Scalar.minsi v1 c7_i32
  let c0_i32 : BitVec 32 := 0#32
  let v3 : BitVec 32 := Scalar.addi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let v2 : BitVec 32 := Scalar.minsi v1 c7_i32
  let c0_i32 : BitVec 32 := 0#32
  let v3 : BitVec 32 := Scalar.addi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let v2 : BitVec 32 := Scalar.minsi v1 c6_i32
  let c512_i32 : BitVec 32 := 512#32
  let v3 : BitVec 32 := Scalar.muli v2 c512_i32
  let c1544_i32 : BitVec 32 := 1544#32
  let v4 : BitVec 32 := Scalar.addi c1544_i32 v3
  let v5 : BitVec 32 := v4
  let c0_i32 : BitVec 32 := 0#32
  let c0_i32_0 : BitVec 32 := 0#32
  ![v5.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let v2 : BitVec 32 := Scalar.minsi v1 c6_i32
  let c0_i32 : BitVec 32 := 0#32
  let c0_i32_0 : BitVec 32 := 0#32
  ![c0_i32.toNat, v2.toNat]

abbrev stage0_0 : Fin 2 → Memref sig .tc .vmem S1x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096 : Shape := ⟨1, ![4096]⟩
abbrev S2x16x512x512 : Shape := ⟨4, ![2, 16, 512, 512]⟩
abbrev S2x8192x1024 : Shape := ⟨3, ![2, 8192, 1024]⟩
abbrev S2x512x1024 : Shape := ⟨3, ![2, 512, 1024]⟩
abbrev S1024x1024 : Shape := ⟨2, ![1024, 1024]⟩
abbrev S1024x5128 : Shape := ⟨2, ![1024, 5128]⟩
abbrev S2x8192x8x64 : Shape := ⟨4, ![2, 8192, 8, 64]⟩
abbrev S2x8192x4x256 : Shape := ⟨4, ![2, 8192, 4, 256]⟩
abbrev S2x8192x4x128 : Shape := ⟨4, ![2, 8192, 4, 128]⟩
abbrev S2x8192x1x2 : Shape := ⟨4, ![2, 8192, 1, 2]⟩
abbrev S2x8192x2 : Shape := ⟨3, ![2, 8192, 2]⟩
abbrev S2x8192x8 : Shape := ⟨3, ![2, 8192, 8]⟩
abbrev S2x8x8192x8192 : Shape := ⟨4, ![2, 8, 8192, 8192]⟩
abbrev S2x8x8192 : Shape := ⟨3, ![2, 8, 8192]⟩
abbrev S2x8x1x8192 : Shape := ⟨4, ![2, 8, 1, 8192]⟩
abbrev S2x8x2x128 : Shape := ⟨4, ![2, 8, 2, 128]⟩
abbrev S2x8x2x8 : Shape := ⟨4, ![2, 8, 2, 8]⟩
abbrev S2x8x2x4x2 : Shape := ⟨5, ![2, 8, 2, 4, 2]⟩
abbrev S_ : Shape := ⟨0, ![]⟩
abbrev S2x8x4 : Shape := ⟨3, ![2, 8, 4]⟩
abbrev S8 : Shape := ⟨1, ![8]⟩
abbrev S1x8x1 : Shape := ⟨3, ![1, 8, 1]⟩
abbrev S2x8x1x4x1 : Shape := ⟨5, ![2, 8, 1, 4, 1]⟩
abbrev S2x8x1024x4x2 : Shape := ⟨5, ![2, 8, 1024, 4, 2]⟩
abbrev S8192 : Shape := ⟨1, ![8192]⟩
abbrev S1x1x1x8192 : Shape := ⟨4, ![1, 1, 1, 8192]⟩
abbrev S1x1x8192x1 : Shape := ⟨4, ![1, 1, 8192, 1]⟩
abbrev S1x1x8192x8192 : Shape := ⟨4, ![1, 1, 8192, 8192]⟩
abbrev S2x8x8192x1 : Shape := ⟨4, ![2, 8, 8192, 1]⟩
abbrev S2x8x64x8192 : Shape := ⟨4, ![2, 8, 64, 8192]⟩
abbrev S2x8192x512 : Shape := ⟨3, ![2, 8192, 512]⟩
abbrev S1024x3584 : Shape := ⟨2, ![1024, 3584]⟩

abbrev nBuf : Space → Nat
  | .hbm => 135
  | .vmem => 0
  | .smem => 0
  | _ => 0

abbrev hbmTy0_0 (i : Nat) : BufTy := match i % 128 with
  | 0 => ⟨S4096, .i32⟩
  | 1 => ⟨S2x16x512x512, .bf16⟩
  | 2 => ⟨S2x8192x1024, .bf16⟩
  | 3 => ⟨S2x16x512x512, .bf16⟩
  | 4 => ⟨S2x512x1024, .f32⟩
  | 5 => ⟨S1024x1024, .f32⟩
  | 6 => ⟨S1024x5128, .f32⟩
  | 7 => ⟨S2x16x512x512, .f32⟩
  | 8 => ⟨S2x16x512x512, .f32⟩
  | 9 => ⟨S2x8192x8x64, .f32⟩
  | 10 => ⟨S2x16x512x512, .f32⟩
  | 11 => ⟨S2x16x512x512, .f32⟩
  | 12 => ⟨S2x8192x8x64, .f32⟩
  | 13 => ⟨S2x8192x1024, .f32⟩
  | 14 => ⟨S2x8192x4x256, .f32⟩
  | 15 => ⟨S2x8192x4x128, .f32⟩
  | 16 => ⟨S2x8192x8x64, .f32⟩
  | 17 => ⟨S2x8192x1x2, .f32⟩
  | 18 => ⟨S2x8192x2, .f32⟩
  | 19 => ⟨S2x8192x1x2, .f32⟩
  | 20 => ⟨S2x8192x2, .f32⟩
  | 21 => ⟨S2x8192x2, .f32⟩
  | 22 => ⟨S2x8192x1x2, .f32⟩
  | 23 => ⟨S2x8192x2, .f32⟩
  | 24 => ⟨S2x8192x2, .f32⟩
  | 25 => ⟨S2x8192x1x2, .f32⟩
  | 26 => ⟨S2x8192x2, .f32⟩
  | 27 => ⟨S2x8192x1x2, .f32⟩
  | 28 => ⟨S2x8192x2, .f32⟩
  | 29 => ⟨S2x8192x2, .f32⟩
  | 30 => ⟨S2x8192x1x2, .f32⟩
  | 31 => ⟨S2x8192x2, .f32⟩
  | 32 => ⟨S2x8192x2, .f32⟩
  | 33 => ⟨S2x8192x1x2, .f32⟩
  | 34 => ⟨S2x8192x2, .f32⟩
  | 35 => ⟨S2x8192x1x2, .f32⟩
  | 36 => ⟨S2x8192x2, .f32⟩
  | 37 => ⟨S2x8192x2, .f32⟩
  | 38 => ⟨S2x8192x1x2, .f32⟩
  | 39 => ⟨S2x8192x2, .f32⟩
  | 40 => ⟨S2x8192x2, .f32⟩
  | 41 => ⟨S2x8192x1x2, .f32⟩
  | 42 => ⟨S2x8192x2, .f32⟩
  | 43 => ⟨S2x8192x1x2, .f32⟩
  | 44 => ⟨S2x8192x2, .f32⟩
  | 45 => ⟨S2x8192x2, .f32⟩
  | 46 => ⟨S2x8192x1x2, .f32⟩
  | 47 => ⟨S2x8192x2, .f32⟩
  | 48 => ⟨S2x8192x2, .f32⟩
  | 49 => ⟨S2x8192x8, .f32⟩
  | 50 => ⟨S2x8x8192x8192, .f32⟩
  | 51 => ⟨S2x8x8192, .f32⟩
  | 52 => ⟨S2x8x1x8192, .f32⟩
  | 53 => ⟨S2x8x8192x8192, .f32⟩
  | 54 => ⟨S2x8x8192x8192, .f32⟩
  | 55 => ⟨S2x8x2x128, .i32⟩
  | 56 => ⟨S2x8x2x8, .i32⟩
  | 57 => ⟨S2x8x2x4x2, .i32⟩
  | 58 => ⟨S_, .i32⟩
  | 59 => ⟨S2x8x4, .i32⟩
  | 60 => ⟨S8, .i32⟩
  | 61 => ⟨S1x8x1, .i32⟩
  | 62 => ⟨S_, .i32⟩
  | 63 => ⟨S_, .i32⟩
  | 64 => ⟨S2x8x4, .i32⟩
  | 65 => ⟨S2x8x4, .i32⟩
  | 66 => ⟨S2x8x4, .i32⟩
  | 67 => ⟨S_, .i32⟩
  | 68 => ⟨S2x8x4, .i32⟩
  | 69 => ⟨S2x8x4, .i1⟩
  | 70 => ⟨S2x8x4, .i32⟩
  | 71 => ⟨S2x8x4, .i32⟩
  | 72 => ⟨S_, .i32⟩
  | 73 => ⟨S2x8x4, .i32⟩
  | 74 => ⟨S2x8x4, .i1⟩
  | 75 => ⟨S2x8x4, .i1⟩
  | 76 => ⟨S_, .i32⟩
  | 77 => ⟨S2x8x4, .i32⟩
  | 78 => ⟨S2x8x4, .i32⟩
  | 79 => ⟨S2x8x4, .i32⟩
  | 80 => ⟨S_, .i32⟩
  | 81 => ⟨S1x8x1, .i32⟩
  | 82 => ⟨S1x8x1, .i32⟩
  | 83 => ⟨S_, .i32⟩
  | 84 => ⟨S1x8x1, .i32⟩
  | 85 => ⟨S1x8x1, .i32⟩
  | 86 => ⟨S2x8x4, .i32⟩
  | 87 => ⟨S2x8x4, .i32⟩
  | 88 => ⟨S_, .i32⟩
  | 89 => ⟨S2x8x4, .i32⟩
  | 90 => ⟨S2x8x4, .i32⟩
  | 91 => ⟨S2x8x1x4x1, .i32⟩
  | 92 => ⟨S2x8x1024x4x2, .i32⟩
  | 93 => ⟨S2x8192x8, .i32⟩
  | 94 => ⟨S2x8x8192, .i32⟩
  | 95 => ⟨S8192, .i32⟩
  | 96 => ⟨S1x1x1x8192, .i32⟩
  | 97 => ⟨S1x1x8192x1, .i32⟩
  | 98 => ⟨S1x1x8192x8192, .i32⟩
  | 99 => ⟨S1x1x8192x8192, .i32⟩
  | 100 => ⟨S1x1x8192x8192, .i1⟩
  | 101 => ⟨S1x1x1x8192, .i32⟩
  | 102 => ⟨S2x8x8192x1, .i32⟩
  | 103 => ⟨S2x8x8192x8192, .i32⟩
  | 104 => ⟨S2x8x8192x8192, .i32⟩
  | 105 => ⟨S2x8x8192x8192, .i1⟩
  | 106 => ⟨S2x8x8192x8192, .i1⟩
  | 107 => ⟨S2x8x8192x8192, .i1⟩
  | 108 => ⟨S_, .f32⟩
  | 109 => ⟨S_, .f32⟩
  | 110 => ⟨S2x8x8192x8192, .f32⟩
  | 111 => ⟨S2x8x8192x8192, .f32⟩
  | 112 => ⟨S_, .f32⟩
  | 113 => ⟨S2x8x8192, .f32⟩
  | 114 => ⟨S2x8x8192x1, .f32⟩
  | 115 => ⟨S2x8x8192x8192, .f32⟩
  | 116 => ⟨S2x8x8192x8192, .f32⟩
  | 117 => ⟨S_, .f32⟩
  | 118 => ⟨S2x8x8192x8192, .f32⟩
  | 119 => ⟨S2x8x8192x8192, .f32⟩
  | 120 => ⟨S2x8x8192x8192, .f32⟩
  | 121 => ⟨S_, .f32⟩
  | 122 => ⟨S2x8x8192, .f32⟩
  | 123 => ⟨S2x8x8192x1, .f32⟩
  | 124 => ⟨S2x8x8192x8192, .f32⟩
  | 125 => ⟨S2x8x8192x8192, .f32⟩
  | 126 => ⟨S2x8x64x8192, .f32⟩
  | 127 => ⟨S2x8192x8x64, .f32⟩
  | _ => ⟨S4096, .i32⟩

abbrev hbmTy0_1 (i : Nat) : BufTy := match i % 128 with
  | 0 => ⟨S2x8192x512, .f32⟩
  | 1 => ⟨S2x8192x512, .bf16⟩
  | 2 => ⟨S1024x1024, .f32⟩
  | 3 => ⟨S1024x1024, .bf16⟩
  | 4 => ⟨S1024x1024, .bf16⟩
  | 5 => ⟨S1024x3584, .f32⟩
  | 6 => ⟨S1024x3584, .bf16⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_c : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_c_0 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_c : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_0 : Ref sig .tc := ⟨.hbm, 76, rfl⟩
abbrev main_call0_v12 : Ref sig .tc := ⟨.hbm, 77, rfl⟩
abbrev main_call0_v13 : Ref sig .tc := ⟨.hbm, 78, rfl⟩
abbrev main_v54 : Ref sig .tc := ⟨.hbm, 79, rfl⟩
abbrev main_c_1 : Ref sig .tc := ⟨.hbm, 80, rfl⟩
abbrev main_v55 : Ref sig .tc := ⟨.hbm, 81, rfl⟩
abbrev main_v56 : Ref sig .tc := ⟨.hbm, 82, rfl⟩
abbrev main_c_2 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_3 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst : Ref sig .tc := ⟨.hbm, 108, rfl⟩
abbrev main_call1_v0 : Ref sig .tc := ⟨.hbm, 109, rfl⟩
abbrev main_call1_v1 : Ref sig .tc := ⟨.hbm, 110, rfl⟩
abbrev main_v80 : Ref sig .tc := ⟨.hbm, 111, rfl⟩
abbrev main_cst_4 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_5 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_6 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x512 : Shape := ⟨3, ![2, 8192, 512]⟩
abbrev S1x1024 : Shape := ⟨2, ![1, 1024]⟩
abbrev S1024x3584 : Shape := ⟨2, ![1024, 3584]⟩
abbrev S3x512 : Shape := ⟨2, ![3, 512]⟩
abbrev S1024x1024 : Shape := ⟨2, ![1024, 1024]⟩
abbrev S1024x5632 : Shape := ⟨2, ![1024, 5632]⟩
abbrev S2816x1024 : Shape := ⟨2, ![2816, 1024]⟩
abbrev S16384x1024 : Shape := ⟨2, ![16384, 1024]⟩
abbrev S16384x512 : Shape := ⟨2, ![16384, 512]⟩
abbrev S1024x512 : Shape := ⟨2, ![1024, 512]⟩
abbrev S64x5632 : Shape := ⟨2, ![64, 5632]⟩
abbrev S176x1024 : Shape := ⟨2, ![176, 1024]⟩
abbrev S8x512 : Shape := ⟨2, ![8, 512]⟩
abbrev S256x1024 : Shape := ⟨2, ![256, 1024]⟩
abbrev S256 : Shape := ⟨1, ![256]⟩
abbrev S256x1 : Shape := ⟨2, ![256, 1]⟩
abbrev S256x3584 : Shape := ⟨2, ![256, 3584]⟩
abbrev S256x512 : Shape := ⟨2, ![256, 512]⟩
abbrev S264x512 : Shape := ⟨2, ![264, 512]⟩
abbrev S1x512 : Shape := ⟨2, ![1, 512]⟩
abbrev S512x1024 : Shape := ⟨2, ![512, 1024]⟩

abbrev nBuf : Space → Nat
  | .hbm => 15
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S1x1024, .f32⟩
  | .hbm, ⟨3, _⟩ => ⟨S1x1024, .f32⟩
  | .hbm, ⟨4, _⟩ => ⟨S1024x3584, .bf16⟩
  | .hbm, ⟨5, _⟩ => ⟨S3x512, .f32⟩
  | .hbm, ⟨6, _⟩ => ⟨S1024x1024, .bf16⟩
  | .hbm, ⟨7, _⟩ => ⟨S1024x1024, .bf16⟩
  | .hbm, ⟨8, _⟩ => ⟨S1024x5632, .f32⟩
  | .hbm, ⟨9, _⟩ => ⟨S2816x1024, .f32⟩
  | .hbm, ⟨10, _⟩ => ⟨S16384x1024, .f32⟩
  | .hbm, ⟨11, _⟩ => ⟨S16384x512, .bf16⟩
  | .hbm, ⟨12, _⟩ => ⟨S16384x1024, .f32⟩
  | .hbm, ⟨13, _⟩ => ⟨S1024x5632, .bf16⟩
  | .hbm, ⟨14, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x3584, .bf16⟩
  | .local _ .vmem, ⟨7, _⟩ => ⟨S3x512, .f32⟩
  | .local _ .vmem, ⟨8, _⟩ => ⟨S1024x1024, .bf16⟩
  | .local _ .vmem, ⟨9, _⟩ => ⟨S1024x1024, .bf16⟩
  | .local _ .vmem, ⟨10, _⟩ => ⟨S64x5632, .f32⟩
  | .local _ .vmem, ⟨11, _⟩ => ⟨S64x5632, .f32⟩
  | .local _ .vmem, ⟨12, _⟩ => ⟨S176x1024, .f32⟩
  | .local _ .vmem, ⟨13, _⟩ => ⟨S176x1024, .f32⟩
  | .local _ .vmem, ⟨14, _⟩ => ⟨S1024x1024, .f32⟩
  | .local _ .vmem, ⟨15, _⟩ => ⟨S1024x1024, .f32⟩
  | .local _ .vmem, ⟨16, _⟩ => ⟨S64x5632, .bf16⟩
  | .local _ .vmem, ⟨17, _⟩ => ⟨S64x5632, .bf16⟩
  | .local _ .vmem, ⟨18, _⟩ => ⟨S176x1024, .bf16⟩
  | .local _ .vmem, ⟨19, _⟩ => ⟨S176x1024, .bf16⟩
  | .local _ .vmem, ⟨20, _⟩ => ⟨S8x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S2x8192x1024 : Shape := ⟨3, ![2, 8192, 1024]⟩
abbrev S2x8192x512 : Shape := ⟨3, ![2, 8192, 512]⟩
abbrev S1x1024 : Shape := ⟨2, ![1, 1024]⟩
abbrev S1024x3584 : Shape := ⟨2, ![1024, 3584]⟩
abbrev S3x512 : Shape := ⟨2, ![3, 512]⟩
abbrev S1024x1024 : Shape := ⟨2, ![1024, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3584 : Shape := ⟨3, ![2, 8192, 3584]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩
abbrev S512x1024 : Shape := ⟨2, ![512, 1024]⟩
abbrev S16384x1024 : Shape := ⟨2, ![16384, 1024]⟩

abbrev nBuf : Space → Nat
  | .hbm => 107
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S1x1024, .f32⟩
  | .hbm, ⟨3, _⟩ => ⟨S1x1024, .f32⟩
  | .hbm, ⟨4, _⟩ => ⟨S1024x3584, .bf16⟩
  | .hbm, ⟨5, _⟩ => ⟨S3x512, .f32⟩
  | .hbm, ⟨6, _⟩ => ⟨S1024x1024, .bf16⟩
  | .hbm, ⟨7, _⟩ => ⟨S1024x1024, .bf16⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S1024x3584, .f32⟩
  | .hbm, ⟨28, _⟩ => ⟨S2x8192x3584, .f32⟩
  | .hbm, ⟨29, _⟩ => ⟨S2x8192x512, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S_, .i32⟩
  | .hbm, ⟨34, _⟩ => ⟨S_, .f32⟩
  | .hbm, ⟨35, _⟩ => ⟨S2x8194x512, .f32⟩
  | .hbm, ⟨36, _⟩ => ⟨S1x512, .f32⟩
  | .hbm, ⟨37, _⟩ => ⟨S512, .f32⟩
  | .hbm, ⟨38, _⟩ => ⟨S2x8192x512, .f32⟩
  | .hbm, ⟨39, _⟩ => ⟨S1x1x512, .f32⟩
  | .hbm, ⟨40, _⟩ => ⟨S2x8192x512, .f32⟩
  | .hbm, ⟨41, _⟩ => ⟨S2x8192x512, .f32⟩
  | .hbm, ⟨42, _⟩ => ⟨S1x512, .f32⟩
  | .hbm, ⟨43, _⟩ => ⟨S512, .f32⟩
  | .hbm, ⟨44, _⟩ => ⟨S2x8192x512, .f32⟩
  | .hbm, ⟨45, _⟩ => ⟨S1x1x512, .f32⟩
  | .hbm, ⟨46, _⟩ => ⟨S2x8192x512, .f32⟩
  | .hbm, ⟨47, _⟩ => ⟨S2x8192x512, .f32⟩
  | .hbm, ⟨48, _⟩ => ⟨S2x8192x512, .f32⟩
  | .hbm, ⟨49, _⟩ => ⟨S1x512, .f32⟩
  | .hbm, ⟨50, _⟩ => ⟨S512, .f32⟩
  | .hbm, ⟨51, _⟩ => ⟨S2x8192x512, .f32⟩
  | .hbm, ⟨52, _⟩ => ⟨S1x1x512, .f32⟩
  | .hbm, ⟨53, _⟩ => ⟨S2x8192x512, .f32⟩
  | .hbm, ⟨54, _⟩ => ⟨S2x8192x512, .f32⟩
  | .hbm, ⟨55, _⟩ => ⟨S2x8192x512, .f32⟩
  | .hbm, ⟨56, _⟩ => ⟨S2x8192x512, .f32⟩
  | .hbm, ⟨57, _⟩ => ⟨S1024x1024, .f32⟩
  | .hbm, ⟨58, _⟩ => ⟨S512x1024, .f32⟩
  | .hbm, ⟨59, _⟩ => ⟨S2x8192x1024, .f32⟩
  | .hbm, ⟨60, _⟩ => ⟨S2x8192x512, .f32⟩
  | .hbm, ⟨61, _⟩ => ⟨S512x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S_, .f32⟩
  | .hbm, ⟨67, _⟩ => ⟨S2x8192x1024, .f32⟩
  | .hbm, ⟨68, _⟩ => ⟨S2x8192x1024, .f32⟩
  | .hbm, ⟨69, _⟩ => ⟨S_, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S_, .f32⟩
  | .hbm, ⟨77, _⟩ => ⟨S2x8192x1024, .f32⟩
  | .hbm, ⟨78, _⟩ => ⟨S2x8192x1024, .f32⟩
  | .hbm, ⟨79, _⟩ => ⟨S_, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | .hbm, ⟨84, _⟩ => ⟨S1024x1024, .f32⟩
  | .hbm, ⟨85, _⟩ => ⟨S2x8192x1024, .f32⟩
  | .hbm, ⟨86, _⟩ => ⟨S1024, .f32⟩
  | .hbm, ⟨87, _⟩ => ⟨S2x8192x1024, .f32⟩
  | .hbm, ⟨88, _⟩ => ⟨S_, .f32⟩
  | .hbm, ⟨89, _⟩ => ⟨S2x8192, .f32⟩
  | .hbm, ⟨90, _⟩ => ⟨S2x8192x1, .f32⟩
  | .hbm, ⟨91, _⟩ => ⟨S_, .f32⟩
  | .hbm, ⟨92, _⟩ => ⟨S2x8192x1, .f32⟩
  | .hbm, ⟨93, _⟩ => ⟨S2x8192x1, .f32⟩
  | .hbm, ⟨94, _⟩ => ⟨S_, .f32⟩
  | .hbm, ⟨95, _⟩ => ⟨S2x8192x1, .f32⟩
  | .hbm, ⟨96, _⟩ => ⟨S2x8192x1, .f32⟩
  | .hbm, ⟨97, _⟩ => ⟨S2x8192x1, .f32⟩
  | .hbm, ⟨98, _⟩ => ⟨S2x8192x1024, .f32⟩
  | .hbm, ⟨99, _⟩ => ⟨S2x8192x1024, .f32⟩
  | .hbm, ⟨100, _⟩ => ⟨S1x1x1024, .f32⟩
  | .hbm, ⟨101, _⟩ => ⟨S2x8192x1024, .f32⟩
  | .hbm, ⟨102, _⟩ => ⟨S2x8192x1024, .f32⟩
  | .hbm, ⟨103, _⟩ => ⟨S2x8192x1024, .f32⟩
  | .hbm, ⟨104, _⟩ => ⟨S16384x1024, .f32⟩
  | .hbm, ⟨105, _⟩ => ⟨S1024x5632, .bf16⟩
  | .hbm, ⟨106, _⟩ => ⟨S2816x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_2 : Ref sig .tc := ⟨.hbm, 66, rfl⟩
abbrev main_v51 : Ref sig .tc := ⟨.hbm, 67, rfl⟩
abbrev main_v52 : Ref sig .tc := ⟨.hbm, 68, rfl⟩
abbrev main_cst_3 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_4 : Ref sig .tc := ⟨.hbm, 76, rfl⟩
abbrev main_v59 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_6 : Ref sig .tc := ⟨.hbm, 88, rfl⟩
abbrev main_v69 : Ref sig .tc := ⟨.hbm, 89, rfl⟩
abbrev main_v70 : Ref sig .tc := ⟨.hbm, 90, rfl⟩
abbrev main_cst_7 : Ref sig .tc := ⟨.hbm, 91, rfl⟩
abbrev main_v71 : Ref sig .tc := ⟨.hbm, 92, rfl⟩
abbrev main_v72 : Ref sig .tc := ⟨.hbm, 93, rfl⟩
abbrev main_cst_8 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x5632, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S2816x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel4.lean ====
abbrev S2x8192x1024 : Shape := ⟨3, ![2, 8192, 1024]⟩
abbrev S1x1024 : Shape := ⟨2, ![1, 1024]⟩
abbrev S1024x5128 : Shape := ⟨2, ![1024, 5128]⟩
abbrev S8 : Shape := ⟨1, ![8]⟩
abbrev S256x256 : Shape := ⟨2, ![256, 256]⟩
abbrev S1024x128 : Shape := ⟨2, ![1024, 128]⟩
abbrev S_ : Shape := ⟨0, ![]⟩
abbrev S5128x1024 : Shape := ⟨2, ![5128, 1024]⟩
abbrev S2x16x512x512 : Shape := ⟨4, ![2, 16, 512, 512]⟩
abbrev S2x16x1x128 : Shape := ⟨4, ![2, 16, 1, 128]⟩
abbrev S1x1024x1024 : Shape := ⟨3, ![1, 1024, 1024]⟩
abbrev S1664x1024 : Shape := ⟨2, ![1664, 1024]⟩
abbrev S1x2x512x512 : Shape := ⟨4, ![1, 2, 512, 512]⟩
abbrev S1x2x1x128 : Shape := ⟨4, ![1, 2, 1, 128]⟩
abbrev S1024x1664 : Shape := ⟨2, ![1024, 1664]⟩
abbrev S1x128 : Shape := ⟨2, ![1, 128]⟩
abbrev S16x128 : Shape := ⟨2, ![16, 128]⟩
abbrev S512x1024 : Shape := ⟨2, ![512, 1024]⟩
abbrev S1024x512 : Shape := ⟨2, ![1024, 512]⟩
abbrev S1152x1024 : Shape := ⟨2, ![1152, 1024]⟩
abbrev S1024x1152 : Shape := ⟨2, ![1024, 1152]⟩
abbrev S256x128 : Shape := ⟨2, ![256, 128]⟩
abbrev S1 : Shape := ⟨1, ![1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x640 : Shape := ⟨2, ![1024, 640]⟩
abbrev S256x640 : Shape := ⟨2, ![256, 640]⟩
abbrev S256x512 : Shape := ⟨2, ![256, 512]⟩
abbrev S512x256 : Shape := ⟨2, ![512, 256]⟩
abbrev S1x1x512x256 : Shape := ⟨4, ![1, 1, 512, 256]⟩
abbrev S128 : Shape := ⟨1, ![128]⟩
abbrev S1x256x128 : Shape := ⟨3, ![1, 256, 128]⟩
abbrev S1x1x1x128 : Shape := ⟨4, ![1, 1, 1, 128]⟩

abbrev nBuf : Space → Nat
  | .hbm => 37
  | .vmem => 18
  | .smem => 1
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024x5128, .f32⟩
  | .hbm, ⟨3, _⟩ => ⟨S8, .f32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .f32⟩
  | .hbm, ⟨8, _⟩ => ⟨S256x256, .bf16⟩
  | .hbm, ⟨9, _⟩ => ⟨S1024x128, .i32⟩
  | .hbm, ⟨10, _⟩ => ⟨S1024x128, .i32⟩
  | .hbm, ⟨11, _⟩ => ⟨S_, .i32⟩
  | .hbm, ⟨12, _⟩ => ⟨S_, .i32⟩
  | .hbm, ⟨13, _⟩ => ⟨S1024x128, .i32⟩
  | .hbm, ⟨14, _⟩ => ⟨S1024x128, .i32⟩
  | .hbm, ⟨15, _⟩ => ⟨S1024x128, .i32⟩
  | .hbm, ⟨16, _⟩ => ⟨S_, .i32⟩
  | .hbm, ⟨17, _⟩ => ⟨S1024x128, .i32⟩
  | .hbm, ⟨18, _⟩ => ⟨S1024x128, .i1⟩
  | .hbm, ⟨19, _⟩ => ⟨S1024x128, .i32⟩
  | .hbm, ⟨20, _⟩ => ⟨S1024x128, .i32⟩
  | .hbm, ⟨21, _⟩ => ⟨S_, .i32⟩
  | .hbm, ⟨22, _⟩ => ⟨S1024x128, .i32⟩
  | .hbm, ⟨23, _⟩ => ⟨S1024x128, .i1⟩
  | .hbm, ⟨24, _⟩ => ⟨S1024x128, .i1⟩
  | .hbm, ⟨25, _⟩ => ⟨S_, .i32⟩
  | .hbm, ⟨26, _⟩ => ⟨S1024x128, .i32⟩
  | .hbm, ⟨27, _⟩ => ⟨S1024x128, .i32⟩
  | .hbm, ⟨28, _⟩ => ⟨S1024x128, .i32⟩
  | .hbm, ⟨29, _⟩ => ⟨S1024x128, .i1⟩
  | .hbm, ⟨30, _⟩ => ⟨S1024x128, .f32⟩
  | .hbm, ⟨31, _⟩ => ⟨S1024x128, .bf16⟩
  | .hbm, ⟨32, _⟩ => ⟨S5128x1024, .f32⟩
  | .hbm, ⟨33, _⟩ => ⟨S2x16x512x512, .bf16⟩
  | .hbm, ⟨34, _⟩ => ⟨S2x8192x1024, .bf16⟩
  | .hbm, ⟨35, _⟩ => ⟨S2x16x512x512, .bf16⟩
  | .hbm, ⟨36, _⟩ => ⟨S2x16x1x128, .i32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1664x1024, .f32⟩
  | .local _ .vmem, ⟨4, _⟩ => ⟨S256x256, .bf16⟩
  | .local _ .vmem, ⟨5, _⟩ => ⟨S1024x128, .bf16⟩
  | .local _ .vmem, ⟨6, _⟩ => ⟨S1x2x512x512, .bf16⟩
  | .local _ .vmem, ⟨7, _⟩ => ⟨S1x2x512x512, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x2x512x512, .bf16⟩
  | .local _ .vmem, ⟨11, _⟩ => ⟨S1x2x512x512, .bf16⟩
  | .local _ .vmem, ⟨12, _⟩ => ⟨S1x2x1x128, .i32⟩
  | .local _ .vmem, ⟨13, _⟩ => ⟨S1x2x1x128, .i32⟩
  | .local _ .vmem, ⟨14, _⟩ => ⟨S1024x1664, .bf16⟩
  | .local _ .vmem, ⟨15, _⟩ => ⟨S1x128, .f32⟩
  | .local _ .vmem, ⟨16, _⟩ => ⟨S1x128, .f32⟩
  | .local _ .vmem, ⟨17, _⟩ => ⟨S16x128, .f32⟩
  | .local _ .smem, ⟨0, _⟩ => ⟨S8, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12_0 : Ref sig .tc := ⟨.hbm, 33, rfl⟩
abbrev main_v12_1 : Ref sig .tc := ⟨.hbm, 34, rfl⟩
abbrev main_v12_2 : Ref sig .tc := ⟨.hbm, 35, rfl⟩
abbrev main_v12_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 8], ![false, false]⟩

def k0_off1 (i : grid0.Coords) (c0_i32_271 : BitVec 32) : Fin 2 → Nat :=
  let arg1 : BitVec 32 := BitVec.ofNat 32 (i 1).val
  let c2_i32_270 : BitVec 32 := 2#32
  let v587 : BitVec 32 := Scalar.muli arg1 c2_i32_270
  let v588 : BitVec 32 := Scalar.addi v587 c0_i32_271
  let v626 : Index := Scalar.indexCast v588
  let c0_287 : Index := 0#32
  ![v626.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1664x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S2x8192x1024 : Shape := ⟨3, ![2, 8192, 1024]⟩
abbrev S1x1024 : Shape := ⟨2, ![1, 1024]⟩
abbrev S1024x5128 : Shape := ⟨2, ![1024, 5128]⟩
abbrev S8 : Shape := ⟨1, ![8]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5128 : Shape := ⟨3, ![2, 8192, 5128]⟩
abbrev S2x8192x512 : Shape := ⟨3, ![2, 8192, 512]⟩
abbrev S2x16x512x512 : Shape := ⟨4, ![2, 16, 512, 512]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024x5128, .f32⟩
  | .hbm, ⟨3, _⟩ => ⟨S8, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x5128, .f32⟩
  | .hbm, ⟨22, _⟩ => ⟨S2x8192x512, .f32⟩
  | .hbm, ⟨23, _⟩ => ⟨S_, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x16x512x512, .f32⟩
  | .hbm, ⟨28, _⟩ => ⟨S2x16x512x512, .f32⟩
  | .hbm, ⟨29, _⟩ => ⟨S2x16x512x512, .bf16⟩
  | .hbm, ⟨30, _⟩ => ⟨S2x16x512x512, .f32⟩
  | .hbm, ⟨31, _⟩ => ⟨S2x16x512x512, .f32⟩
  | .hbm, ⟨32, _⟩ => ⟨S2x16x512x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel5.lean ====
abbrev S4096 : Shape := ⟨1, ![4096]⟩
abbrev S2x16x512x512 : Shape := ⟨4, ![2, 16, 512, 512]⟩
abbrev S2x8192x1024 : Shape := ⟨3, ![2, 8192, 1024]⟩
abbrev S2x512x1024 : Shape := ⟨3, ![2, 512, 1024]⟩
abbrev S1024x1024 : Shape := ⟨2, ![1024, 1024]⟩
abbrev S1024x5128 : Shape := ⟨2, ![1024, 5128]⟩
abbrev S5128x1024 : Shape := ⟨2, ![5128, 1024]⟩
abbrev S2x8192x512 : Shape := ⟨3, ![2, 8192, 512]⟩
abbrev S1024x3584 : Shape := ⟨2, ![1024, 3584]⟩
abbrev S1x16x128x512 : Shape := ⟨4, ![1, 16, 128, 512]⟩
abbrev S1x8192x256 : Shape := ⟨3, ![1, 8192, 256]⟩
abbrev S128x1024 : Shape := ⟨2, ![128, 1024]⟩
abbrev S512x1024 : Shape := ⟨2, ![512, 1024]⟩
abbrev S1x8192x128 : Shape := ⟨3, ![1, 8192, 128]⟩
abbrev S1024x512 : Shape := ⟨2, ![1024, 512]⟩
abbrev S2x256x1024 : Shape := ⟨3, ![2, 256, 1024]⟩
abbrev S2x2x1x1024 : Shape := ⟨4, ![2, 2, 1, 1024]⟩
abbrev S2x1x1024 : Shape := ⟨3, ![2, 1, 1024]⟩
abbrev S2x80x1024 : Shape := ⟨3, ![2, 80, 1024]⟩
abbrev S128x512 : Shape := ⟨2, ![128, 512]⟩
abbrev S1x128x1024 : Shape := ⟨3, ![1, 128, 1024]⟩
abbrev S1x1x128x512 : Shape := ⟨4, ![1, 1, 128, 512]⟩
abbrev S1x128x512 : Shape := ⟨3, ![1, 128, 512]⟩
abbrev S256x256 : Shape := ⟨2, ![256, 256]⟩
abbrev S512x256 : Shape := ⟨2, ![512, 256]⟩
abbrev S1x256x256 : Shape := ⟨3, ![1, 256, 256]⟩
abbrev S256 : Shape := ⟨1, ![256]⟩
abbrev S1x256 : Shape := ⟨2, ![1, 256]⟩
abbrev S1x1x1x256 : Shape := ⟨4, ![1, 1, 1, 256]⟩
abbrev S1x512x256 : Shape := ⟨3, ![1, 512, 256]⟩
abbrev S1x1x256 : Shape := ⟨3, ![1, 1, 256]⟩
abbrev S1x1x64x512 : Shape := ⟨4, ![1, 1, 64, 512]⟩
abbrev S64x512 : Shape := ⟨2, ![64, 512]⟩
abbrev S64x256 : Shape := ⟨2, ![64, 256]⟩
abbrev S16x256 : Shape := ⟨2, ![16, 256]⟩
abbrev S80x256 : Shape := ⟨2, ![80, 256]⟩
abbrev S1x80x256 : Shape := ⟨3, ![1, 80, 256]⟩
abbrev S16x512 : Shape := ⟨2, ![16, 512]⟩
abbrev S80x512 : Shape := ⟨2, ![80, 512]⟩
abbrev S1 : Shape := ⟨1, ![1]⟩
abbrev S1x80x1024 : Shape := ⟨3, ![1, 80, 1024]⟩
abbrev S80x1024 : Shape := ⟨2, ![80, 1024]⟩
abbrev S64x1024 : Shape := ⟨2, ![64, 1024]⟩
abbrev S1x1024 : Shape := ⟨2, ![1, 1024]⟩
abbrev S1024x128 : Shape := ⟨2, ![1024, 128]⟩
abbrev S1x1024x128 : Shape := ⟨3, ![1, 1024, 128]⟩

abbrev nBuf : Space → Nat
  | .hbm => 12
  | .vmem => 26
  | .smem => 1
  | _ => 0

abbrev bufTy : (tb : Table) → Fin (tcTables nBuf tb) → BufTy
  | .hbm, ⟨0, _⟩ => ⟨S2x16x512x512, .bf16⟩
  | .hbm, ⟨1, _⟩ => ⟨S2x8192x1024, .bf16⟩
  | .hbm, ⟨2, _⟩ => ⟨S2x16x512x512, .bf16⟩
  | .hbm, ⟨3, _⟩ => ⟨S2x512x1024, .f32⟩
  | .hbm, ⟨4, _⟩ => ⟨S1024x1024, .f32⟩
  | .hbm, ⟨5, _⟩ => ⟨S1024x5128, .f32⟩
  | .hbm, ⟨6, _⟩ => ⟨S5128x1024, .f32⟩
  | .hbm, ⟨7, _⟩ => ⟨S1024x1024, .f32⟩
  | .hbm, ⟨8, _⟩ => ⟨S2x8192x512, .bf16⟩
  | .hbm, ⟨9, _⟩ => ⟨S1024x1024, .bf16⟩
  | .hbm, ⟨10, _⟩ => ⟨S1024x1024, .bf16⟩
  | .hbm, ⟨11, _⟩ => ⟨S1024x3584, .bf16⟩
  | .local _ .vmem, ⟨0, _⟩ => ⟨S1x16x128x512, .bf16⟩
  | .local _ .vmem, ⟨1, _⟩ => ⟨S1x16x128x512, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x16x128x512, .bf16⟩
  | .local _ .vmem, ⟨5, _⟩ => ⟨S1x16x128x512, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S512x1024, .f32⟩
  | .local _ .vmem, ⟨11, _⟩ => ⟨S512x1024, .f32⟩
  | .local _ .vmem, ⟨12, _⟩ => ⟨S1x8192x128, .bf16⟩
  | .local _ .vmem, ⟨13, _⟩ => ⟨S1x8192x128, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S1024x512, .bf16⟩
  | .local _ .vmem, ⟨19, _⟩ => ⟨S1024x512, .bf16⟩
  | .local _ .vmem, ⟨20, _⟩ => ⟨S2x256x1024, .bf16⟩
  | .local _ .vmem, ⟨21, _⟩ => ⟨S2x512x1024, .f32⟩
  | .local _ .vmem, ⟨22, _⟩ => ⟨S2x512x1024, .f32⟩
  | .local _ .vmem, ⟨23, _⟩ => ⟨S2x2x1x1024, .f32⟩
  | .local _ .vmem, ⟨24, _⟩ => ⟨S2x1x1024, .f32⟩
  | .local _ .vmem, ⟨25, _⟩ => ⟨S2x80x1024, .f32⟩
  | .local _ .smem, ⟨0, _⟩ => ⟨S4096, .i32⟩
  | _, _ => ⟨S2x16x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let c1544_i32 : BitVec 32 := 1544#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c6_i32 : BitVec 32 := 6#32
  let v2 : BitVec 32 := Scalar.minsi v1 c6_i32
  let c512_i32 : BitVec 32 := 512#32
  let v3 : BitVec 32 := Scalar.muli v2 c512_i32
  let v4 : BitVec 32 := Scalar.addi c1544_i32 v3
  v4
def k0_mult2 : BitVec 32 :=
  let c0_i32_49 : BitVec 32 := 0#32
  c0_i32_49
def k0_mult3 : BitVec 32 :=
  let c0_i32_65 : BitVec 32 := 0#32
  c0_i32_65
def k0_mult4 : BitVec 32 :=
  let c0_i32_80 : BitVec 32 := 0#32
  c0_i32_80
def k0_mult5 : BitVec 32 :=
  let c0_i32_95 : BitVec 32 := 0#32
  c0_i32_95
def k0_mult6 : BitVec 32 :=
  let c0_i32_109 : BitVec 32 := 0#32
  c0_i32_109
def k0_mult7 : BitVec 32 :=
  let c0_i32_125 : BitVec 32 := 0#32
  c0_i32_125
def k0_mult8 : BitVec 32 :=
  let c0_i32_141 : BitVec 32 := 0#32
  c0_i32_141
def k0_mult9 : BitVec 32 :=
  let c0_i32_156 : BitVec 32 := 0#32
  c0_i32_156
def k0_mult10 : BitVec 32 :=
  let c512_i32 : BitVec 32 := 512#32
  c512_i32
def k0_mult11 : BitVec 32 :=
  let c512_i32_215 : BitVec 32 := 512#32
  c512_i32_215
def k0_mult12 : BitVec 32 :=
  let c512_i32_256 : BitVec 32 := 512#32
  c512_i32_256
def k0_mult13 : BitVec 32 :=
  let c512_i32_297 : BitVec 32 := 512#32
  c512_i32_297
def k0_off1 (i : grid0.Coords) (c0_i32_452 : BitVec 32) (c0_i32_455 : BitVec 32) : Fin 1 → Nat :=
  let arg0 : BitVec 32 := BitVec.ofNat 32 (i 0).val
  let c16_i32_450 : BitVec 32 := 16#32
  let v581 : BitVec 32 := Scalar.muli arg0 c16_i32_450
  let c1_i32_449 : BitVec 32 := 1#32
  let c7_i32 : BitVec 32 := 7#32
  let v580 : BitVec 32 := Scalar.minsi c1_i32_449 c7_i32
  let c2_i32_451 : BitVec 32 := 2#32
  let v582 : BitVec 32 := Scalar.muli v580 c2_i32_451
  let v583 : BitVec 32 := Scalar.addi v581 v582
  let v584 : BitVec 32 := Scalar.addi v583 c0_i32_452
  let c128_i32_453 : BitVec 32 := 128#32
  let v585 : BitVec 32 := Scalar.muli v584 c128_i32_453
  let arg1 : BitVec 32 := BitVec.ofNat 32 (i 1).val
  let c2_i32_454 : BitVec 32 := 2#32
  let v586 : BitVec 32 := Scalar.muli arg1 c2_i32_454
  let v587 : BitVec 32 := Scalar.addi v585 v586
  let v588 : BitVec 32 := Scalar.addi v587 c0_i32_455
  let v589 : Index := Scalar.indexCast v588
  ![v589.toNat]
def k0_off2 (c0_i32_481 : BitVec 32) : Fin 4 → Nat :=
  let c0_482 : Index := 0#32
  let c1_i32_449 : BitVec 32 := 1#32
  let c7_i32 : BitVec 32 := 7#32
  let v580 : BitVec 32 := Scalar.minsi c1_i32_449 c7_i32
  let c2_i32_480 : BitVec 32 := 2#32
  let v631 : BitVec 32 := Scalar.muli v580 c2_i32_480
  let v632 : BitVec 32 := Scalar.addi v631 c0_i32_481
  let v633 : Index := Scalar.indexCast v632
  let c0_483 : Index := 0#32
  let c0_484 : Index := 0#32
  ![0, v633.toNat, 0, 0]
def k0_mult14 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_514 : BitVec 32 := 512#32
  let v687 : BitVec 32 := Scalar.muli v630 c512_i32_514
  v687

def k0_off3 (v590 : BitVec 32) (v601 : BitVec 32) (v612 : BitVec 32) (v623 : BitVec 32) : Fin 3 → Nat :=
  let c0_515 : Index := 0#32
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_514 : BitVec 32 := 512#32
  let v687 : BitVec 32 := Scalar.muli v630 c512_i32_514
  let v688 : BitVec 32 := v687
  let v689 : Index := Scalar.indexCast v688
  let c0_516 : Index := 0#32
  ![0, v689.toNat, 0]
def k0_mult15 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_542 : BitVec 32 := 512#32
  let v719 : BitVec 32 := Scalar.muli v630 c512_i32_542
  v719
def k0_mult16 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_582 : BitVec 32 := 512#32
  let v765 : BitVec 32 := Scalar.muli v630 c512_i32_582
  v765
def k0_mult17 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_622 : BitVec 32 := 512#32
  let v810 : BitVec 32 := Scalar.muli v630 c512_i32_622
  v810
def k0_mult18 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_662 : BitVec 32 := 512#32
  let v856 : BitVec 32 := Scalar.muli v630 c512_i32_662
  v856
def k0_mult19 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_689 : BitVec 32 := 512#32
  let v885 : BitVec 32 := Scalar.muli v630 c512_i32_689
  v885
def k0_mult20 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_704 : BitVec 32 := 512#32
  let v901 : BitVec 32 := Scalar.muli v630 c512_i32_704
  v901
def k0_mult21 (v590 : BitVec 32) (v601 : BitVec 32) (v612 : BitVec 32) (v623 : BitVec 32) : BitVec 32 :=
  let c2_i32_479 : BitVec 32 := 2#32
  let c16_i32_456 : BitVec 32 := 16#32
  let v591 : BitVec 32 := Scalar.minsi c16_i32_456 v590
  let v602 : BitVec 32 := Scalar.minsi v591 v601
  let v613 : BitVec 32 := Scalar.minsi v602 v612
  let v624 : BitVec 32 := Scalar.minsi v613 v623
  let c1_i32_475 : BitVec 32 := 1#32
  let v625 : BitVec 32 := Scalar.muli v624 c1_i32_475
  let c1_i32_449 : BitVec 32 := 1#32
  let c7_i32 : BitVec 32 := 7#32
  let v580 : BitVec 32 := Scalar.minsi c1_i32_449 c7_i32
  let c2_i32_476 : BitVec 32 := 2#32
  let v626 : BitVec 32 := Scalar.muli v580 c2_i32_476
  let c2_i32_477 : BitVec 32 := 2#32
  let v627 : BitVec 32 := Scalar.subi v626 c2_i32_477
  let v628 : BitVec 32 := Scalar.minsi v625 v627
  let c1_i32_478 : BitVec 32 := 1#32
  let v629 : BitVec 32 := Scalar.shrui v628 c1_i32_478
  let v630 : BitVec 32 := Scalar.muli c2_i32_479 v629
  let c512_i32_719 : BitVec 32 := 512#32
  let v917 : BitVec 32 := Scalar.muli v630 c512_i32_719
  v917

def k0_chk1 (v590 : BitVec 32) (v601 : BitVec 32) (v612 : BitVec 32) (v623 : BitVec 32) : Prop :=
  (512 ∣ (k0_mult14 v590 v601 v612 v623).toNat) ∧
  (∀ a, (k0_off3 v590 v601 v612 v623) a + S1x512x256.size a ≤ S1x8192x256.size a) ∧
  (512 ∣ (k0_mult15 v590 v601 v612 v623).toNat) ∧
  (512 ∣ (k0_mult16 v590 v601 v612 v623).toNat) ∧
  (512 ∣ (k0_mult17 v590 v601 v612 v623).toNat) ∧
  (512 ∣ (k0_mult18 v590 v601 v612 v623).toNat) ∧
  (512 ∣ (k0_mult19 v590 v601 v612 v623).toNat) ∧
  (512 ∣ (k0_mult20 v590 v601 v612 v623).toNat) ∧
  (512 ∣ (k0_mult21 v590 v601 v612 v623).toNat)
theorem k0_mult14_dvd : ∀ (v590 : BitVec 32) (v601 : BitVec 32) (v612 : BitVec 32) (v623 : BitVec 32) (k0_hw1 : k0_chk1 v590 v601 v612 v623), 512 ∣ (k0_mult14 v590 v601 v612 v623).toNat := fun v590 v601 v612 v623 k0_hw1 => k0_hw1.1
theorem k0_off3_inb : ∀ (v590 : BitVec 32) (v601 : BitVec 32) (v612 : BitVec 32) (v623 : BitVec 32) (k0_hw1 : k0_chk1 v590 v601 v612 v623), ∀ a, (k0_off3 v590 v601 v612 v623) a + S1x512x256.size a ≤ S1x8192x256.size a := fun v590 v601 v612 v623 k0_hw1 => k0_hw1.2.1
theorem k0_mult15_dvd : ∀ (v590 : BitVec 32) (v601 : BitVec 32) (v612 : BitVec 32) (v623 : BitVec 32) (k0_hw1 : k0_chk1 v590 v601 v612 v623), 512 ∣ (k0_mult15 v590 v601 v612 v623).toNat := fun v590 v601 v612 v623 k0_hw1 => k0_hw1.2.2.1
theorem k0_mult16_dvd : ∀ (v590 : BitVec 32) (v601 : BitVec 32) (v612 : BitVec 32) (v623 : BitVec 32) (k0_hw1 : k0_chk1 v590 v601 v612 v623), 512 ∣ (k0_mult16 v590 v601 v612 v623).toNat := fun v590 v601 v612 v623 k0_hw1 => k0_hw1.2.2.2.1
theorem k0_mult17_dvd : ∀ (v590 : BitVec 32) (v601 : BitVec 32) (v612 : BitVec 32) (v623 : BitVec 32) (k0_hw1 : k0_chk1 v590 v601 v612 v623), 512 ∣ (k0_mult17 v590 v601 v612 v623).toNat := fun v590 v601 v612 v623 k0_hw1 => k0_hw1.2.2.2.2.1
theorem k0_mult18_dvd : ∀ (v590 : BitVec 32) (v601 : BitVec 32) (v612 : BitVec 32) (v623 : BitVec 32) (k0_hw1 : k0_chk1 v590 v601 v612 v623), 512 ∣ (k0_mult18 v590 v601 v612 v623).toNat := fun v590 v601 v612 v623 k0_hw1 => k0_hw1.2.2.2.2.2.1
theorem k0_mult19_dvd : ∀ (v590 : BitVec 32) (v601 : BitVec 32) (v612 : BitVec 32) (v623 : BitVec 32) (k0_hw1 : k0_chk1 v590 v601 v612 v623), 512 ∣ (k0_mult19 v590 v601 v612 v623).toNat := fun v590 v601 v612 v623 k0_hw1 => k0_hw1.2.2.2.2.2.2.1
theorem k0_mult20_dvd : ∀ (v590 : BitVec 32) (v601 : BitVec 32) (v612 : BitVec 32) (v623 : BitVec 32) (k0_hw1 : k0_chk1 v590 v601 v612 v623), 512 ∣ (k0_mult20 v590 v601 v612 v623).toNat := fun v590 v601 v612 v623 k0_hw1 => k0_hw1.2.2.2.2.2.2.2.1
theorem k0_mult21_dvd : ∀ (v590 : BitVec 32) (v601 : BitVec 32) (v612 : BitVec 32) (v623 : BitVec 32) (k0_hw1 : k0_chk1 v590 v601 v612 v623), 512 ∣ (k0_mult21 v590 v601 v612 v623).toNat := fun v590 v601 v612 v623 k0_hw1 => k0_hw1.2.2.2.2.2.2.2.2

@[reducible] def k0_t1_loop : Scf.Loop 32 :=
  let c1_i32_751 : BitVec 32 := 1#32
  let c7_i32_752 : BitVec 32 := 7#32
  let v959 : BitVec 32 := Scalar.addi c1_i32_751 c7_i32_752
  let c1_i32_753 : BitVec 32 := 1#32
  ⟨c1_i32_751, v959, c1_i32_753⟩
def k0_off4 (i : grid0.Coords) (k0_t1 : Fin k0_t1_loop.trips) (c0_i32_758 : BitVec 32) (c0_i32_761 : BitVec 32) : Fin 1 → Nat :=
  let arg0 : BitVec 32 := BitVec.ofNat 32 (i 0).val
  let c16_i32_756 : BitVec 32 := 16#32
  let v961 : BitVec 32 := Scalar.muli arg0 c16_i32_756
  let c1_i32_751 : BitVec 32 := 1#32
  let c1_i32_753 : BitVec 32 := 1#32
  let arg19 : BitVec 32 := Scf.iv c1_i32_751 c1_i32_753 k0_t1
  let c2_i32_757 : BitVec 32 := 2#32
  let v962 : BitVec 32 := Scalar.muli arg19 c2_i32_757
  let v963 : BitVec 32 := Scalar.addi v961 v962
  let v964 : BitVec 32 := Scalar.addi v963 c0_i32_758
  let c128_i32_759 : BitVec 32 := 128#32
  let v965 : BitVec 32 := Scalar.muli v964 c128_i32_759
  let arg1 : BitVec 32 := BitVec.ofNat 32 (i 1).val
  let c2_i32_760 : BitVec 32 := 2#32
  let v966 : BitVec 32 := Scalar.muli arg1 c2_i32_760
  let v967 : BitVec 32 := Scalar.addi v965 v966
  let v968 : BitVec 32 := Scalar.addi v967 c0_i32_761
  let v969 : Index := Scalar.indexCast v968
  ![v969.toNat]
@[reducible] def k0_t2_loop (k0_t1 : Fin k0_t1_loop.trips) (v970 : BitVec 32) (v981 : BitVec 32) (v992 : BitVec 32) (v1003 : BitVec 32) : Scf.Loop 32 :=
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_791 : BitVec 32 := 1#32
  ⟨v1011, v1018, c1_i32_791⟩

def k0_mult22 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_1994 : BitVec 32 := 512#32
  let v2515 : BitVec 32 := Scalar.muli v2514 c512_i32_1994
  v2515
def k0_off5 (k0_t1 : Fin k0_t1_loop.trips) (v970 : BitVec 32) (v981 : BitVec 32) (v992 : BitVec 32) (v1003 : BitVec 32) (k0_t2 : Fin (k0_t2_loop k0_t1 v970 v981 v992 v1003).trips) : Fin 3 → Nat :=
  let c0_1995 : Index := 0#32
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_1994 : BitVec 32 := 512#32
  let v2515 : BitVec 32 := Scalar.muli v2514 c512_i32_1994
  let v2516 : BitVec 32 := v2515
  let v2517 : Index := Scalar.indexCast v2516
  let c0_1996 : Index := 0#32
  ![0, v2517.toNat, 0]
def k0_mult23 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2022 : BitVec 32 := 512#32
  let v2547 : BitVec 32 := Scalar.muli v2514 c512_i32_2022
  v2547
def k0_off6 (k0_t1 : Fin k0_t1_loop.trips) (v970 : BitVec 32) (v981 : BitVec 32) (v992 : BitVec 32) (v1003 : BitVec 32) (k0_t2 : Fin (k0_t2_loop k0_t1 v970 v981 v992 v1003).trips) : Fin 4 → Nat :=
  let c0_2037 : Index := 0#32
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let v2563 : Index := Scalar.indexCast v2513
  let c0_2038 : Index := 0#32
  let c0_2039 : Index := 0#32
  ![0, v2563.toNat, 0, 0]
def k0_mult24 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2061 : BitVec 32 := 512#32
  let v2593 : BitVec 32 := Scalar.muli v2514 c512_i32_2061
  v2593
def k0_mult25 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2100 : BitVec 32 := 512#32
  let v2639 : BitVec 32 := Scalar.muli v2514 c512_i32_2100
  v2639
def k0_mult26 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2139 : BitVec 32 := 512#32
  let v2685 : BitVec 32 := Scalar.muli v2514 c512_i32_2139
  v2685
def k0_mult27 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2178 : BitVec 32 := 512#32
  let v2731 : BitVec 32 := Scalar.muli v2514 c512_i32_2178
  v2731
def k0_off7 (k0_t1 : Fin k0_t1_loop.trips) (v970 : BitVec 32) (v981 : BitVec 32) (v992 : BitVec 32) (v1003 : BitVec 32) (k0_t2 : Fin (k0_t2_loop k0_t1 v970 v981 v992 v1003).trips) : Fin 4 → Nat :=
  let c0_2193 : Index := 0#32
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let v2747 : Index := Scalar.indexCast v2513
  let c64_2194 : Index := 64#32
  let c0_2195 : Index := 0#32
  ![0, v2747.toNat, 64, 0]
def k0_mult28 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2217 : BitVec 32 := 512#32
  let v2777 : BitVec 32 := Scalar.muli v2514 c512_i32_2217
  v2777
def k0_mult29 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2513 : BitVec 32 := Scalar.muli c2_i32_1992 arg20
  let c1_i32_1993 : BitVec 32 := 1#32
  let v2514 : BitVec 32 := Scalar.addi v2513 c1_i32_1993
  let c512_i32_2256 : BitVec 32 := 512#32
  let v2823 : BitVec 32 := Scalar.muli v2514 c512_i32_2256
  v2823
def k0_mult30 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2309 : BitVec 32 := 512#32
  let v2886 : BitVec 32 := Scalar.muli v2885 c512_i32_2309
  v2886
def k0_off8 (k0_t1 : Fin k0_t1_loop.trips) (v970 : BitVec 32) (v981 : BitVec 32) (v992 : BitVec 32) (v1003 : BitVec 32) (k0_t2 : Fin (k0_t2_loop k0_t1 v970 v981 v992 v1003).trips) : Fin 3 → Nat :=
  let c0_2310 : Index := 0#32
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2309 : BitVec 32 := 512#32
  let v2886 : BitVec 32 := Scalar.muli v2885 c512_i32_2309
  let v2887 : BitVec 32 := v2886
  let v2888 : Index := Scalar.indexCast v2887
  let c0_2311 : Index := 0#32
  ![0, v2888.toNat, 0]
def k0_mult31 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2337 : BitVec 32 := 512#32
  let v2918 : BitVec 32 := Scalar.muli v2885 c512_i32_2337
  v2918
def k0_off9 (k0_t1 : Fin k0_t1_loop.trips) (v970 : BitVec 32) (v981 : BitVec 32) (v992 : BitVec 32) (v1003 : BitVec 32) (k0_t2 : Fin (k0_t2_loop k0_t1 v970 v981 v992 v1003).trips) : Fin 4 → Nat :=
  let c0_2352 : Index := 0#32
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let v2934 : Index := Scalar.indexCast v2884
  let c0_2353 : Index := 0#32
  let c0_2354 : Index := 0#32
  ![0, v2934.toNat, 0, 0]
def k0_mult32 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2376 : BitVec 32 := 512#32
  let v2964 : BitVec 32 := Scalar.muli v2885 c512_i32_2376
  v2964
def k0_mult33 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2415 : BitVec 32 := 512#32
  let v3010 : BitVec 32 := Scalar.muli v2885 c512_i32_2415
  v3010
def k0_mult34 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2454 : BitVec 32 := 512#32
  let v3056 : BitVec 32 := Scalar.muli v2885 c512_i32_2454
  v3056
def k0_mult35 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2493 : BitVec 32 := 512#32
  let v3102 : BitVec 32 := Scalar.muli v2885 c512_i32_2493
  v3102
def k0_off10 (k0_t1 : Fin k0_t1_loop.trips) (v970 : BitVec 32) (v981 : BitVec 32) (v992 : BitVec 32) (v1003 : BitVec 32) (k0_t2 : Fin (k0_t2_loop k0_t1 v970 v981 v992 v1003).trips) : Fin 4 → Nat :=
  let c0_2508 : Index := 0#32
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let v3118 : Index := Scalar.indexCast v2884
  let c64_2509 : Index := 64#32
  let c0_2510 : Index := 0#32
  ![0, v3118.toNat, 64, 0]
def k0_mult36 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2532 : BitVec 32 := 512#32
  let v3148 : BitVec 32 := Scalar.muli v2885 c512_i32_2532
  v3148
def k0_mult37 (k0_t1 : Fin k0_t1_loop.trips) (v970 : BitVec 32) (v981 : BitVec 32) (v992 : BitVec 32) (v1003 : BitVec 32) (k0_t2 : Fin (k0_t2_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_791 : BitVec 32 := 1#32
  let arg20 : BitVec 32 := Scf.iv v1011 c1_i32_791 k0_t2
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2571 : BitVec 32 := 512#32
  let v3194 : BitVec 32 := Scalar.muli v2885 c512_i32_2571
  v3194
@[reducible] def k0_t3_loop (k0_t1 : Fin k0_t1_loop.trips) (v970 : BitVec 32) (v981 : BitVec 32) (v992 : BitVec 32) (v1003 : BitVec 32) : Scf.Loop 32 :=
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let v1015 : BitVec 32 := Scalar.addi v1011 v1014
  let c1_i32_792 : BitVec 32 := 1#32
  ⟨v1018, v1015, c1_i32_792⟩
def k0_mult38 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_1994 : BitVec 32 := 512#32
  let v2515 : BitVec 32 := Scalar.muli v2514 c512_i32_1994
  v2515
def k0_off11 (k0_t1 : Fin k0_t1_loop.trips) (v970 : BitVec 32) (v981 : BitVec 32) (v992 : BitVec 32) (v1003 : BitVec 32) (k0_t3 : Fin (k0_t3_loop k0_t1 v970 v981 v992 v1003).trips) : Fin 3 → Nat :=
  let c0_1995 : Index := 0#32
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_1994 : BitVec 32 := 512#32
  let v2515 : BitVec 32 := Scalar.muli v2514 c512_i32_1994
  let v2516 : BitVec 32 := v2515
  let v2517 : Index := Scalar.indexCast v2516
  let c0_1996 : Index := 0#32
  ![0, v2517.toNat, 0]
def k0_mult39 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2022 : BitVec 32 := 512#32
  let v2547 : BitVec 32 := Scalar.muli v2514 c512_i32_2022
  v2547
def k0_off12 (k0_t1 : Fin k0_t1_loop.trips) (v970 : BitVec 32) (v981 : BitVec 32) (v992 : BitVec 32) (v1003 : BitVec 32) (k0_t3 : Fin (k0_t3_loop k0_t1 v970 v981 v992 v1003).trips) : Fin 4 → Nat :=
  let c0_2037 : Index := 0#32
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let v2563 : Index := Scalar.indexCast v2513
  let c0_2038 : Index := 0#32
  let c0_2039 : Index := 0#32
  ![0, v2563.toNat, 0, 0]
def k0_mult40 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2061 : BitVec 32 := 512#32
  let v2593 : BitVec 32 := Scalar.muli v2514 c512_i32_2061
  v2593
def k0_mult41 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2100 : BitVec 32 := 512#32
  let v2639 : BitVec 32 := Scalar.muli v2514 c512_i32_2100
  v2639
def k0_mult42 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2139 : BitVec 32 := 512#32
  let v2685 : BitVec 32 := Scalar.muli v2514 c512_i32_2139
  v2685
def k0_mult43 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2178 : BitVec 32 := 512#32
  let v2731 : BitVec 32 := Scalar.muli v2514 c512_i32_2178
  v2731
def k0_off13 (k0_t1 : Fin k0_t1_loop.trips) (v970 : BitVec 32) (v981 : BitVec 32) (v992 : BitVec 32) (v1003 : BitVec 32) (k0_t3 : Fin (k0_t3_loop k0_t1 v970 v981 v992 v1003).trips) : Fin 4 → Nat :=
  let c0_2193 : Index := 0#32
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let v2747 : Index := Scalar.indexCast v2513
  let c64_2194 : Index := 64#32
  let c0_2195 : Index := 0#32
  ![0, v2747.toNat, 64, 0]
def k0_mult44 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2217 : BitVec 32 := 512#32
  let v2777 : BitVec 32 := Scalar.muli v2514 c512_i32_2217
  v2777
def k0_mult45 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_1992 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2513 : BitVec 32 := Scalar.muli c2_i32_1992 arg20
  let c1_i32_1993 : BitVec 32 := 1#32
  let v2514 : BitVec 32 := Scalar.addi v2513 c1_i32_1993
  let c512_i32_2256 : BitVec 32 := 512#32
  let v2823 : BitVec 32 := Scalar.muli v2514 c512_i32_2256
  v2823
def k0_mult46 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2309 : BitVec 32 := 512#32
  let v2886 : BitVec 32 := Scalar.muli v2885 c512_i32_2309
  v2886
def k0_off14 (k0_t1 : Fin k0_t1_loop.trips) (v970 : BitVec 32) (v981 : BitVec 32) (v992 : BitVec 32) (v1003 : BitVec 32) (k0_t3 : Fin (k0_t3_loop k0_t1 v970 v981 v992 v1003).trips) : Fin 3 → Nat :=
  let c0_2310 : Index := 0#32
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2309 : BitVec 32 := 512#32
  let v2886 : BitVec 32 := Scalar.muli v2885 c512_i32_2309
  let v2887 : BitVec 32 := v2886
  let v2888 : Index := Scalar.indexCast v2887
  let c0_2311 : Index := 0#32
  ![0, v2888.toNat, 0]
def k0_mult47 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2337 : BitVec 32 := 512#32
  let v2918 : BitVec 32 := Scalar.muli v2885 c512_i32_2337
  v2918
def k0_off15 (k0_t1 : Fin k0_t1_loop.trips) (v970 : BitVec 32) (v981 : BitVec 32) (v992 : BitVec 32) (v1003 : BitVec 32) (k0_t3 : Fin (k0_t3_loop k0_t1 v970 v981 v992 v1003).trips) : Fin 4 → Nat :=
  let c0_2352 : Index := 0#32
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let v2934 : Index := Scalar.indexCast v2884
  let c0_2353 : Index := 0#32
  let c0_2354 : Index := 0#32
  ![0, v2934.toNat, 0, 0]
def k0_mult48 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2376 : BitVec 32 := 512#32
  let v2964 : BitVec 32 := Scalar.muli v2885 c512_i32_2376
  v2964
def k0_mult49 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2415 : BitVec 32 := 512#32
  let v3010 : BitVec 32 := Scalar.muli v2885 c512_i32_2415
  v3010
def k0_mult50 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2454 : BitVec 32 := 512#32
  let v3056 : BitVec 32 := Scalar.muli v2885 c512_i32_2454
  v3056
def k0_mult51 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2493 : BitVec 32 := 512#32
  let v3102 : BitVec 32 := Scalar.muli v2885 c512_i32_2493
  v3102
def k0_off16 (k0_t1 : Fin k0_t1_loop.trips) (v970 : BitVec 32) (v981 : BitVec 32) (v992 : BitVec 32) (v1003 : BitVec 32) (k0_t3 : Fin (k0_t3_loop k0_t1 v970 v981 v992 v1003).trips) : Fin 4 → Nat :=
  let c0_2508 : Index := 0#32
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let v3118 : Index := Scalar.indexCast v2884
  let c64_2509 : Index := 64#32
  let c0_2510 : Index := 0#32
  ![0, v3118.toNat, 64, 0]
def k0_mult52 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2532 : BitVec 32 := 512#32
  let v3148 : BitVec 32 := Scalar.muli v2885 c512_i32_2532
  v3148
def k0_mult53 (k0_t1 : Fin k0_t1_loop.trips) (v970 : BitVec 32) (v981 : BitVec 32) (v992 : BitVec 32) (v1003 : BitVec 32) (k0_t3 : Fin (k0_t3_loop k0_t1 v970 v981 v992 v1003).trips) : BitVec 32 :=
  let c2_i32_2306 : BitVec 32 := 2#32
  let c2_i32_785 : BitVec 32 := 2#32
  let c16_i32_762 : BitVec 32 := 16#32
  let v971 : BitVec 32 := Scalar.minsi c16_i32_762 v970
  let v982 : BitVec 32 := Scalar.minsi v971 v981
  let v993 : BitVec 32 := Scalar.minsi v982 v992
  let v1004 : BitVec 32 := Scalar.minsi v993 v1003
  let c1_i32_781 : BitVec 32 := 1#32
  let v1005 : BitVec 32 := Scalar.muli v1004 c1_i32_781
  let c1_i32_751 : BitVec 32 := 1#32
  let c1_i32_753 : BitVec 32 := 1#32
  let arg19 : BitVec 32 := Scf.iv c1_i32_751 c1_i32_753 k0_t1
  let c2_i32_782 : BitVec 32 := 2#32
  let v1006 : BitVec 32 := Scalar.muli arg19 c2_i32_782
  let c2_i32_783 : BitVec 32 := 2#32
  let v1007 : BitVec 32 := Scalar.subi v1006 c2_i32_783
  let v1008 : BitVec 32 := Scalar.minsi v1005 v1007
  let c1_i32_784 : BitVec 32 := 1#32
  let v1009 : BitVec 32 := Scalar.shrui v1008 c1_i32_784
  let v1010 : BitVec 32 := Scalar.muli c2_i32_785 v1009
  let c1_i32_786 : BitVec 32 := 1#32
  let v1011 : BitVec 32 := Scalar.shrui v1010 c1_i32_786
  let c1_i32_787 : BitVec 32 := 1#32
  let v1012 : BitVec 32 := Scalar.muli arg19 c1_i32_787
  let c1_i32_788 : BitVec 32 := 1#32
  let v1013 : BitVec 32 := Scalar.subi v1012 c1_i32_788
  let v1014 : BitVec 32 := Scalar.subi v1013 v1011
  let c1_i32_790 : BitVec 32 := 1#32
  let v1016 : BitVec 32 := Scalar.divsi v1014 c1_i32_790
  let v1017 : BitVec 32 := Scalar.muli v1016 c1_i32_790
  let v1018 : BitVec 32 := Scalar.addi v1011 v1017
  let c1_i32_792 : BitVec 32 := 1#32
  let arg20 : BitVec 32 := Scf.iv v1018 c1_i32_792 k0_t3
  let v2883 : BitVec 32 := Scalar.muli c2_i32_2306 arg20
  let c1_i32_2307 : BitVec 32 := 1#32
  let v2884 : BitVec 32 := Scalar.addi v2883 c1_i32_2307
  let c1_i32_2308 : BitVec 32 := 1#32
  let v2885 : BitVec 32 := Scalar.addi v2884 c1_i32_2308
  let c512_i32_2571 : BitVec 32 := 512#32
  let v3194 : BitVec 32 := Scalar.muli v2885 c512_i32_2571
  v3194

def k0_chk2_0 (k0_t1 : Fin k0_t1_loop.trips) (v970 : BitVec 32) (v981 : BitVec 32) (v992 : BitVec 32) (v1003 : BitVec 32) : Prop :=
  ((k0_t2_loop k0_t1 v970 v981 v992 v1003).OK) ∧
  (∀ k0_t2 : Fin (k0_t2_loop k0_t1 v970 v981 v992 v1003).trips, 512 ∣ (k0_mult22 k0_t1 v970 v981 v992 v1003 k0_t2).toNat) ∧
  (∀ k0_t2 : Fin (k0_t2_loop k0_t1 v970 v981 v992 v1003).trips, ∀ a, (k0_off5 k0_t1 v970 v981 v992 v1003 k0_t2) a + S1x512x256.size a ≤ S1x8192x256.size a) ∧
  (∀ k0_t2 : Fin (k0_t2_loop k0_t1 v970 v981 v992 v1003).trips, 512 ∣ (k0_mult23 k0_t1 v970 v981 v992 v1003 k0_t2).toNat) ∧
  (∀ k0_t2 : Fin (k0_t2_loop k0_t1 v970 v981 v992 v1003).trips, ∀ a, (k0_off6 k0_t1 v970 v981 v992 v1003 k0_t2) a + S1x1x64x512.size a ≤ S1x16x128x512.size a) ∧
  (∀ k0_t2 : Fin (k0_t2_loop k0_t1 v970 v981 v992 v1003).trips, 512 ∣ (k0_mult24 k0_t1 v970 v981 v992 v1003 k0_t2).toNat) ∧
  (∀ k0_t2 : Fin (k0_t2_loop k0_t1 v970 v981 v992 v1003).trips, 512 ∣ (k0_mult25 k0_t1 v970 v981 v992 v1003 k0_t2).toNat) ∧
  (∀ k0_t2 : Fin (k0_t2_loop k0_t1 v970 v981 v992 v1003).trips, 512 ∣ (k0_mult26 k0_t1 v970 v981 v992 v1003 k0_t2).toNat) ∧
  (∀ k0_t2 : Fin (k0_t2_loop k0_t1 v970 v981 v992 v1003).trips, 512 ∣ (k0_mult27 k0_t1 v970 v981 v992 v1003 k0_t2).toNat) ∧
  (∀ k0_t2 : Fin (k0_t2_loop k0_t1 v970 v981 v992 v1003).trips, ∀ a, (k0_off7 k0_t1 v970 v981 v992 v1003 k0_t2) a + S1x1x64x512.size a ≤ S1x16x128x512.size a) ∧
  (∀ k0_t2 : Fin (k0_t2_loop k0_t1 v970 v981 v992 v1003).trips, 512 ∣ (k0_mult28 k0_t1 v970 v981 v992 v1003 k0_t2).toNat) ∧
  (∀ k0_t2 : Fin (k0_t2_loop k0_t1 v970 v981 v992 v1003).trips, 512 ∣ (k0_mult29 k0_t1 v970 v981 v992 v1003 k0_t2).toNat) ∧
  (∀ k0_t2 : Fin (k0_t2_loop k0_t1 v970 v981 v992 v1003).trips, 512 ∣ (k0_mult30 k0_t1 v970 v981 v992 v1003 k0_t2).toNat) ∧
  (∀ k0_t2 : Fin (k0_t2_loop k0_t1 v970 v981 v992 v1003).trips, ∀ a, (k0_off8 k0_t1 v970 v981 v992 v1003 k0_t2) a + S1x512x256.size a ≤ S1x8192x256.size a) ∧
  (∀ k0_t2 : Fin (k0_t2_loop k0_t1 v970 v981 v992 v1003).trips, 512 ∣ (k0_mult31 k0_t1 v970 v981 v992 v1003 k0_t2).toNat) ∧
  (∀ k0_t2 : Fin (k0_t2_loop k0_t1 v970 v981 v992 v1003).trips, ∀ a, (k0_off9 k0_t1 v970 v981 v992 v1003 k0_t2) a + S1x1x64x512.size a ≤ S1x16x128x512.size a) ∧
  (∀ k0_t2 : Fin (k0_t2_loop k0_t1 v970 v981 v992 v1003).trips, 512 ∣ (k0_mult32 k0_t1 v970 v981 v992 v1003 k0_t2).toNat) ∧
  (∀ k0_t2 : Fin (k0_t2_loop k0_t1 v970 v981 v992 v1003).trips, 512 ∣ (k0_mult33 k0_t1 v970 v981 v992 v1003 k0_t2).toNat) ∧
  (∀ k0_t2 : Fin (k0_t2_loop k0_t1 v970 v981 v992 v1003).trips, 512 ∣ (k0_mult34 k0_t1 v970 v981 v992 v1003 k0_t2).toNat) ∧
  (∀ k0_t2 : Fin (k0_t2_loop k0_t1 v970 v981 v992 v1003).trips, 512 ∣ (k0_mult35 k0_t1 v970 v981 v992 v1003 k0_t2).toNat) ∧
  (∀ k0_t2 : Fin (k0_t2_loop k0_t1 v970 v981 v992 v1003).trips, ∀ a, (k0_off10 k0_t1 v970 v981 v992 v1003 k0_t2) a + S1x1x64x512.size a ≤ S1x16x128x512.size a) ∧
  (∀ k0_t2 : Fin (k0_t2_loop k0_t1 v970 v981 v992 v1003).trips, 512 ∣ (k0_mult36 k0_t1 v970 v981 v992 v1003 k0_t2).toNat) ∧
  (∀ k0_t2 : Fin (k0_t2_loop k0_t1 v970 v981 v992 v1003).trips, 512 ∣ (k0_mult37 k0_t1 v970 v981 v992 v1003 k0_t2).toNat) ∧
  ((k0_t3_loop k0_t1 v970 v981 v992 v1003).OK) ∧
  (∀ k0_t3 : Fin (k0_t3_loop k0_t1 v970 v981 v992 v1003).trips, 512 ∣ (k0_mult38 k0_t1 v970 v981 v992 v1003 k0_t3).toNat) ∧
  (∀ k0_t3 : Fin (k0_t3_loop k0_t1 v970 v981 v992 v1003).trips, ∀ a, (k0_off11 k0_t1 v970 v981 v992 v1003 k0_t3) a + S1x512x256.size a ≤ S1x8192x256.size a) ∧
  (∀ k0_t3 : Fin (k0_t3_loop k0_t1 v970 v981 v992 v1003).trips, 512 ∣ (k0_mult39 k0_t1 v970 v981 v992 v1003 k0_t3).toNat) ∧
  (∀ k0_t3 : Fin (k0_t3_loop k0_t1 v970 v981 v992 v1003).trips, ∀ a, (k0_off12 k0_t1 v970 v981 v992 v1003 k0_t3) a + S1x1x64x512.size a ≤ S1x16x128x512.size a) ∧
  (∀ k0_t3 : Fin (k0_t3_loop k0_t1 v970 v981 v992 v1003).trips, 512 ∣ (k0_mult40 k0_t1 v970 v981 v992 v1003 k0_t3).toNat) ∧
  (∀ k0_t3 : Fin (k0_t3_loop k0_t1 v970 v981 v992 v1003).trips, 512 ∣ (k0_mult41 k0_t1 v970 v981 v992 v1003 k0_t3).toNat) ∧
  (∀ k0_t3 : Fin (k0_t3_loop k0_t1 v970 v981 v992 v1003).trips, 512 ∣ (k0_mult42 k0_t1 v970 v981 v992 v1003 k0_t3).toNat) ∧
  (∀ k0_t3 : Fin (k0_t3_loop k0_t1 v970 v981 v992 v1003).trips, 512 ∣ (k0_mult43 k0_t1 v970 v981 v992 v1003 k0_t3).toNat)
def k0_chk2_1 (k0_t1 : Fin k0_t1_loop.trips) (v970 : BitVec 32) (v981 : BitVec 32) (v992 : BitVec 32) (v1003 : BitVec 32) : Prop :=
  (∀ k0_t3 : Fin (k0_t3_loop k0_t1 v970 v981 v992 v1003).trips, ∀ a, (k0_off13 k0_t1 v970 v981 v992 v1003 k0_t3) a + S1x1x64x512.size a ≤ S1x16x128x512.size a) ∧
  (∀ k0_t3 : Fin (k0_t3_loop k0_t1 v970 v981 v992 v1003).trips, 512 ∣ (k0_mult44 k0_t1 v970 v981 v992 v1003 k0_t3).toNat) ∧
  (∀ k0_t3 : Fin (k0_t3_loop k0_t1 v970 v981 v992 v1003).trips, 512 ∣ (k0_mult45 k0_t1 v970 v981 v992 v1003 k0_t3).toNat) ∧
  (∀ k0_t3 : Fin (k0_t3_loop k0_t1 v970 v981 v992 v1003).trips, 512 ∣ (k0_mult46 k0_t1 v970 v981 v992 v1003 k0_t3).toNat) ∧
  (∀ k0_t3 : Fin (k0_t3_loop k0_t1 v970 v981 v992 v1003).trips, ∀ a, (k0_off14 k0_t1 v970 v981 v992 v1003 k0_t3) a + S1x512x256.size a ≤ S1x8192x256.size a) ∧
  (∀ k0_t3 : Fin (k0_t3_loop k0_t1 v970 v981 v992 v1003).trips, 512 ∣ (k0_mult47 k0_t1 v970 v981 v992 v1003 k0_t3).toNat) ∧
  (∀ k0_t3 : Fin (k0_t3_loop k0_t1 v970 v981 v992 v1003).trips, ∀ a, (k0_off15 k0_t1 v970 v981 v992 v1003 k0_t3) a + S1x1x64x512.size a ≤ S1x16x128x512.size a) ∧
  (∀ k0_t3 : Fin (k0_t3_loop k0_t1 v970 v981 v992 v1003).trips, 512 ∣ (k0_mult48 k0_t1 v970 v981 v992 v1003 k0_t3).toNat) ∧
  (∀ k0_t3 : Fin (k0_t3_loop k0_t1 v970 v981 v992 v1003).trips, 512 ∣ (k0_mult49 k0_t1 v970 v981 v992 v1003 k0_t3).toNat) ∧
  (∀ k0_t3 : Fin (k0_t3_loop k0_t1 v970 v981 v992 v1003).trips, 512 ∣ (k0_mult50 k0_t1 v970 v981 v992 v1003 k0_t3).toNat) ∧
  (∀ k0_t3 : Fin (k0_t3_loop k0_t1 v970 v981 v992 v1003).trips, 512 ∣ (k0_mult51 k0_t1 v970 v981 v992 v1003 k0_t3).toNat) ∧
  (∀ k0_t3 : Fin (k0_t3_loop k0_t1 v970 v981 v992 v1003).trips, ∀ a, (k0_off16 k0_t1 v970 v981 v992 v1003 k0_t3) a + S1x1x64x512.size a ≤ S1x16x128x512.size a) ∧
  (∀ k0_t3 : Fin (k0_t3_loop k0_t1 v970 v981 v992 v1003).trips, 512 ∣ (k0_mult52 k0_t1 v970 v981 v992 v1003 k0_t3).toNat) ∧
  (∀ k0_t3 : Fin (k0_t3_loop k0_t1 v970 v981 v992 v1003).trips, 512 ∣ (k0_mult53 k0_t1 v970 v981 v992 v1003 k0_t3).toNat)
def k0_chk2 (k0_t1 : Fin k0_t1_loop.trips) (v970 : BitVec 32) (v981 : BitVec 32) (v992 : BitVec 32) (v1003 : BitVec 32) : Prop :=
  k0_chk2_0 k0_t1 v970 v981 v992 v1003 ∧
  k0_chk2_1 k0_t1 v970 v981 v992 v1003
theorem k0_t2_ok : ∀ (k0_t1 : Fin k0_t1_loop.trips) (v970 : BitVec 32) (v981 : BitVec 32) (v992 : BitVec 32) (v1003 : BitVec 32) (k0_hw2 : k0_chk2 k0_t1 v970 v981 v992 v1003), (k0_t2_loop k0_t1 v970 v981 v992 v1003).OK := fun k0_t1 v970 v981 v992 v1003 k0_hw2 => k0_hw2.1.1
theorem k0_mult22_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult22 k0_t1 v970 v981 v992 v1003 k0_t2).toNat := fun k0_t1 v970 v981 v992 v1003 k0_hw2 k0_t2 => k0_hw2.1.2.1 k0_t2
theorem k0_off5_inb : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), ∀ a, (k0_off5 k0_t1 v970 v981 v992 v1003 k0_t2) a + S1x512x256.size a ≤ S1x8192x256.size a := fun k0_t1 v970 v981 v992 v1003 k0_hw2 k0_t2 => k0_hw2.1.2.2.1 k0_t2
theorem k0_mult23_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult23 k0_t1 v970 v981 v992 v1003 k0_t2).toNat := fun k0_t1 v970 v981 v992 v1003 k0_hw2 k0_t2 => k0_hw2.1.2.2.2.1 k0_t2
theorem k0_off6_inb : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), ∀ a, (k0_off6 k0_t1 v970 v981 v992 v1003 k0_t2) a + S1x1x64x512.size a ≤ S1x16x128x512.size a := fun k0_t1 v970 v981 v992 v1003 k0_hw2 k0_t2 => k0_hw2.1.2.2.2.2.1 k0_t2
theorem k0_mult24_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult24 k0_t1 v970 v981 v992 v1003 k0_t2).toNat := fun k0_t1 v970 v981 v992 v1003 k0_hw2 k0_t2 => k0_hw2.1.2.2.2.2.2.1 k0_t2
theorem k0_mult25_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult25 k0_t1 v970 v981 v992 v1003 k0_t2).toNat := fun k0_t1 v970 v981 v992 v1003 k0_hw2 k0_t2 => k0_hw2.1.2.2.2.2.2.2.1 k0_t2
theorem k0_mult26_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult26 k0_t1 v970 v981 v992 v1003 k0_t2).toNat := fun k0_t1 v970 v981 v992 v1003 k0_hw2 k0_t2 => k0_hw2.1.2.2.2.2.2.2.2.1 k0_t2
theorem k0_mult27_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult27 k0_t1 v970 v981 v992 v1003 k0_t2).toNat := fun k0_t1 v970 v981 v992 v1003 k0_hw2 k0_t2 => k0_hw2.1.2.2.2.2.2.2.2.2.1 k0_t2
theorem k0_off7_inb : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), ∀ a, (k0_off7 k0_t1 v970 v981 v992 v1003 k0_t2) a + S1x1x64x512.size a ≤ S1x16x128x512.size a := fun k0_t1 v970 v981 v992 v1003 k0_hw2 k0_t2 => k0_hw2.1.2.2.2.2.2.2.2.2.2.1 k0_t2
theorem k0_mult28_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult28 k0_t1 v970 v981 v992 v1003 k0_t2).toNat := fun k0_t1 v970 v981 v992 v1003 k0_hw2 k0_t2 => k0_hw2.1.2.2.2.2.2.2.2.2.2.2.1 k0_t2
theorem k0_mult29_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult29 k0_t1 v970 v981 v992 v1003 k0_t2).toNat := fun k0_t1 v970 v981 v992 v1003 k0_hw2 k0_t2 => k0_hw2.1.2.2.2.2.2.2.2.2.2.2.2.1 k0_t2
theorem k0_mult30_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult30 k0_t1 v970 v981 v992 v1003 k0_t2).toNat := fun k0_t1 v970 v981 v992 v1003 k0_hw2 k0_t2 => k0_hw2.1.2.2.2.2.2.2.2.2.2.2.2.2.1 k0_t2
theorem k0_off8_inb : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), ∀ a, (k0_off8 k0_t1 v970 v981 v992 v1003 k0_t2) a + S1x512x256.size a ≤ S1x8192x256.size a := fun k0_t1 v970 v981 v992 v1003 k0_hw2 k0_t2 => k0_hw2.1.2.2.2.2.2.2.2.2.2.2.2.2.2.1 k0_t2
theorem k0_mult31_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult31 k0_t1 v970 v981 v992 v1003 k0_t2).toNat := fun k0_t1 v970 v981 v992 v1003 k0_hw2 k0_t2 => k0_hw2.1.2.2.2.2.2.2.2.2.2.2.2.2.2.2.1 k0_t2
theorem k0_off9_inb : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), ∀ a, (k0_off9 k0_t1 v970 v981 v992 v1003 k0_t2) a + S1x1x64x512.size a ≤ S1x16x128x512.size a := fun k0_t1 v970 v981 v992 v1003 k0_hw2 k0_t2 => k0_hw2.1.2.2.2.2.2.2.2.2.2.2.2.2.2.2.2.1 k0_t2
theorem k0_mult32_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult32 k0_t1 v970 v981 v992 v1003 k0_t2).toNat := fun k0_t1 v970 v981 v992 v1003 k0_hw2 k0_t2 => k0_hw2.1.2.2.2.2.2.2.2.2.2.2.2.2.2.2.2.2.1 k0_t2
theorem k0_mult33_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult33 k0_t1 v970 v981 v992 v1003 k0_t2).toNat := fun k0_t1 v970 v981 v992 v1003 k0_hw2 k0_t2 => k0_hw2.1.2.2.2.2.2.2.2.2.2.2.2.2.2.2.2.2.2.1 k0_t2
theorem k0_mult34_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult34 k0_t1 v970 v981 v992 v1003 k0_t2).toNat := fun k0_t1 v970 v981 v992 v1003 k0_hw2 k0_t2 => k0_hw2.1.2.2.2.2.2.2.2.2.2.2.2.2.2.2.2.2.2.2.1 k0_t2
theorem k0_mult35_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult35 k0_t1 v970 v981 v992 v1003 k0_t2).toNat := fun k0_t1 v970 v981 v992 v1003 k0_hw2 k0_t2 => k0_hw2.1.2.2.2.2.2.2.2.2.2.2.2.2.2.2.2.2.2.2.2.1 k0_t2
theorem k0_off10_inb : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), ∀ a, (k0_off10 k0_t1 v970 v981 v992 v1003 k0_t2) a + S1x1x64x512.size a ≤ S1x16x128x512.size a := fun k0_t1 v970 v981 v992 v1003 k0_hw2 k0_t2 => k0_hw2.1.2.2.2.2.2.2.2.2.2.2.2.2.2.2.2.2.2.2.2.2.1 k0_t2
theorem k0_mult36_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult36 k0_t1 v970 v981 v992 v1003 k0_t2).toNat := fun k0_t1 v970 v981 v992 v1003 k0_hw2 k0_t2 => k0_hw2.1.2.2.2.2.2.2.2.2.2.2.2.2.2.2.2.2.2.2.2.2.2.1 k0_t2
theorem k0_mult37_dvd : ∀ (k0_t1 : Fin k0_t1_loop.trips) (v970 : BitVec 32) (v981 : BitVec 32) (v992 : BitVec 32) (v1003 : BitVec 32) (k0_hw2 : k0_chk2 k0_t1 v970 v981 v992 v1003) (k0_t2 : Fin (k0_t2_loop k0_t1 v970 v981 v992 v1003).trips), 512 ∣ (k0_mult37 k0_t1 v970 v981 v992 v1003 k0_t2).toNat := fun k0_t1 v970 v981 v992 v1003 k0_hw2 k0_t2 => k0_hw2.1.2.2.2.2.2.2.2.2.2.2.2.2.2.2.2.2.2.2.2.2.2.2.1 k0_t2
theorem k0_t3_ok : ∀ (k0_t1 : Fin k0_t1_loop.trips) (v970 : BitVec 32) (v981 : BitVec 32) (v992 : BitVec 32) (v1003 : BitVec 32) (k0_hw2 : k0_chk2 k0_t1 v970 v981 v992 v1003), (k0_t3_loop k0_t1 v970 v981 v992 v1003).OK := fun k0_t1 v970 v981 v992 v1003 k0_hw2 => k0_hw2.1.2.2.2.2.2.2.2.2.2.2.2.2.2.2.2.2.2.2.2.2.2.2.2.1
theorem k0_mult38_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult38 k0_t1 v970 v981 v992 v1003 k0_t3).toNat := fun k0_t1 v970 v981 v992 v1003 k0_hw2 k0_t3 => k0_hw2.1.2.2.2.2.2.2.2.2.2.2.2.2.2.2.2.2.2.2.2.2.2.2.2.2.1 k0_t3
theorem k0_off11_inb : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), ∀ a, (k0_off11 k0_t1 v970 v981 v992 v1003 k0_t3) a + S1x512x256.size a ≤ S1x8192x256.size a := fun k0_t1 v970 v981 v992 v1003 k0_hw2 k0_t3 => k0_hw2.1.2.2.2.2.2.2.2.2.2.2.2.2.2.2.2.2.2.2.2.2.2.2.2.2.2.1 k0_t3
theorem k0_mult39_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult39 k0_t1 v970 v981 v992 v1003 k0_t3).toNat := fun k0_t1 v970 v981 v992 v1003 k0_hw2 k0_t3 => k0_hw2.1.2.2.2.2.2.2.2.2.2.2.2.2.2.2.2.2.2.2.2.2.2.2.2.2.2.2.1 k0_t3
theorem k0_off12_inb : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), ∀ a, (k0_off12 k0_t1 v970 v981 v992 v1003 k0_t3) a + S1x1x64x512.size a ≤ S1x16x128x512.size a := fun k0_t1 v970 v981 v992 v1003 k0_hw2 k0_t3 => k0_hw2.1.2.2.2.2.2.2.2.2.2.2.2.2.2.2.2.2.2.2.2.2.2.2.2.2.2.2.2.1 k0_t3
theorem k0_mult40_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult40 k0_t1 v970 v981 v992 v1003 k0_t3).toNat := fun k0_t1 v970 v981 v992 v1003 k0_hw2 k0_t3 => k0_hw2.1.2.2.2.2.2.2.2.2.2.2.2.2.2.2.2.2.2.2.2.2.2.2.2.2.2.2.2.2.1 k0_t3
theorem k0_mult41_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult41 k0_t1 v970 v981 v992 v1003 k0_t3).toNat := fun k0_t1 v970 v981 v992 v1003 k0_hw2 k0_t3 => k0_hw2.1.2.2.2.2.2.2.2.2.2.2.2.2.2.2.2.2.2.2.2.2.2.2.2.2.2.2.2.2.2.1 k0_t3
theorem k0_mult42_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult42 k0_t1 v970 v981 v992 v1003 k0_t3).toNat := fun k0_t1 v970 v981 v992 v1003 k0_hw2 k0_t3 => k0_hw2.1.2.2.2.2.2.2.2.2.2.2.2.2.2.2.2.2.2.2.2.2.2.2.2.2.2.2.2.2.2.2.1 k0_t3
theorem k0_mult43_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult43 k0_t1 v970 v981 v992 v1003 k0_t3).toNat := fun k0_t1 v970 v981 v992 v1003 k0_hw2 k0_t3 => k0_hw2.1.2.2.2.2.2.2.2.2.2.2.2.2.2.2.2.2.2.2.2.2.2.2.2.2.2.2.2.2.2.2.2 k0_t3
theorem k0_off13_inb : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), ∀ a, (k0_off13 k0_t1 v970 v981 v992 v1003 k0_t3) a + S1x1x64x512.size a ≤ S1x16x128x512.size a := fun k0_t1 v970 v981 v992 v1003 k0_hw2 k0_t3 => k0_hw2.2.1 k0_t3
theorem k0_mult44_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult44 k0_t1 v970 v981 v992 v1003 k0_t3).toNat := fun k0_t1 v970 v981 v992 v1003 k0_hw2 k0_t3 => k0_hw2.2.2.1 k0_t3
theorem k0_mult45_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult45 k0_t1 v970 v981 v992 v1003 k0_t3).toNat := fun k0_t1 v970 v981 v992 v1003 k0_hw2 k0_t3 => k0_hw2.2.2.2.1 k0_t3
theorem k0_mult46_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult46 k0_t1 v970 v981 v992 v1003 k0_t3).toNat := fun k0_t1 v970 v981 v992 v1003 k0_hw2 k0_t3 => k0_hw2.2.2.2.2.1 k0_t3
theorem k0_off14_inb : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), ∀ a, (k0_off14 k0_t1 v970 v981 v992 v1003 k0_t3) a + S1x512x256.size a ≤ S1x8192x256.size a := fun k0_t1 v970 v981 v992 v1003 k0_hw2 k0_t3 => k0_hw2.2.2.2.2.2.1 k0_t3
theorem k0_mult47_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult47 k0_t1 v970 v981 v992 v1003 k0_t3).toNat := fun k0_t1 v970 v981 v992 v1003 k0_hw2 k0_t3 => k0_hw2.2.2.2.2.2.2.1 k0_t3
theorem k0_off15_inb : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), ∀ a, (k0_off15 k0_t1 v970 v981 v992 v1003 k0_t3) a + S1x1x64x512.size a ≤ S1x16x128x512.size a := fun k0_t1 v970 v981 v992 v1003 k0_hw2 k0_t3 => k0_hw2.2.2.2.2.2.2.2.1 k0_t3
theorem k0_mult48_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult48 k0_t1 v970 v981 v992 v1003 k0_t3).toNat := fun k0_t1 v970 v981 v992 v1003 k0_hw2 k0_t3 => k0_hw2.2.2.2.2.2.2.2.2.1 k0_t3
theorem k0_mult49_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult49 k0_t1 v970 v981 v992 v1003 k0_t3).toNat := fun k0_t1 v970 v981 v992 v1003 k0_hw2 k0_t3 => k0_hw2.2.2.2.2.2.2.2.2.2.1 k0_t3
theorem k0_mult50_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult50 k0_t1 v970 v981 v992 v1003 k0_t3).toNat := fun k0_t1 v970 v981 v992 v1003 k0_hw2 k0_t3 => k0_hw2.2.2.2.2.2.2.2.2.2.2.1 k0_t3
theorem k0_mult51_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult51 k0_t1 v970 v981 v992 v1003 k0_t3).toNat := fun k0_t1 v970 v981 v992 v1003 k0_hw2 k0_t3 => k0_hw2.2.2.2.2.2.2.2.2.2.2.2.1 k0_t3
theorem k0_off16_inb : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), ∀ a, (k0_off16 k0_t1 v970 v981 v992 v1003 k0_t3) a + S1x1x64x512.size a ≤ S1x16x128x512.size a := fun k0_t1 v970 v981 v992 v1003 k0_hw2 k0_t3 => k0_hw2.2.2.2.2.2.2.2.2.2.2.2.2.1 k0_t3
theorem k0_mult52_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult52 k0_t1 v970 v981 v992 v1003 k0_t3).toNat := fun k0_t1 v970 v981 v992 v1003 k0_hw2 k0_t3 => k0_hw2.2.2.2.2.2.2.2.2.2.2.2.2.2.1 k0_t3
theorem k0_mult53_dvd : ∀ (k0_t1 : Fin k0_t1_loop.trips) (v970 : BitVec 32) (v981 : BitVec 32) (v992 : BitVec 32) (v1003 : BitVec 32) (k0_hw2 : k0_chk2 k0_t1 v970 v981 v992 v1003) (k0_t3 : Fin (k0_t3_loop k0_t1 v970 v981 v992 v1003).trips), 512 ∣ (k0_mult53 k0_t1 v970 v981 v992 v1003 k0_t3).toNat := fun k0_t1 v970 v981 v992 v1003 k0_hw2 k0_t3 => k0_hw2.2.2.2.2.2.2.2.2.2.2.2.2.2.2 k0_t3

def k0_mult54 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_795 : BitVec 32 := 512#32
  let v1021 : BitVec 32 := Scalar.muli v1020 c512_i32_795
  v1021
def k0_off17 (k0_t1 : Fin k0_t1_loop.trips) (c2_i32_793 : BitVec 32) : Fin 3 → Nat :=
  let c0_796 : Index := 0#32
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let v1019 : BitVec 32 := Scalar.subi v960 c2_i32_793
  let c1_i32_794 : BitVec 32 := 1#32
  let v1020 : BitVec 32 := Scalar.addi v1019 c1_i32_794
  let c512_i32_795 : BitVec 32 := 512#32
  let v1021 : BitVec 32 := Scalar.muli v1020 c512_i32_795
  let v1022 : BitVec 32 := v1021
  let v1023 : Index := Scalar.indexCast v1022
  let c0_797 : Index := 0#32
  ![0, v1023.toNat, 0]
def k0_mult55 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_823 : BitVec 32 := 512#32
  let v1053 : BitVec 32 := Scalar.muli v1020 c512_i32_823
  v1053
def k0_off18 (k0_t1 : Fin k0_t1_loop.trips) (c2_i32_793 : BitVec 32) : Fin 4 → Nat :=
  let c0_838 : Index := 0#32
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let v1019 : BitVec 32 := Scalar.subi v960 c2_i32_793
  let v1069 : Index := Scalar.indexCast v1019
  let c0_839 : Index := 0#32
  let c0_840 : Index := 0#32
  ![0, v1069.toNat, 0, 0]
def k0_mult56 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_862 : BitVec 32 := 512#32
  let v1099 : BitVec 32 := Scalar.muli v1020 c512_i32_862
  v1099
def k0_mult57 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_901 : BitVec 32 := 512#32
  let v1145 : BitVec 32 := Scalar.muli v1020 c512_i32_901
  v1145
def k0_mult58 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_940 : BitVec 32 := 512#32
  let v1191 : BitVec 32 := Scalar.muli v1020 c512_i32_940
  v1191
def k0_mult59 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_979 : BitVec 32 := 512#32
  let v1237 : BitVec 32 := Scalar.muli v1020 c512_i32_979
  v1237
def k0_off19 (k0_t1 : Fin k0_t1_loop.trips) (c2_i32_793 : BitVec 32) : Fin 4 → Nat :=
  let c0_994 : Index := 0#32
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let v1019 : BitVec 32 := Scalar.subi v960 c2_i32_793
  let v1253 : Index := Scalar.indexCast v1019
  let c64_995 : Index := 64#32
  let c0_996 : Index := 0#32
  ![0, v1253.toNat, 64, 0]
def k0_mult60 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_1018 : BitVec 32 := 512#32
  let v1283 : BitVec 32 := Scalar.muli v1020 c512_i32_1018
  v1283
def k0_mult61 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c2_i32_793 : BitVec 32 := 2#32
  let v1019 : BitVec 32 := Scalar.subi v960 c2_i32_793
  let c1_i32_794 : BitVec 32 := 1#32
  let v1020 : BitVec 32 := Scalar.addi v1019 c1_i32_794
  let c512_i32_1057 : BitVec 32 := 512#32
  let v1329 : BitVec 32 := Scalar.muli v1020 c512_i32_1057
  v1329
def k0_mult62 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1113 : BitVec 32 := 512#32
  let v1411 : BitVec 32 := Scalar.muli v1410 c512_i32_1113
  v1411
def k0_off20 (k0_t1 : Fin k0_t1_loop.trips) : Fin 3 → Nat :=
  let c0_1114 : Index := 0#32
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1113 : BitVec 32 := 512#32
  let v1411 : BitVec 32 := Scalar.muli v1410 c512_i32_1113
  let v1412 : BitVec 32 := v1411
  let v1413 : Index := Scalar.indexCast v1412
  let c0_1115 : Index := 0#32
  ![0, v1413.toNat, 0]
def k0_mult63 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1142 : BitVec 32 := 512#32
  let v1445 : BitVec 32 := Scalar.muli v1410 c512_i32_1142
  v1445
def k0_mult64 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1182 : BitVec 32 := 512#32
  let v1493 : BitVec 32 := Scalar.muli v1410 c512_i32_1182
  v1493
def k0_mult65 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1221 : BitVec 32 := 512#32
  let v1539 : BitVec 32 := Scalar.muli v1410 c512_i32_1221
  v1539
def k0_mult66 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1260 : BitVec 32 := 512#32
  let v1585 : BitVec 32 := Scalar.muli v1410 c512_i32_1260
  v1585
def k0_mult67 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1300 : BitVec 32 := 512#32
  let v1633 : BitVec 32 := Scalar.muli v1410 c512_i32_1300
  v1633
def k0_mult68 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1340 : BitVec 32 := 512#32
  let v1681 : BitVec 32 := Scalar.muli v1410 c512_i32_1340
  v1681
def k0_mult69 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_755 : BitVec 32 := 2#32
  let v960 : BitVec 32 := Scalar.muli arg19 c2_i32_755
  let c1_i32_1107 : BitVec 32 := 1#32
  let v1389 : BitVec 32 := Scalar.subi v960 c1_i32_1107
  let c1_i32_1112 : BitVec 32 := 1#32
  let v1410 : BitVec 32 := Scalar.addi v1389 c1_i32_1112
  let c512_i32_1379 : BitVec 32 := 512#32
  let v1727 : BitVec 32 := Scalar.muli v1410 c512_i32_1379
  v1727
def k0_mult70 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let c1_i32_1435 : BitVec 32 := 1#32
  let v1809 : BitVec 32 := Scalar.addi v1788 c1_i32_1435
  let c512_i32_1436 : BitVec 32 := 512#32
  let v1810 : BitVec 32 := Scalar.muli v1809 c512_i32_1436
  v1810
def k0_off21 (k0_t1 : Fin k0_t1_loop.trips) : Fin 3 → Nat :=
  let c0_1437 : Index := 0#32
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let c1_i32_1435 : BitVec 32 := 1#32
  let v1809 : BitVec 32 := Scalar.addi v1788 c1_i32_1435
  let c512_i32_1436 : BitVec 32 := 512#32
  let v1810 : BitVec 32 := Scalar.muli v1809 c512_i32_1436
  let v1811 : BitVec 32 := v1810
  let v1812 : Index := Scalar.indexCast v1811
  let c0_1438 : Index := 0#32
  ![0, v1812.toNat, 0]
def k0_mult71 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let c1_i32_1435 : BitVec 32 := 1#32
  let v1809 : BitVec 32 := Scalar.addi v1788 c1_i32_1435
  let c512_i32_1465 : BitVec 32 := 512#32
  let v1844 : BitVec 32 := Scalar.muli v1809 c512_i32_1465
  v1844
def k0_off22 (k0_t1 : Fin k0_t1_loop.trips) : Fin 3 → Nat :=
  let c0_1466 : Index := 0#32
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let c1_i32_1435 : BitVec 32 := 1#32
  let v1809 : BitVec 32 := Scalar.addi v1788 c1_i32_1435
  let c512_i32_1465 : BitVec 32 := 512#32
  let v1844 : BitVec 32 := Scalar.muli v1809 c512_i32_1465
  let v1845 : BitVec 32 := v1844
  let v1846 : Index := Scalar.indexCast v1845
  let c0_1467 : Index := 0#32
  ![0, v1846.toNat, 0]
def k0_off23 (k0_t1 : Fin k0_t1_loop.trips) : Fin 4 → Nat :=
  let c0_1481 : Index := 0#32
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let v1862 : Index := Scalar.indexCast v1788
  let c0_1482 : Index := 0#32
  let c0_1483 : Index := 0#32
  ![0, v1862.toNat, 0, 0]
def k0_mult72 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let c1_i32_1435 : BitVec 32 := 1#32
  let v1809 : BitVec 32 := Scalar.addi v1788 c1_i32_1435
  let c512_i32_1505 : BitVec 32 := 512#32
  let v1893 : BitVec 32 := Scalar.muli v1809 c512_i32_1505
  v1893
def k0_mult73 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let c1_i32_1435 : BitVec 32 := 1#32
  let v1809 : BitVec 32 := Scalar.addi v1788 c1_i32_1435
  let c512_i32_1545 : BitVec 32 := 512#32
  let v1941 : BitVec 32 := Scalar.muli v1809 c512_i32_1545
  v1941
def k0_off24 (k0_t1 : Fin k0_t1_loop.trips) : Fin 4 → Nat :=
  let c0_1609 : Index := 0#32
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c0_i32_1430 : BitVec 32 := 0#32
  let v1788 : BitVec 32 := Scalar.addi v1787 c0_i32_1430
  let v2019 : Index := Scalar.indexCast v1788
  let c64_1610 : Index := 64#32
  let c0_1611 : Index := 0#32
  ![0, v2019.toNat, 64, 0]
def k0_off25 (i : grid0.Coords) (k0_t1 : Fin k0_t1_loop.trips) (c0_i32_1698 : BitVec 32) (c0_i32_1701 : BitVec 32) : Fin 1 → Nat :=
  let arg0 : BitVec 32 := BitVec.ofNat 32 (i 0).val
  let c16_i32_1696 : BitVec 32 := 16#32
  let v2128 : BitVec 32 := Scalar.muli arg0 c16_i32_1696
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1697 : BitVec 32 := 2#32
  let v2129 : BitVec 32 := Scalar.muli v2125 c2_i32_1697
  let v2130 : BitVec 32 := Scalar.addi v2128 v2129
  let v2131 : BitVec 32 := Scalar.addi v2130 c0_i32_1698
  let c128_i32_1699 : BitVec 32 := 128#32
  let v2132 : BitVec 32 := Scalar.muli v2131 c128_i32_1699
  let arg1 : BitVec 32 := BitVec.ofNat 32 (i 1).val
  let c2_i32_1700 : BitVec 32 := 2#32
  let v2133 : BitVec 32 := Scalar.muli arg1 c2_i32_1700
  let v2134 : BitVec 32 := Scalar.addi v2132 v2133
  let v2135 : BitVec 32 := Scalar.addi v2134 c0_i32_1701
  let v2136 : Index := Scalar.indexCast v2135
  ![v2136.toNat]
def k0_off26 (k0_t1 : Fin k0_t1_loop.trips) (c0_i32_1727 : BitVec 32) : Fin 4 → Nat :=
  let c0_1728 : Index := 0#32
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1726 : BitVec 32 := 2#32
  let v2178 : BitVec 32 := Scalar.muli v2125 c2_i32_1726
  let v2179 : BitVec 32 := Scalar.addi v2178 c0_i32_1727
  let v2180 : Index := Scalar.indexCast v2179
  let c0_1729 : Index := 0#32
  let c0_1730 : Index := 0#32
  ![0, v2180.toNat, 0, 0]
def k0_mult74 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1760 : BitVec 32 := 512#32
  let v2234 : BitVec 32 := Scalar.muli v2177 c512_i32_1760
  v2234

def k0_off27 (k0_t1 : Fin k0_t1_loop.trips) (v2137 : BitVec 32) (v2148 : BitVec 32) (v2159 : BitVec 32) (v2170 : BitVec 32) : Fin 3 → Nat :=
  let c0_1761 : Index := 0#32
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1760 : BitVec 32 := 512#32
  let v2234 : BitVec 32 := Scalar.muli v2177 c512_i32_1760
  let v2235 : BitVec 32 := v2234
  let v2236 : Index := Scalar.indexCast v2235
  let c0_1762 : Index := 0#32
  ![0, v2236.toNat, 0]
def k0_mult75 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1788 : BitVec 32 := 512#32
  let v2266 : BitVec 32 := Scalar.muli v2177 c512_i32_1788
  v2266
def k0_off28 (k0_t1 : Fin k0_t1_loop.trips) : Fin 4 → Nat :=
  let c0_1803 : Index := 0#32
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c2_i32_1694 : BitVec 32 := 2#32
  let v2126 : BitVec 32 := Scalar.addi v1787 c2_i32_1694
  let c1_i32_1695 : BitVec 32 := 1#32
  let v2127 : BitVec 32 := Scalar.subi v2126 c1_i32_1695
  let v2282 : Index := Scalar.indexCast v2127
  let c0_1804 : Index := 0#32
  let c0_1805 : Index := 0#32
  ![0, v2282.toNat, 0, 0]
def k0_mult76 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1827 : BitVec 32 := 512#32
  let v2313 : BitVec 32 := Scalar.muli v2177 c512_i32_1827
  v2313
def k0_mult77 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1866 : BitVec 32 := 512#32
  let v2359 : BitVec 32 := Scalar.muli v2177 c512_i32_1866
  v2359
def k0_off29 (k0_t1 : Fin k0_t1_loop.trips) : Fin 4 → Nat :=
  let c0_1881 : Index := 0#32
  let c1_i32_751 : BitVec 32 := 1#32
  let c1_i32_753 : BitVec 32 := 1#32
  let arg19 : BitVec 32 := Scf.iv c1_i32_751 c1_i32_753 k0_t1
  let c2_i32_1429 : BitVec 32 := 2#32
  let v1787 : BitVec 32 := Scalar.muli arg19 c2_i32_1429
  let c2_i32_1694 : BitVec 32 := 2#32
  let v2126 : BitVec 32 := Scalar.addi v1787 c2_i32_1694
  let c1_i32_1695 : BitVec 32 := 1#32
  let v2127 : BitVec 32 := Scalar.subi v2126 c1_i32_1695
  let v2375 : Index := Scalar.indexCast v2127
  let c64_1882 : Index := 64#32
  let c0_1883 : Index := 0#32
  ![0, v2375.toNat, 64, 0]
def k0_mult78 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1905 : BitVec 32 := 512#32
  let v2406 : BitVec 32 := Scalar.muli v2177 c512_i32_1905
  v2406
def k0_mult79 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1931 : BitVec 32 := 512#32
  let v2436 : BitVec 32 := Scalar.muli v2177 c512_i32_1931
  v2436
def k0_mult80 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1946 : BitVec 32 := 512#32
  let v2452 : BitVec 32 := Scalar.muli v2177 c512_i32_1946
  v2452
def k0_mult81 (k0_t1 : Fin k0_t1_loop.trips) (v2137 : BitVec 32) (v2148 : BitVec 32) (v2159 : BitVec 32) (v2170 : BitVec 32) : BitVec 32 :=
  let c2_i32_1725 : BitVec 32 := 2#32
  let c16_i32_1702 : BitVec 32 := 16#32
  let v2138 : BitVec 32 := Scalar.minsi c16_i32_1702 v2137
  let v2149 : BitVec 32 := Scalar.minsi v2138 v2148
  let v2160 : BitVec 32 := Scalar.minsi v2149 v2159
  let v2171 : BitVec 32 := Scalar.minsi v2160 v2170
  let c1_i32_1721 : BitVec 32 := 1#32
  let v2172 : BitVec 32 := Scalar.muli v2171 c1_i32_1721
  let c1_i32_751 : BitVec 32 := 1#32
  let c1_i32_753 : BitVec 32 := 1#32
  let arg19 : BitVec 32 := Scf.iv c1_i32_751 c1_i32_753 k0_t1
  let c1_i32_1692 : BitVec 32 := 1#32
  let v2124 : BitVec 32 := Scalar.addi arg19 c1_i32_1692
  let c7_i32_1693 : BitVec 32 := 7#32
  let v2125 : BitVec 32 := Scalar.minsi v2124 c7_i32_1693
  let c2_i32_1722 : BitVec 32 := 2#32
  let v2173 : BitVec 32 := Scalar.muli v2125 c2_i32_1722
  let c2_i32_1723 : BitVec 32 := 2#32
  let v2174 : BitVec 32 := Scalar.subi v2173 c2_i32_1723
  let v2175 : BitVec 32 := Scalar.minsi v2172 v2174
  let c1_i32_1724 : BitVec 32 := 1#32
  let v2176 : BitVec 32 := Scalar.shrui v2175 c1_i32_1724
  let v2177 : BitVec 32 := Scalar.muli c2_i32_1725 v2176
  let c512_i32_1961 : BitVec 32 := 512#32
  let v2468 : BitVec 32 := Scalar.muli v2177 c512_i32_1961
  v2468

def k0_chk3 (k0_t1 : Fin k0_t1_loop.trips) (v2137 : BitVec 32) (v2148 : BitVec 32) (v2159 : BitVec 32) (v2170 : BitVec 32) : Prop :=
  (512 ∣ (k0_mult74 k0_t1 v2137 v2148 v2159 v2170).toNat) ∧
  (∀ a, (k0_off27 k0_t1 v2137 v2148 v2159 v2170) a + S1x512x256.size a ≤ S1x8192x256.size a) ∧
  (512 ∣ (k0_mult75 k0_t1 v2137 v2148 v2159 v2170).toNat) ∧
  (512 ∣ (k0_mult76 k0_t1 v2137 v2148 v2159 v2170).toNat) ∧
  (512 ∣ (k0_mult77 k0_t1 v2137 v2148 v2159 v2170).toNat) ∧
  (512 ∣ (k0_mult78 k0_t1 v2137 v2148 v2159 v2170).toNat) ∧
  (512 ∣ (k0_mult79 k0_t1 v2137 v2148 v2159 v2170).toNat) ∧
  (512 ∣ (k0_mult80 k0_t1 v2137 v2148 v2159 v2170).toNat) ∧
  (512 ∣ (k0_mult81 k0_t1 v2137 v2148 v2159 v2170).toNat)
theorem k0_mult74_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult74 k0_t1 v2137 v2148 v2159 v2170).toNat := fun k0_t1 v2137 v2148 v2159 v2170 k0_hw3 => k0_hw3.1
theorem k0_off27_inb : ∀ (k0_t1 : Fin k0_t1_loop.trips) (v2137 : BitVec 32) (v2148 : BitVec 32) (v2159 : BitVec 32) (v2170 : BitVec 32) (k0_hw3 : k0_chk3 k0_t1 v2137 v2148 v2159 v2170), ∀ a, (k0_off27 k0_t1 v2137 v2148 v2159 v2170) a + S1x512x256.size a ≤ S1x8192x256.size a := fun k0_t1 v2137 v2148 v2159 v2170 k0_hw3 => k0_hw3.2.1
theorem k0_mult75_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult75 k0_t1 v2137 v2148 v2159 v2170).toNat := fun k0_t1 v2137 v2148 v2159 v2170 k0_hw3 => k0_hw3.2.2.1
theorem k0_mult76_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult76 k0_t1 v2137 v2148 v2159 v2170).toNat := fun k0_t1 v2137 v2148 v2159 v2170 k0_hw3 => k0_hw3.2.2.2.1
theorem k0_mult77_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult77 k0_t1 v2137 v2148 v2159 v2170).toNat := fun k0_t1 v2137 v2148 v2159 v2170 k0_hw3 => k0_hw3.2.2.2.2.1
theorem k0_mult78_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult78 k0_t1 v2137 v2148 v2159 v2170).toNat := fun k0_t1 v2137 v2148 v2159 v2170 k0_hw3 => k0_hw3.2.2.2.2.2.1
theorem k0_mult79_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult79 k0_t1 v2137 v2148 v2159 v2170).toNat := fun k0_t1 v2137 v2148 v2159 v2170 k0_hw3 => k0_hw3.2.2.2.2.2.2.1
theorem k0_mult80_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult80 k0_t1 v2137 v2148 v2159 v2170).toNat := fun k0_t1 v2137 v2148 v2159 v2170 k0_hw3 => k0_hw3.2.2.2.2.2.2.2.1
theorem k0_mult81_dvd : ∀ (k0_t1 : Fin k0_t1_loop.trips) (v2137 : BitVec 32) (v2148 : BitVec 32) (v2159 : BitVec 32) (v2170 : BitVec 32) (k0_hw3 : k0_chk3 k0_t1 v2137 v2148 v2159 v2170), 512 ∣ (k0_mult81 k0_t1 v2137 v2148 v2159 v2170).toNat := fun k0_t1 v2137 v2148 v2159 v2170 k0_hw3 => k0_hw3.2.2.2.2.2.2.2.2

def k0_mult82 (k0_t1 : Fin k0_t1_loop.trips) : BitVec 32 :=
  let c1_i32_751 : BitVec 32 := 1#32
  let c1_i32_753 : BitVec 32 := 1#32
  let arg19 : BitVec 32 := Scf.iv c1_i32_751 c1_i32_753 k0_t1
  let c1024_i32 : BitVec 32 := 1024#32
  let v2497 : BitVec 32 := Scalar.muli arg19 c1024_i32
  v2497
def k0_off30 (k0_t1 : Fin k0_t1_loop.trips) : Fin 3 → Nat :=
  let c0_1982 : Index := 0#32
  let c1_i32_751 : BitVec 32 := 1#32
  let c1_i32_753 : BitVec 32 := 1#32
  let arg19 : BitVec 32 := Scf.iv c1_i32_751 c1_i32_753 k0_t1
  let c1024_i32 : BitVec 32 := 1024#32
  let v2497 : BitVec 32 := Scalar.muli arg19 c1024_i32
  let v2498 : BitVec 32 := v2497
  let v2501 : Index := Scalar.indexCast v2498
  let c0_1983 : Index := 0#32
  ![0, v2501.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let v2 : BitVec 32 := Scalar.minsi v1 c7_i32
  let c0_i32 : BitVec 32 := 0#32
  let v3 : BitVec 32 := Scalar.addi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let v2 : BitVec 32 := Scalar.minsi v1 c7_i32
  let c0_i32 : BitVec 32 := 0#32
  let v3 : BitVec 32 := Scalar.addi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let v2 : BitVec 32 := Scalar.minsi v1 c6_i32
  let c512_i32 : BitVec 32 := 512#32
  let v3 : BitVec 32 := Scalar.muli v2 c512_i32
  let c1544_i32 : BitVec 32 := 1544#32
  let v4 : BitVec 32 := Scalar.addi c1544_i32 v3
  let v5 : BitVec 32 := v4
  let c0_i32 : BitVec 32 := 0#32
  let c0_i32_0 : BitVec 32 := 0#32
  ![v5.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let v2 : BitVec 32 := Scalar.minsi v1 c6_i32
  let c0_i32 : BitVec 32 := 0#32
  let c0_i32_0 : BitVec 32 := 0#32
  ![c0_i32.toNat, v2.toNat]

abbrev stage0_0 : Fin 2 → Memref sig .tc .vmem S1x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S4096 : Shape := ⟨1, ![4096]⟩
abbrev S2x16x512x512 : Shape := ⟨4, ![2, 16, 512, 512]⟩
abbrev S2x8192x1024 : Shape := ⟨3, ![2, 8192, 1024]⟩
abbrev S2x512x1024 : Shape := ⟨3, ![2, 512, 1024]⟩
abbrev S1024x1024 : Shape := ⟨2, ![1024, 1024]⟩
abbrev S1024x5128 : Shape := ⟨2, ![1024, 5128]⟩
abbrev S1024x3584 : Shape := ⟨2, ![1024, 3584]⟩

abbrev nBuf : Space → Nat
  | .hbm => 12
  | .vmem => 0
  | .smem => 0
  | _ => 0

abbrev bufTy : (tb : Table) → Fin (tcTables nBuf tb) → BufTy
  | .hbm, ⟨0, _⟩ => ⟨S4096, .i32⟩
  | .hbm, ⟨1, _⟩ => ⟨S2x16x512x512, .bf16⟩
  | .hbm, ⟨2, _⟩ => ⟨S2x8192x1024, .bf16⟩
  | .hbm, ⟨3, _⟩ => ⟨S2x16x512x512, .bf16⟩
  | .hbm, ⟨4, _⟩ => ⟨S2x512x1024, .f32⟩
  | .hbm, ⟨5, _⟩ => ⟨S1024x1024, .f32⟩
  | .hbm, ⟨6, _⟩ => ⟨S1024x5128, .f32⟩
  | .hbm, ⟨7, _⟩ => ⟨S1024x1024, .f32⟩
  | .hbm, ⟨8, _⟩ => ⟨S1024x1024, .bf16⟩
  | .hbm, ⟨9, _⟩ => ⟨S1024x1024, .bf16⟩
  | .hbm, ⟨10, _⟩ => ⟨S1024x3584, .f32⟩
  | .hbm, ⟨11, _⟩ => ⟨S1024x3584, .bf16⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Proof.AttnChecks.lean ====
/- The in-range checks of the attention region: each depends on the table's words only through the least of
   sixteen and the four words, so nonnegative words leave seventeen cases, decided one by one. -/
module

public import proofs.«01_k».proof.Proof.Gen.KernelIdeal.Skeleton
public import Idealize.ShloMosaic.Lib.Tactic

@[expose] public section

set_option maxRecDepth 8192
set_option maxHeartbeats 4000000

namespace Cert.Proof.AttnIdeal

open Idealize.ShloMosaic
open Cert.KernelIdeal

/-- The least of sixteen and four words. -/
abbrev least (a b c d : BitVec 32) : BitVec 32 :=
  Scalar.minsi (Scalar.minsi (Scalar.minsi (Scalar.minsi 16#32 a) b) c) d

theorem minsi_toInt (a b : BitVec 32) : (Scalar.minsi a b).toInt = min a.toInt b.toInt := by
  unfold Scalar.minsi IntOp.minsi
  split <;> rename_i h <;> simp only [BitVec.slt, decide_eq_true_eq] at h <;> omega

/-- Of nonnegative words the least lies between zero and sixteen. -/
theorem least_cases {a b c d : BitVec 32} (ha : 0 ≤ a.toInt) (hb : 0 ≤ b.toInt) (hc : 0 ≤ c.toInt) (hd : 0 ≤ d.toInt) :
    ∃ n : Fin 17, least a b c d = BitVec.ofNat 32 n.val := by
  have h : (least a b c d).toInt = min (min (min (min 16 a.toInt) b.toInt) c.toInt) d.toInt := by
    simp only [least, minsi_toInt]; rfl
  have h0 : 0 ≤ (least a b c d).toInt := by omega
  have h16 : (least a b c d).toInt ≤ 16 := by omega
  clear h
  generalize least a b c d = w at *
  have hw := w.isLt
  rw [BitVec.toInt_eq_toNat_cond] at h0 h16
  have hn : w.toNat ≤ 16 := by split at h16 <;> split at h0 <;> omega
  refine ⟨⟨w.toNat, by omega⟩, ?_⟩
  apply BitVec.eq_of_toNat_eq
  simp only [BitVec.toNat_ofNat]
  omega

theorem least_ofNat : ∀ n : Fin 17, least (BitVec.ofNat 32 n.val) 16#32 16#32 16#32 = BitVec.ofNat 32 n.val := by decide

theorem k0_chk1_congr {a b c d a' b' c' d' : BitVec 32} (h : least a b c d = least a' b' c' d') :
    k0_chk1 a b c d = k0_chk1 a' b' c' d' := by
  unfold least at h
  delta k0_chk1 k0_off3 k0_mult14 k0_mult15 k0_mult16 k0_mult17 k0_mult18 k0_mult19 k0_mult20 k0_mult21
  dsimp only
  rw [h]

theorem k0_chk1_cases : ∀ n : Fin 17, k0_chk1 (BitVec.ofNat 32 n.val) 16#32 16#32 16#32 := by
  decide +kernel

theorem k0_chk1_of {a b c d : BitVec 32} (ha : 0 ≤ a.toInt) (hb : 0 ≤ b.toInt) (hc : 0 ≤ c.toInt)
    (hd : 0 ≤ d.toInt) : k0_chk1 a b c d := by
  obtain ⟨n, hn⟩ := least_cases ha hb hc hd
  rw [k0_chk1_congr (hn.trans (least_ofNat n).symm)]
  exact k0_chk1_cases n

theorem k0_chk3_congr (k : Fin k0_t1_loop.trips) {a b c d a' b' c' d' : BitVec 32} (h : least a b c d = least a' b' c' d') :
    k0_chk3 k a b c d = k0_chk3 k a' b' c' d' := by
  unfold least at h
  delta k0_chk3 k0_off27 k0_mult74 k0_mult75 k0_mult76 k0_mult77 k0_mult78 k0_mult79 k0_mult80 k0_mult81
  dsimp only
  rw [h]

theorem k0_chk3_cases : ∀ k : Fin k0_t1_loop.trips, ∀ n : Fin 17, k0_chk3 k (BitVec.ofNat 32 n.val) 16#32 16#32 16#32 := by
  decide +kernel

theorem k0_chk3_of (k : Fin k0_t1_loop.trips) {a b c d : BitVec 32} (ha : 0 ≤ a.toInt) (hb : 0 ≤ b.toInt) (hc : 0 ≤ c.toInt)
    (hd : 0 ≤ d.toInt) : k0_chk3 k a b c d := by
  obtain ⟨n, hn⟩ := least_cases ha hb hc hd
  rw [k0_chk3_congr k (hn.trans (least_ofNat n).symm)]
  exact k0_chk3_cases k n

theorem k0_chk2_congr (k : Fin k0_t1_loop.trips) {a b c d a' b' c' d' : BitVec 32} (h : least a b c d = least a' b' c' d') :
    k0_chk2 k a b c d = k0_chk2 k a' b' c' d' := by
  unfold least at h
  delta k0_chk2 k0_chk2_0 k0_chk2_1 k0_t2_loop k0_t3_loop k0_mult22 k0_mult23 k0_mult24 k0_mult25 k0_mult26 k0_mult27 k0_mult28 k0_mult29 k0_mult30 k0_mult31 k0_mult32 k0_mult33 k0_mult34 k0_mult35 k0_mult36 k0_mult37 k0_mult38 k0_mult39 k0_mult40 k0_mult41 k0_mult42 k0_mult43 k0_mult44 k0_mult45 k0_mult46 k0_mult47 k0_mult48 k0_mult49 k0_mult50 k0_mult51 k0_mult52 k0_mult53 k0_off5 k0_off6 k0_off7 k0_off8 k0_off9 k0_off10 k0_off11 k0_off12 k0_off13 k0_off14 k0_off15 k0_off16
  dsimp only
  rw [h]

theorem k0_chk2_cases : ∀ k : Fin k0_t1_loop.trips, ∀ n : Fin 17, k0_chk2 k (BitVec.ofNat 32 n.val) 16#32 16#32 16#32 := by
  decide +kernel

theorem k0_chk2_of (k : Fin k0_t1_loop.trips) {a b c d : BitVec 32} (ha : 0 ≤ a.toInt) (hb : 0 ≤ b.toInt) (hc : 0 ≤ c.toInt)
    (hd : 0 ≤ d.toInt) : k0_chk2 k a b c d := by
  obtain ⟨n, hn⟩ := least_cases ha hb hc hd
  rw [k0_chk2_congr k (hn.trans (least_ofNat n).symm)]
  exact k0_chk2_cases k n

end Cert.Proof.AttnIdeal

end
-- ==== Proof.AttnBody.lean ====
/- The attention region's body run by its loops' invariants: what the riders' windows hold is stated, the
   attention's own output and the scratch buffers end at something. -/
module

public import proofs.«01_k».proof.Proof.AttnChecks
public import proofs.«01_k».proof.Proof.Gen.KernelIdeal.Loops
public import Idealize.ShloMosaic.Lib.Exec
public import Idealize.ShloMosaic.Lib.Tactic
public import Idealize.ShloMosaic.Lib.Pipeline.FrameBody

@[expose] public section

set_option maxRecDepth 16384
set_option maxHeartbeats 4000000

noncomputable section

namespace Cert.Proof.AttnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- Every word of a table, read as an integer, is at least zero. -/
def Pos (arg2 : Memref sig .tc .smem S4096 .i32) (X : BufTy.Contents (Elt F) arg2.view.ty) : Prop :=
  ∀ (r : Rect S4096) (x : r.toLoadRect.shape.Idx), 0 ≤ BitVec.toInt (n := 32) (arg2.view.readAt (Elt F) r.toLoadRect X x)

section

variable (c : Dev nD) (i : grid0.Coords)
    (arg2 : Memref sig .tc .smem S4096 .i32) (harg2 : arg2.IsWhole)
    (arg3 : Memref sig .tc .vmem S1x16x128x512 .bf16) (harg3 : arg3.IsWhole)
    (arg4 : Memref sig .tc .vmem S1x8192x256 .bf16) (harg4 : arg4.IsWhole)
    (arg5 : Memref sig .tc .vmem S1x16x128x512 .bf16) (harg5 : arg5.IsWhole)
    (arg6 : Memref sig .tc .vmem S128x1024 .f32) (harg6 : arg6.IsWhole)
    (arg7 : Memref sig .tc .vmem S128x1024 .f32) (harg7 : arg7.IsWhole)
    (arg8 : Memref sig .tc .vmem S512x1024 .f32) (harg8 : arg8.IsWhole)
    (arg9 : Memref sig .tc .vmem S1x8192x128 .bf16) (harg9 : arg9.IsWhole)
    (arg10 : Memref sig .tc .vmem S128x1024 .bf16) (harg10 : arg10.IsWhole)
    (arg11 : Memref sig .tc .vmem S128x1024 .bf16) (harg11 : arg11.IsWhole)
    (arg12 : Memref sig .tc .vmem S1024x512 .bf16) (harg12 : arg12.IsWhole)
    (arg13 : Memref sig .tc .vmem S2x256x1024 .bf16) (harg13 : arg13.IsWhole)
    (arg14 : Memref sig .tc .vmem S2x512x1024 .f32) (harg14 : arg14.IsWhole)
    (arg15 : Memref sig .tc .vmem S2x512x1024 .f32) (harg15 : arg15.IsWhole)
    (arg16 : Memref sig .tc .vmem S2x2x1x1024 .f32) (harg16 : arg16.IsWhole)
    (arg17 : Memref sig .tc .vmem S2x1x1024 .f32) (harg17 : arg17.IsWhole)
    (arg18 : Memref sig .tc .vmem S2x80x1024 .f32) (harg18 : arg18.IsWhole)
    (arg0 arg1 : BitVec 32) (v0 : IVec S128x512 32) (q : PosShare TreeShare)
    (X2 : BufTy.Contents (Elt F) arg2.view.ty) (X3 : BufTy.Contents (Elt F) arg3.view.ty) (X4 : BufTy.Contents (Elt F) arg4.view.ty) (X5 : BufTy.Contents (Elt F) arg5.view.ty)

/-- What a trip of the loop over query blocks keeps: the table and the input blocks as they are, the output block and
    the scratch buffers at anything. -/
abbrev tripInv : sProp 𝕄 :=
  iprop(⌜Pos arg2 X2⌝ ∗ (arg2.view.loc (c : Thread nD τ) ↦[arg2.view.set]{q} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (∃ f, arg9.view.loc (c : Thread nD τ) ↦[arg9.view.set]{fullShare} f)
      ∗ (∃ f, arg13.view.loc (c : Thread nD τ) ↦[arg13.view.set]{fullShare} f)
      ∗ (∃ f, arg14.view.loc (c : Thread nD τ) ↦[arg14.view.set]{fullShare} f)
      ∗ (∃ f, arg15.view.loc (c : Thread nD τ) ↦[arg15.view.set]{fullShare} f)
      ∗ (∃ f, arg16.view.loc (c : Thread nD τ) ↦[arg16.view.set]{fullShare} f)
      ∗ (∃ f, arg17.view.loc (c : Thread nD τ) ↦[arg17.view.set]{fullShare} f)
      ∗ (∃ f, arg18.view.loc (c : Thread nD τ) ↦[arg18.view.set]{fullShare} f))

set_option warn.classDefReducibility false in
@[sl_loop] def loopInv_k0_t1 :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v0 where
  inv _ _ := tripInv c arg2 arg3 arg4 arg5 arg9 arg13 arg14 arg15 arg16 arg17 arg18 q X2 X3 X4 X5
  step k _ := by
    iintro ⟨%hp, H2, H3, H4, H5, ⟨%f9, H9⟩, ⟨%f13, H13⟩, ⟨%f14, H14⟩, ⟨%f15, H15⟩, ⟨%f16, H16⟩, ⟨%f17, H17⟩, ⟨%f18, H18⟩⟩
    unfold k0_t1_body
    simp only [k0_part97_eq_skeleton]
    unfold k0_part97_skel
    simp only [k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    sl_exec (disch := ((first | with_reducible refine k0_chk2_of _ ?_ ?_ ?_ ?_ | with_reducible refine k0_chk3_of _ ?_ ?_ ?_ ?_) <;> exact hp _ _))
    sl_step
    sl_close

end

/-! ## The body -/

/-- The whole of a 128-row block, -/
abbrev rW : Rect S128x1024 := Rect.unit (s := S128x1024) ![0, 0] S128x1024.size inb_S128x1024_S128x1024_0_0
/-- of the 512-row block the gates' weight comes in by, -/
abbrev rG : Rect S512x1024 := Rect.unit (s := S512x1024) ![0, 0] S512x1024.size inb_S512x1024_S512x1024_0_0
/-- and of the 512-column block it leaves by. -/
abbrev rT : Rect S1024x512 := Rect.unit (s := S1024x512) ![0, 0] S1024x512.size inb_S1024x512_S1024x512_0_0

/-- What the riders leave: each weight's block rounded, the gates' transposed first. -/
def rider10 (x : Vec F S128x1024 .f32) : Vec F S128x1024 .bf16 := View.canon [⟨rW, k0_pay614 (View.ld x rW)⟩]
def rider11 (x : Vec F S128x1024 .f32) : Vec F S128x1024 .bf16 := View.canon [⟨rW, k0_pay615 (View.ld x rW)⟩]
def rider12 (x : Vec F S512x1024 .f32) : Vec F S1024x512 .bf16 := View.canon [⟨rT, k0_pay617 (k0_pay616 (View.ld x rG))⟩]

theorem cover10 (p : Vec F S128x1024 .bf16) (y : S128x1024.Idx) :
    ∃ pc ∈ ([⟨rW, p⟩] : List (View.Piece (Elt F) S128x1024 .bf16)), y ∈ pc.1.set :=
  View.cover_of_tiled [⟨rW, p⟩] S128x1024.size (by rfl) y
theorem cover11 (p : Vec F S128x1024 .bf16) (y : S128x1024.Idx) :
    ∃ pc ∈ ([⟨rW, p⟩] : List (View.Piece (Elt F) S128x1024 .bf16)), y ∈ pc.1.set := cover10 p y
theorem cover12 (p : Vec F S1024x512 .bf16) (y : S1024x512.Idx) :
    ∃ pc ∈ ([⟨rT, p⟩] : List (View.Piece (Elt F) S1024x512 .bf16)), y ∈ pc.1.set :=
  View.cover_of_tiled [⟨rT, p⟩] S1024x512.size (by rfl) y

/-- The body at any grid point, on whole buffers and a table of nonnegative words: it ends with the inputs as they were,
    the riders' blocks as stated and everything else at something. -/
theorem sound_attn (c : Dev nD) (i : grid0.Coords)
    (arg2 : Memref sig .tc .smem S4096 .i32) (harg2 : arg2.IsWhole)
    (arg3 : Memref sig .tc .vmem S1x16x128x512 .bf16) (harg3 : arg3.IsWhole)
    (arg4 : Memref sig .tc .vmem S1x8192x256 .bf16) (harg4 : arg4.IsWhole)
    (arg5 : Memref sig .tc .vmem S1x16x128x512 .bf16) (harg5 : arg5.IsWhole)
    (arg6 : Memref sig .tc .vmem S128x1024 .f32) (harg6 : arg6.IsWhole)
    (arg7 : Memref sig .tc .vmem S128x1024 .f32) (harg7 : arg7.IsWhole)
    (arg8 : Memref sig .tc .vmem S512x1024 .f32) (harg8 : arg8.IsWhole)
    (arg9 : Memref sig .tc .vmem S1x8192x128 .bf16) (harg9 : arg9.IsWhole)
    (arg10 : Memref sig .tc .vmem S128x1024 .bf16) (harg10 : arg10.IsWhole)
    (arg11 : Memref sig .tc .vmem S128x1024 .bf16) (harg11 : arg11.IsWhole)
    (arg12 : Memref sig .tc .vmem S1024x512 .bf16) (harg12 : arg12.IsWhole)
    (arg13 : Memref sig .tc .vmem S2x256x1024 .bf16) (harg13 : arg13.IsWhole)
    (arg14 : Memref sig .tc .vmem S2x512x1024 .f32) (harg14 : arg14.IsWhole)
    (arg15 : Memref sig .tc .vmem S2x512x1024 .f32) (harg15 : arg15.IsWhole)
    (arg16 : Memref sig .tc .vmem S2x2x1x1024 .f32) (harg16 : arg16.IsWhole)
    (arg17 : Memref sig .tc .vmem S2x1x1024 .f32) (harg17 : arg17.IsWhole)
    (arg18 : Memref sig .tc .vmem S2x80x1024 .f32) (harg18 : arg18.IsWhole)
    (q : PosShare TreeShare) (x2 : Vec F S4096 .i32)
    (hp : ∀ f, arg2.view.read (Elt F) f = x2 → Pos arg2 f)
    (x3 : Vec F S1x16x128x512 .bf16) (x4 : Vec F S1x8192x256 .bf16) (x5 : Vec F S1x16x128x512 .bf16) (x6 : Vec F S128x1024 .f32) (x7 : Vec F S128x1024 .f32) (x8 : Vec F S512x1024 .f32) (K : PUnit → sProp 𝕄) :
    iprop(owns (c : Thread nD τ) arg2 q x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (iprop(owns (c : Thread nD τ) arg2 q x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ (∃ d, owns (c : Thread nD τ) arg9 fullShare d)
      ∗ owns (c : Thread nD τ) arg10 fullShare (rider10 x6)
      ∗ owns (c : Thread nD τ) arg11 fullShare (rider11 x7)
      ∗ owns (c : Thread nD τ) arg12 fullShare (rider12 x8)
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)) -∗ K ⟨⟩))
    ⊢ wp frame (wpE (defs₀ (F := F)) Variants.none c none) Set.univ (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_attn_eq_skeleton]; unfold cc0_attn_skel
  simp only [k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  have hq := hp f2 h2
  subst h2 h3 h4 h5 h6 h7 h8
  sl_exec (disch := ((with_reducible refine k0_chk1_of ?_ ?_ ?_ ?_) <;> exact hq _ _))
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; iexists _; isplitr
    swap; · iexact H9
    ipureintro; rfl
  isplitl [H10]
  · iexists _; isplitr
    swap; · iexact H10
    ipureintro
    exact (View.read_writes_eq_canon _ _ _ (cover10 _)).trans rfl
  isplitl [H11]
  · iexists _; isplitr
    swap; · iexact H11
    ipureintro
    exact (View.read_writes_eq_canon _ _ _ (cover11 _)).trans rfl
  isplitl [H12]
  · iexists _; isplitr
    swap; · iexact H12
    ipureintro
    exact (View.read_writes_eq_canon _ _ _ (cover12 _)).trans rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  iexists _; iexists _; isplitr
  swap; · iexact H18
  ipureintro; rfl

end Cert.Proof.AttnIdeal

end
end
-- ==== Proof.AttnLaunch.lean ====
/- The attention's launch: what the pipeline's proof data is, the body at every point of the grid, the run of the whole
   program, and the frame read off it. -/
module

public import proofs.«01_k».proof.Proof.AttnBody
public import proofs.«01_k».proof.Proof.Gen.KernelIdeal.Launch
public import Idealize.ShloMosaic.Lib.Claim
public import Idealize.ShloMosaic.Lib.Ring

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program up to the call -/

/-- What core `c`'s buffers hold when the call begins: the launch memory, the two prepared weights written. -/
def V (c : Dev nD) (b : Ref sig .tc) : Buf (Elt F) ((c : Thread nD τ).loc b) :=
  StableHlo.after hostOps0 (fun b => m (c, b)) (Proc.devRef .tc b)

theorem hostOps0_fresh : (hostOps0 (F := F)).Forall fun op => op.fresh = ∅ := by
  simp only [List.Forall]; repeat' constructor

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The proof data -/

/-- The table's contents when the call begins. -/
def tables : (p : Fin 1) → (pcfgs (F := F) p).Adm := fun _ => ⟨fun k => V m 0 (pre0.ref k), trivial⟩

/-- The pipeline at those contents. -/
abbrev cfgA : Cfg sig Λ₀ := Pipeline.pin (pcfgs (F := F)) (tables m) 0

/-- Window `w`'s block at point `t`, as the call finds its array. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The output window nothing is said of: the attention's own. -/
def forgets : Fin 10 → Bool := fun w => w.val == 6

/-- The pipeline's proof data on core `c`: inputs' buffers at their blocks, the riders' at the rounded blocks. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed (cfg := cfgA m) 6 t
    | ⟨7, _⟩ => rider10 (iblk m c 3 t)
    | ⟨8, _⟩ => rider11 (iblk m c 4 t)
    | ⟨9, _⟩ => rider12 (iblk m c 5 t)
  Φ _ := iprop(Pipeline.ΦA spec0 c ∗ Pipeline.ΦT pre0 (tables m 0).1 c)
  q _ := fullShare
  owed _ := 0

theorem A_eq (c : Dev nD) (w : Fin (cfgA m).W) : (dats m 0 c).A w = V m c (Pipeline.arrRef spec0 w) := by
  dsimp only [dats]

theorem after_0 (c : Dev nD) (t : Fin (cfgA m).N) : (dats m 0 c).after 0 t = iblk m c 0 t := by dsimp only [dats]; rfl
theorem after_1 (c : Dev nD) (t : Fin (cfgA m).N) : (dats m 0 c).after 1 t = iblk m c 1 t := by dsimp only [dats]; rfl
theorem after_2 (c : Dev nD) (t : Fin (cfgA m).N) : (dats m 0 c).after 2 t = iblk m c 2 t := by dsimp only [dats]; rfl
theorem after_3 (c : Dev nD) (t : Fin (cfgA m).N) : (dats m 0 c).after 3 t = iblk m c 3 t := by dsimp only [dats]; rfl
theorem after_4 (c : Dev nD) (t : Fin (cfgA m).N) : (dats m 0 c).after 4 t = iblk m c 4 t := by dsimp only [dats]; rfl
theorem after_5 (c : Dev nD) (t : Fin (cfgA m).N) : (dats m 0 c).after 5 t = iblk m c 5 t := by dsimp only [dats]; rfl
theorem after_7 (c : Dev nD) (t : Fin (cfgA m).N) : (dats m 0 c).after 7 t = rider10 (iblk m c 3 t) := by dsimp only [dats]; rfl
theorem after_8 (c : Dev nD) (t : Fin (cfgA m).N) : (dats m 0 c).after 8 t = rider11 (iblk m c 4 t) := by dsimp only [dats]; rfl
theorem after_9 (c : Dev nD) (t : Fin (cfgA m).N) : (dats m 0 c).after 9 t = rider12 (iblk m c 5 t) := by dsimp only [dats]; rfl

theorem before_0 (c : Dev nD) (t : Fin (cfgA m).N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin (cfgA m).N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin (cfgA m).N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin (cfgA m).N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin (cfgA m).N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin (cfgA m).N) (d) : (dats m 0 c).before 5 t d = iblk m c 5 t :=
  ((dats m 0 c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)

/-! ## The body at every point -/

/-- The body as the pipeline calls it at point `t`. -/
def bodyAt (t : Fin (cfgA m).N) : Prog (TpuEff nD τ sig (Elt F) Λ₀ .tc) PUnit :=
  cc0_attn (grid0.coords t) (Memref.whole main_arg0) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

def bodyPre (c : Dev nD) (t : Fin (cfgA m).N) : sProp 𝕄 :=
  iprop((dats m 0 c).Φ t.castSucc ∗ (dats m 0 c).owesAt () t.castSucc
    ∗ (∃ d, owns (c : Thread nD τ) (spec0_0.stage ((cfgA m).slots t 0)) fullShare ((dats m 0 c).before 0 t d))
    ∗ (∃ d, owns (c : Thread nD τ) (spec0_1.stage ((cfgA m).slots t 1)) fullShare ((dats m 0 c).before 1 t d))
    ∗ (∃ d, owns (c : Thread nD τ) (spec0_2.stage ((cfgA m).slots t 2)) fullShare ((dats m 0 c).before 2 t d))
    ∗ (∃ d, owns (c : Thread nD τ) (spec0_3.stage ((cfgA m).slots t 3)) fullShare ((dats m 0 c).before 3 t d))
    ∗ (∃ d, owns (c : Thread nD τ) (spec0_4.stage ((cfgA m).slots t 4)) fullShare ((dats m 0 c).before 4 t d))
    ∗ (∃ d, owns (c : Thread nD τ) (spec0_5.stage ((cfgA m).slots t 5)) fullShare ((dats m 0 c).before 5 t d))
    ∗ (∃ d, owns (c : Thread nD τ) (spec0_6.stage ((cfgA m).slots t 6)) fullShare d)
    ∗ (∃ d, owns (c : Thread nD τ) (spec0_7.stage ((cfgA m).slots t 7)) fullShare ((dats m 0 c).before 7 t d))
    ∗ (∃ d, owns (c : Thread nD τ) (spec0_8.stage ((cfgA m).slots t 8)) fullShare ((dats m 0 c).before 8 t d))
    ∗ (∃ d, owns (c : Thread nD τ) (spec0_9.stage ((cfgA m).slots t 9)) fullShare ((dats m 0 c).before 9 t d)))

def bodyPost (c : Dev nD) (t : Fin (cfgA m).N) : sProp 𝕄 :=
  iprop((dats m 0 c).Φ t.succ ∗ (dats m 0 c).owesAt () t.succ
    ∗ owns (c : Thread nD τ) (spec0_0.stage ((cfgA m).slots t 0)) fullShare ((dats m 0 c).after 0 t)
    ∗ owns (c : Thread nD τ) (spec0_1.stage ((cfgA m).slots t 1)) fullShare ((dats m 0 c).after 1 t)
    ∗ owns (c : Thread nD τ) (spec0_2.stage ((cfgA m).slots t 2)) fullShare ((dats m 0 c).after 2 t)
    ∗ owns (c : Thread nD τ) (spec0_3.stage ((cfgA m).slots t 3)) fullShare ((dats m 0 c).after 3 t)
    ∗ owns (c : Thread nD τ) (spec0_4.stage ((cfgA m).slots t 4)) fullShare ((dats m 0 c).after 4 t)
    ∗ owns (c : Thread nD τ) (spec0_5.stage ((cfgA m).slots t 5)) fullShare ((dats m 0 c).after 5 t)
    ∗ (∃ d, owns (c : Thread nD τ) (spec0_6.stage ((cfgA m).slots t 6)) fullShare d)
    ∗ owns (c : Thread nD τ) (spec0_7.stage ((cfgA m).slots t 7)) fullShare ((dats m 0 c).after 7 t)
    ∗ owns (c : Thread nD τ) (spec0_8.stage ((cfgA m).slots t 8)) fullShare ((dats m 0 c).after 8 t)
    ∗ owns (c : Thread nD τ) (spec0_9.stage ((cfgA m).slots t 9)) fullShare ((dats m 0 c).after 9 t))

/-- The table is of nonnegative words. -/
def Nonneg : Prop := ∀ x, 0 ≤ BitVec.toInt (n := 32) (V m 0 main_arg0 x)

theorem pos_of (h : Nonneg m) (f : BufTy.Contents (Elt F) main_arg0.ty) (e : (Memref.whole main_arg0).view.read (Elt F) f = V m 0 main_arg0) :
    Pos (F := F) (Memref.whole main_arg0) f := by
  simp only [Memref.view_whole, View.read_whole] at e; subst e; exact fun r x => h _

theorem phi_eq (c : Dev nD) (t : Fin ((cfgA m).N + 1)) : (dats m 0 c).Φ t
    = iprop((((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d) ∗ (∃ d, owns (c : Thread nD τ) (Memref.whole cc0_scratch5) fullShare d)
      ) ∗ (∃ r, prngReg c r)) ∗ owns (c : Thread nD τ) (Memref.whole main_arg0) fullShare.right (V m 0 main_arg0)) := by
  rw [show (dats m 0 c).Φ t = iprop(Pipeline.ΦA spec0 c ∗ Pipeline.ΦT pre0 (tables m 0).1 c) from rfl]
  rw [show (Pipeline.ΦT (U := UR sig nD τ) pre0 (tables m 0).1 c : sProp 𝕄) = ((c : Thread nD τ).loc main_arg0 ↦{fullShare.right} V m 0 main_arg0) from
    bigSep_univ_eq_bigSepL [(0 : Fin 1)] (by decide) (by decide) _]
  unfold Pipeline.ΦA; rw [scopedRest0_eq]; simp only [owns_whole]; try rfl

set_option maxHeartbeats 1000000 in
theorem sound_body (hn : Nonneg m) (c : Dev nD) (t : Fin (cfgA m).N) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5]
  rw [show (dats m 0 c).owesAt () t.succ = (dats m 0 c).owesAt () t.castSucc from rfl,
    after_0, after_1, after_2, after_3, after_4, after_5, after_7, after_8, after_9]
  rw [phi_eq, phi_eq]
  iintro ⟨⟨⟨⟨HS0, HS1, HS2, HS3, HS4, HS5⟩, HP⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_attn c (grid0.coords t) (Memref.whole main_arg0) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) fullShare.right (V m 0 main_arg0) (pos_of m hn)
    (iblk m c 0 t) (iblk m c 1 t) (iblk m c 2 t) (iblk m c 3 t) (iblk m c 4 t) (iblk m c 5 t) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨HT, H0, H1, H2, H3, H4, H5, H6, H7, H8, H9, HS0, HS1, HS2, HS3, HS4, HS5⟩
  isplitl [HT HP HS0 HS1 HS2 HS3 HS4 HS5]
  · isplitl [HP HS0 HS1 HS2 HS3 HS4 HS5]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      · iexact HP
    · iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin (cfgA m).N) :
    defs₀ (F := F) .tc (cfgA m).body ((cfgA m).bodyArgs t ((cfgA m).slots t)) = bodyAt m t := by
  unfold defs₀; rw [Defs.onTc_tc]; rfl

theorem body_obligation (hn : Nonneg m) (c : Dev nD) : BodyObligation (dats (F := F) m 0 c) (defs₀ (F := F)) Variants.none () Set.univ forgets := fun t => by
  rw [bigSep_W0, bigSep_W0, defs₀_row]
  exact triple_restated (sound_body m hn c t) rfl .rfl fun _ => .rfl

/-! ## The run and the frame -/

set_option backward.isDefEq.respectTransparency.types false in
set_option maxHeartbeats 1000000 in
/-- From any memory whose table is nonnegative the program runs to its end, the riders' outputs at what the proof data
    computes, every input array unchanged and every counter at zero. -/
theorem run_main (hn : Nonneg m) : θ_run defs (onTc (τ := τ) (main (F := F))) (s₀ m ρ)
    (fun r => RDat.FramePost (cfgA m) (fun c => (dats m 0 c).toRForget forgets) (V m) r ∧ r.2.sem = fun _ => 0) :=
  Pipeline.θ_run_frameP_forget (Q' := _) pcfgs (tables m) (dats m) (0 : Fin 1) launch0 defs₀ Variants.none forgets m ρ main
    (hbody := fun c => (body_obligation m hn c).loose) (hshare := fun c => (dats m 0 c).share_full fun _ => rfl)
    (howed := fun _ _ => rfl) (V := V m) (hmain := hmain m Variants.none) (hA := A_eq m)
    (hpf := fun c k => by rw [Subsingleton.elim c 0]; rfl) (hΦ := fun _ _ => rfl)

/-- The frame: the arguments end unchanged and every counter is zero. -/
theorem frame (hn : Nonneg m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (show main_arg0 ∈ Pipeline.restRefs sig spec0 by decide)).trans (V_main_arg0 m c), (RDat.FramePost.arr_in h.1 c 0 rfl).trans ((A_eq m c 0).trans (V_main_arg1 m c)), (RDat.FramePost.arr_in h.1 c 1 rfl).trans ((A_eq m c 1).trans (V_main_arg2 m c)), (RDat.FramePost.arr_in h.1 c 2 rfl).trans ((A_eq m c 2).trans (V_main_arg3 m c)), ((h.1 c).2 main_arg4 (show main_arg4 ∈ Pipeline.restRefs sig spec0 by decide)).trans (V_main_arg4 m c), (RDat.FramePost.arr_in h.1 c 4 rfl).trans ((A_eq m c 4).trans (V_main_arg5 m c)), ((h.1 c).2 main_arg6 (show main_arg6 ∈ Pipeline.restRefs sig spec0 by decide)).trans (V_main_arg6 m c)⟩, h.2⟩) (run_main m ρ hn)

end Cert.Proof.AttnIdeal

end
-- ==== Proof.MixBody.lean ====
/- The merge call's body run on a tile: what it leaves in its outputs and in the scratch it carries to the next tile. -/
module

public import proofs.«01_k».proof.Proof.Gen.Kernel2Ideal.Skeleton
public import proofs.«01_k».proof.Proof.Gen.Kernel2Ideal.Launch
public import Idealize.ShloMosaic.Adequacy
public import Idealize.ShloMosaic.Init
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 65536

noncomputable section

namespace Cert.Proof.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

abbrev rX0 : Rect S1024x1024 := Rect.unit (s := S1024x1024) ![0, 0] S256x1024.size inb_S1024x1024_S256x1024_0_0
abbrev rX1 : Rect S1024x1024 := Rect.unit (s := S1024x1024) ![256, 0] S256x1024.size inb_S1024x1024_S256x1024_256_0
abbrev rX2 : Rect S1024x1024 := Rect.unit (s := S1024x1024) ![512, 0] S256x1024.size inb_S1024x1024_S256x1024_512_0
abbrev rX3 : Rect S1024x1024 := Rect.unit (s := S1024x1024) ![768, 0] S256x1024.size inb_S1024x1024_S256x1024_768_0
abbrev rY0 : Rect S1024x512 := Rect.unit (s := S1024x512) ![0, 0] S256x512.size inb_S1024x512_S256x512_0_0
abbrev rY1 : Rect S1024x512 := Rect.unit (s := S1024x512) ![256, 0] S256x512.size inb_S1024x512_S256x512_256_0
abbrev rY2 : Rect S1024x512 := Rect.unit (s := S1024x512) ![512, 0] S256x512.size inb_S1024x512_S256x512_512_0
abbrev rY3 : Rect S1024x512 := Rect.unit (s := S1024x512) ![768, 0] S256x512.size inb_S1024x512_S256x512_768_0
abbrev rG : Rect S1x1024 := Rect.unit (s := S1x1024) ![0, 0] S1x1024.size inb_S1x1024_S1x1024_0_0
abbrev rW : Rect S1024x3584 := Rect.unit (s := S1024x3584) ![0, 0] S1024x3584.size inb_S1024x3584_S1024x3584_0_0
abbrev rC0 : Rect S3x512 := Rect.unit (s := S3x512) ![0, 0] S1x512.size inb_S3x512_S1x512_0_0
abbrev rC1 : Rect S3x512 := Rect.unit (s := S3x512) ![1, 0] S1x512.size inb_S3x512_S1x512_1_0
abbrev rC2 : Rect S3x512 := Rect.unit (s := S3x512) ![2, 0] S1x512.size inb_S3x512_S1x512_2_0
abbrev rA : Rect S1024x1024 := Rect.unit (s := S1024x1024) ![0, 0] S512x1024.size inb_S1024x1024_S512x1024_0_0
abbrev rB : Rect S1024x1024 := Rect.unit (s := S1024x1024) ![512, 0] S512x1024.size inb_S1024x1024_S512x1024_512_0
abbrev rO : Rect S1024x1024 := Rect.unit (s := S1024x1024) ![0, 0] S1024x1024.size inb_S1024x1024_S1024x1024_0_0
abbrev rU : Rect S64x5632 := Rect.unit (s := S64x5632) ![0, 0] S64x5632.size inb_S64x5632_S64x5632_0_0
abbrev rD : Rect S176x1024 := Rect.unit (s := S176x1024) ![0, 0] S176x1024.size inb_S176x1024_S176x1024_0_0
abbrev rS : Rect S8x512 := Rect.unit (s := S8x512) ![0, 0] S8x512.size inb_S8x512_S8x512_0_0

/-! ## What the body computes -/

/-- The projections of the tile's four quarters. -/
def p0 (x0 : Vec F S1024x1024 .f32) (x2 : Vec F S1x1024 .f32) (x4 : Vec F S1024x3584 .bf16) : FVec F S256x3584 .f32 := k0_pay5 (View.ld x0 rX0) (View.ld x2 rG) (View.ld x4 rW)
def p1 (x0 : Vec F S1024x1024 .f32) (x2 : Vec F S1x1024 .f32) (x4 : Vec F S1024x3584 .bf16) : FVec F S256x3584 .f32 := k0_pay7 (k0_pay6 (View.ld x0 rX1) (View.ld x2 rG)) (View.ld x4 rW)
def p2 (x0 : Vec F S1024x1024 .f32) (x2 : Vec F S1x1024 .f32) (x4 : Vec F S1024x3584 .bf16) : FVec F S256x3584 .f32 := k0_pay8 (k0_pay3 (View.ld x0 rX2)) (View.ld x2 rG) (View.ld x4 rW)
def p3 (x0 : Vec F S1024x1024 .f32) (x2 : Vec F S1x1024 .f32) (x4 : Vec F S1024x3584 .bf16) : FVec F S256x3584 .f32 := k0_pay9 (k0_pay4 (View.ld x0 rX3)) (View.ld x2 rG) (View.ld x4 rW)

/-- The quarters' merged branches through the output projection; the first reads the carried rows. -/
def m0 (i : grid0.Coords) (x0 : Vec F S1024x1024 .f32) (x1 : Vec F S1024x512 .bf16) (x2 : Vec F S1x1024 .f32) (x4 : Vec F S1024x3584 .bf16) (x5 : Vec F S3x512 .f32) (x6 : Vec F S1024x1024 .bf16) (x7 : Vec F S1024x1024 .bf16) (s : Vec F S8x512 .f32) : FVec F S256x1024 .f32 :=
  k0_pay37 (p0 x0 x2 x4)
    (k0_pay19 (k0_pay12 (p0 x0 x2 x4)) (k0_pay16 (BitVec.ofNat 32 (i 0).val) (p0 x0 x2 x4) (View.ld s rS) (View.ld x5 rC2) (View.ld x5 rC1))
      (k0_pay17 (BitVec.ofNat 32 (i 0).val) (p0 x0 x2 x4) (View.ld s rS)) (k0_pay18 (View.ld x5 rC0)) (View.ld x6 rA))
    (k0_pay20 (View.ld x1 rY0) (View.ld x6 rB)) (View.ld x7 rO)
def g1 (x0 : Vec F S1024x1024 .f32) (x1 : Vec F S1024x512 .bf16) (x2 : Vec F S1x1024 .f32) (x4 : Vec F S1024x3584 .bf16) (x5 : Vec F S3x512 .f32) (x6 : Vec F S1024x1024 .bf16) : FVec F S256x1024 .bf16 :=
  k0_pay38 (p1 x0 x2 x4) (k0_pay23 (p1 x0 x2 x4) (k0_pay15 (p0 x0 x2 x4)) (View.ld x5 rC2) (View.ld x5 rC1) (View.ld x5 rC0) (View.ld x6 rA))
    (k0_pay25 (k0_pay24 (View.ld x1 rY1)) (View.ld x6 rB))
def m2 (x0 : Vec F S1024x1024 .f32) (x1 : Vec F S1024x512 .bf16) (x2 : Vec F S1x1024 .f32) (x4 : Vec F S1024x3584 .bf16) (x5 : Vec F S3x512 .f32) (x6 : Vec F S1024x1024 .bf16) (x7 : Vec F S1024x1024 .bf16) : FVec F S256x1024 .f32 :=
  k0_pay40 (p2 x0 x2 x4) (k0_pay27 (p2 x0 x2 x4) (k0_pay22 (p1 x0 x2 x4)) (View.ld x5 rC2) (View.ld x5 rC1) (View.ld x5 rC0) (View.ld x6 rA))
    (k0_pay28 (View.ld x1 rY2) (View.ld x6 rB)) (View.ld x7 rO)
def m3 (x0 : Vec F S1024x1024 .f32) (x1 : Vec F S1024x512 .bf16) (x2 : Vec F S1x1024 .f32) (x4 : Vec F S1024x3584 .bf16) (x5 : Vec F S3x512 .f32) (x6 : Vec F S1024x1024 .bf16) (x7 : Vec F S1024x1024 .bf16) : FVec F S256x1024 .f32 :=
  k0_pay41 (p3 x0 x2 x4)
    (k0_pay34 (k0_pay29 (p3 x0 x2 x4)) (k0_pay31 (p2 x0 x2 x4) (p3 x0 x2 x4)) (k0_pay33 (p3 x0 x2 x4) (View.ld x5 rC2)) 1#32 (View.ld x5 rC1) (View.ld x5 rC0) (View.ld x6 rA))
    (k0_pay35 (View.ld x1 rY3) (View.ld x6 rB)) (View.ld x7 rO)

/-- The tile of the result. -/
def out10 (i : grid0.Coords) (x0 : Vec F S1024x1024 .f32) (x1 : Vec F S1024x512 .bf16) (x2 x3 : Vec F S1x1024 .f32) (x4 : Vec F S1024x3584 .bf16) (x5 : Vec F S3x512 .f32) (x6 : Vec F S1024x1024 .bf16) (x7 : Vec F S1024x1024 .bf16) (s : Vec F S8x512 .f32) : Vec F S1024x1024 .f32 :=
  View.canon [⟨rX3, k0_pay46 (k0_pay4 (View.ld x0 rX3)) (m3 x0 x1 x2 x4 x5 x6 x7) (View.ld x3 rG)⟩,
    ⟨rX2, k0_pay45 (k0_pay3 (View.ld x0 rX2)) (m2 x0 x1 x2 x4 x5 x6 x7) (View.ld x3 rG)⟩,
    ⟨rX1, k0_pay44 (k0_pay2 (View.ld x0 rX1)) (k0_pay39 (g1 x0 x1 x2 x4 x5 x6) (View.ld x7 rO)) (View.ld x3 rG) (k0_pay43 (g1 x0 x1 x2 x4 x5 x6) (View.ld x7 rO))⟩,
    ⟨rX0, k0_pay42 (k0_pay1 (View.ld x0 rX0)) (m0 i x0 x1 x2 x4 x5 x6 x7 s) (View.ld x3 rG)⟩]

/-- The rounded blocks of the two weights, and the rows carried on. -/
def out11 (x : Vec F S64x5632 .f32) : Vec F S64x5632 .bf16 := View.canon [⟨rU, k0_pay10 (View.ld x rU)⟩]
def out12 (x : Vec F S176x1024 .f32) : Vec F S176x1024 .bf16 := View.canon [⟨rD, k0_pay11 (View.ld x rD)⟩]
def tail (x0 : Vec F S1024x1024 .f32) (x2 : Vec F S1x1024 .f32) (x4 : Vec F S1024x3584 .bf16) : Vec F S8x512 .f32 := View.canon [⟨rS, k0_pay36 (k0_pay32 (p3 x0 x2 x4))⟩]

theorem cover10 (a b d e : Vec F S256x1024 .f32) (y : S1024x1024.Idx) :
    ∃ pc ∈ ([⟨rX3, a⟩, ⟨rX2, b⟩, ⟨rX1, d⟩, ⟨rX0, e⟩] : List (View.Piece (Elt F) S1024x1024 .f32)), y ∈ pc.1.set :=
  View.cover_of_tiled [⟨rX3, a⟩, ⟨rX2, b⟩, ⟨rX1, d⟩, ⟨rX0, e⟩] S256x1024.size (by rfl) y
theorem cover11 (p : Vec F S64x5632 .bf16) (y : S64x5632.Idx) :
    ∃ pc ∈ ([⟨rU, p⟩] : List (View.Piece (Elt F) S64x5632 .bf16)), y ∈ pc.1.set :=
  View.cover_of_tiled [⟨rU, p⟩] S64x5632.size (by rfl) y
theorem cover12 (p : Vec F S176x1024 .bf16) (y : S176x1024.Idx) :
    ∃ pc ∈ ([⟨rD, p⟩] : List (View.Piece (Elt F) S176x1024 .bf16)), y ∈ pc.1.set :=
  View.cover_of_tiled [⟨rD, p⟩] S176x1024.size (by rfl) y
theorem coverS (p : Vec F S8x512 .f32) (y : S8x512.Idx) :
    ∃ pc ∈ ([⟨rS, p⟩] : List (View.Piece (Elt F) S8x512 .f32)), y ∈ pc.1.set :=
  View.cover_of_tiled [⟨rS, p⟩] S8x512.size (by rfl) y

/-! ## The body's triple -/

set_option maxHeartbeats 2000000 in
/-- The body on whole buffers, the scratch at `s`: it leaves the inputs as they were and the outputs at what is defined above. -/
theorem sound_mix (c : Dev nD) (E : Set ℕ) (i : grid0.Coords) (arg1 : Memref sig .tc .vmem S1024x1024 .f32) (harg1 : arg1.IsWhole) (arg2 : Memref sig .tc .vmem S1024x512 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3584 .bf16) (harg5 : arg5.IsWhole) (arg6 : Memref sig .tc .vmem S3x512 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S64x5632 .f32) (harg9 : arg9.IsWhole) (arg10 : Memref sig .tc .vmem S176x1024 .f32) (harg10 : arg10.IsWhole) (arg11 : Memref sig .tc .vmem S1024x1024 .f32) (harg11 : arg11.IsWhole) (arg12 : Memref sig .tc .vmem S64x5632 .bf16) (harg12 : arg12.IsWhole) (arg13 : Memref sig .tc .vmem S176x1024 .bf16) (harg13 : arg13.IsWhole) (arg14 : Memref sig .tc .vmem S8x512 .f32) (harg14 : arg14.IsWhole)
    (x0 : Vec F S1024x1024 .f32) (x1 : Vec F S1024x512 .bf16) (x2 : Vec F S1x1024 .f32) (x3 : Vec F S1x1024 .f32) (x4 : Vec F S1024x3584 .bf16) (x5 : Vec F S3x512 .f32) (x6 : Vec F S1024x1024 .bf16) (x7 : Vec F S1024x1024 .bf16) (x8 : Vec F S64x5632 .f32) (x9 : Vec F S176x1024 .f32) (s : Vec F S8x512 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (∃ d, owns (c : Thread nD τ) arg12 fullShare d)
        ∗ (∃ d, owns (c : Thread nD τ) arg13 fullShare d)
        ∗ owns (c : Thread nD τ) arg14 fullShare s
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare (out10 i x0 x1 x2 x3 x4 x5 x6 x7 s)
          ∗ owns (c : Thread nD τ) arg12 fullShare (out11 x8)
          ∗ owns (c : Thread nD τ) arg13 fullShare (out12 x9)
          ∗ owns (c : Thread nD τ) arg14 fullShare (tail x0 x2 x4)) -∗ K ⟨⟩))
      ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_mix_eq_skeleton]; unfold cc0_mix_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs, %hfs, HS⟩, Hk⟩
  subst hf0 hf1 hf2 hf3 hf4 hf5 hf6 hf7 hf8 hf9 hfs
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (cover10 _ _ _ _)).trans rfl
  isplitl [H11]
  · iexists _; isplitr
    swap; · iexact H11
    ipureintro
    exact (View.read_writes_eq_canon _ _ _ (cover11 _)).trans rfl
  isplitl [H12]
  · iexists _; isplitr
    swap; · iexact H12
    ipureintro
    exact (View.read_writes_eq_canon _ _ _ (cover12 _)).trans rfl
  iexists _; isplitr
  swap; · iexact HS
  ipureintro
  exact (View.read_writes_eq_canon _ _ _ (coverS _)).trans rfl

end Cert.Proof.Mix

end
-- ==== Proof.MixLaunch.lean ====
/- The merge call's launch: the rows carried from tile to tile named at every point, the outputs stated at every point. -/
module

public import proofs.«01_k».proof.Proof.MixBody
public import proofs.«01_k».proof.Proof.Gen.Kernel2Ideal.Frame

@[expose] public section

set_option maxRecDepth 65536

noncomputable section

namespace Cert.Proof.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch as the body's argument. -/
abbrev scM : Memref sig .tc .vmem S8x512 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the scratch holds before point `n`: the rows the tile before left (before the first, nothing that is read). -/
def carry (c : Dev nD) : ℕ → Vec F S8x512 .f32
  | 0 => fun _ => Scalar.ofBits .f32 0x00000000#32
  | n + 1 => if h : n < cfg0.N then tail (iblk m c 0 ⟨n, h⟩) (iblk m c 2 ⟨n, h⟩) (iblk m c 4 ⟨n, h⟩) else fun _ => Scalar.ofBits .f32 0x00000000#32

theorem carry_succ (c : Dev nD) (t : Fin cfg0.N) : carry m c (t.val + 1) = tail (iblk m c 0 t) (iblk m c 2 t) (iblk m c 4 t) :=
  dif_pos t.isLt

/-- The first tile of all reads nothing of the scratch. -/
theorem pay14_first (v : FVec F S256x3584 .f32) (a b : Vec F S8x512 .f32) : k0_pay14 0#32 v a = k0_pay14 0#32 v b := rfl

theorem out10_first (c : Dev nD) (t : Fin cfg0.N) (h : t.val = 0) (x0 : Vec F S1024x1024 .f32) (x1 : Vec F S1024x512 .bf16) (x2 : Vec F S1x1024 .f32) (x3 : Vec F S1x1024 .f32) (x4 : Vec F S1024x3584 .bf16) (x5 : Vec F S3x512 .f32) (x6 : Vec F S1024x1024 .bf16) (x7 : Vec F S1024x1024 .bf16) (a b : Vec F S8x512 .f32) :
    out10 (grid0.coords t) x0 x1 x2 x3 x4 x5 x6 x7 a = out10 (grid0.coords t) x0 x1 x2 x3 x4 x5 x6 x7 b := by
  have e : t = ⟨0, by decide⟩ := Fin.ext h
  subst e
  have e0 : BitVec.ofNat 32 (grid0.coords ⟨0, by decide⟩ 0).val = 0#32 := by decide
  have e1 : m0 (grid0.coords ⟨0, by decide⟩) x0 x1 x2 x4 x5 x6 x7 a = m0 (grid0.coords ⟨0, by decide⟩) x0 x1 x2 x4 x5 x6 x7 b := by
    unfold m0 k0_pay16 k0_pay17
    rw [e0, pay14_first (p0 x0 x2 x4) (View.ld a rS) (View.ld b rS)]
  unfold out10
  rw [e1]

/-- The proof data: the inputs' buffers at their blocks, the outputs' at what the body computes, the scratch at the carried rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (grid0.coords t) (iblk m c 0 t) (iblk m c 1 t) (iblk m c 2 t) (iblk m c 3 t) (iblk m c 4 t) (iblk m c 5 t) (iblk m c 6 t) (iblk m c 7 t) (carry m c t.val)
    | ⟨11, _⟩ => out11 (iblk m c 8 t)
    | ⟨12, _⟩ => out12 (iblk m c 9 t)
  Φ t := iprop(iprop(∃ d, iprop(⌜t.val ≠ 0 → d = carry m c t.val⌝) ∗ owns (c : Thread nD τ) scM fullShare d) ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = out10 (grid0.coords t) (iblk m c 0 t) (iblk m c 1 t) (iblk m c 2 t) (iblk m c 3 t) (iblk m c 4 t) (iblk m c 5 t) (iblk m c 6 t) (iblk m c 7 t) (carry m c t.val) := by dsimp only [dats]
theorem after_11 (c : Dev nD) (t : Fin cfg0.N) : (dats m 0 c).after 11 t = out11 (iblk m c 8 t) := by dsimp only [dats]
theorem after_12 (c : Dev nD) (t : Fin cfg0.N) : (dats m 0 c).after 12 t = out12 (iblk m c 9 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.castSucc = iprop(iprop(∃ d, iprop(⌜t.val ≠ 0 → d = carry m c t.val⌝) ∗ owns (c : Thread nD τ) scM fullShare d) ∗ (∃ r, prngReg c r)) from rfl,
    show (dats m 0 c).Φ t.succ = iprop(iprop(∃ d, iprop(⌜t.val + 1 ≠ 0 → d = carry m c (t.val + 1)⌝) ∗ owns (c : Thread nD τ) scM fullShare d) ∗ (∃ r, prngReg c r)) from rfl,
    show (dats m 0 c).owesAt () t.succ = (dats m 0 c).owesAt () t.castSucc from rfl,
    after_0, after_1, after_2, after_3, after_4, after_5, after_6, after_7, after_8, after_9, after_10, after_11, after_12, carry_succ]
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have es : out10 (grid0.coords t) (iblk m c 0 t) (iblk m c 1 t) (iblk m c 2 t) (iblk m c 3 t) (iblk m c 4 t) (iblk m c 5 t) (iblk m c 6 t) (iblk m c 7 t) s = out10 (grid0.coords t) (iblk m c 0 t) (iblk m c 1 t) (iblk m c 2 t) (iblk m c 3 t) (iblk m c 4 t) (iblk m c 5 t) (iblk m c 6 t) (iblk m c 7 t) (carry m c t.val) := by
    by_cases h : t.val = 0
    · exact out10_first c t h _ _ _ _ _ _ _ _ _ _
    · rw [hs h]
  rw [← es]
  iapply (sound_mix c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS]; · iexact HS
  iintro ⟨H0, H1, H2, H3, H4, H5, H6, H7, H8, H9, H10, H11, H12, HS⟩
  isplitl [HS Hg]
  · isplitl [HS]
    · iexists _; isplitr
      · ipureintro; exact fun _ => rfl
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : (Pipeline.ΦA spec0 c : sProp 𝕄) ⊢ (dats (F := F) m 0 c).Φ 0 := by
  rw [PhiA_eq]
  show _ ⊢ iprop(iprop(∃ d, iprop(⌜(0 : ℕ) ≠ 0 → d = carry m c 0⌝) ∗ owns (c : Thread nD τ) scM fullShare d) ∗ (∃ r, prngReg c r))
  iintro ⟨⟨%d, H⟩, Hg⟩
  isplitl [H]
  · iexists d; isplitr
    · ipureintro; exact fun h => absurd rfl h
    iexact H
  iexact Hg

theorem phi_out (c : Dev nD) : (dats (F := F) m 0 c).Φ (Fin.last cfg0.N) ⊢ (Pipeline.ΦA spec0 c : sProp 𝕄) := by
  rw [PhiA_eq]
  show iprop(iprop(∃ d, iprop(⌜cfg0.N ≠ 0 → d = carry m c cfg0.N⌝) ∗ owns (c : Thread nD τ) scM fullShare d) ∗ (∃ r, prngReg c r)) ⊢ _
  iintro ⟨⟨%d, %hd, H⟩, Hg⟩
  isplitl [H]
  · iexists d; iexact H
  iexact Hg

set_option backward.isDefEq.respectTransparency.types false in
set_option maxHeartbeats 1000000 in
/-- The run: every output array at what the proof data computes, every other buffer as it was, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) ((θ_run defs _ _).mono (fun _ h => h.1) (run_main m ρ))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main m ρ))

end Cert.Proof.Mix

end
-- ==== Proof.Frames.lean ====
/- The frames of the four calls and of their references: each program runs to its end, leaves its arguments as they were and
   every semaphore counter at zero. -/
module

public import proofs.«01_k».proof.Defs
public import proofs.«01_k».proof.Proof.AttnLaunch
public import proofs.«01_k».proof.Proof.AttnBitsLaunch
public import proofs.«01_k».proof.Proof.Gen.ReferenceIdeal.Run
public import proofs.«01_k».proof.Proof.Gen.Reference2Ideal.Run
public import proofs.«01_k».proof.Proof.MixLaunch
public import proofs.«01_k».proof.Proof.Gen.Kernel2
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Pre_first_nonneg
public import Idealize.ShloMosaic.Lib.Quiescent

@[expose] public section

set_option maxRecDepth 16384

noncomputable section

namespace Cert.Proof.Frames

open Idealize.ShloMosaic Idealize.ShloMosaic.TcCoe Idealize.SL.Sem

/-- A word that compares at least zero is not negative. -/
theorem nonneg_of_sge (a : BitVec 32) (h : IntOp.cmpi .sge a 0#32 = 1#1) : 0 ≤ a.toInt := by
  simp only [IntOp.cmpi] at h
  by_contra hn
  rw [not_le] at hn
  have e : (0#32).sle a = false := by
    rw [BitVec.sle_eq_decide]
    simpa using hn
  rw [e] at h
  exact absurd h (by decide)

theorem nonneg_ideal (m : (ℓ : Loc Cert.KernelIdeal.nD Cert.KernelIdeal.τ Cert.KernelIdeal.sig) → Buf (Elt Ideal) ℓ)
    (h : Cert.Pre_KernelIdeal m) : Cert.Proof.AttnIdeal.Nonneg (F := Ideal) m := fun x => by
  rw [Cert.Proof.AttnIdeal.V_main_arg0]
  exact nonneg_of_sge _ (congrFun (h 0) x)

theorem nonneg_bits (m : (ℓ : Loc Cert.Kernel.nD Cert.Kernel.τ Cert.Kernel.sig) → Buf (Elt Bits) ℓ)
    (h : Cert.Pre_Kernel m) : Cert.Proof.AttnBits.Nonneg (F := Bits) m := fun x => by
  rw [Cert.Proof.AttnBits.V_main_arg0]
  exact nonneg_of_sge _ (congrFun (h 0) x)

theorem frame_kernel : Cert.quiescent_Kernel := fun m g h =>
  Cert.Proof.AttnBits.frame (F := Bits) m g (nonneg_bits m h)

theorem frame_kernelIdeal : Cert.quiescent_KernelIdeal := fun m g h =>
  Cert.Proof.AttnIdeal.frame (F := Ideal) m g (nonneg_ideal m h)

theorem frame_reference : Cert.quiescent_ReferenceIdeal := fun m g _ =>
  (θ_run Cert.ReferenceIdeal.defs _ _).mono
    (fun r h => ⟨fun c => (h c).2.2.2.2, sem_eq_zero_of_no_sems rfl r.2⟩) (Cert.ReferenceIdeal.Value.run m g)

/-! ## The merge's two programs have one text -/

theorem mix_body {F : FTy → Type} [FloatOps F] : Cert.Kernel2.cc0_mix (F := F) = Cert.Kernel2Ideal.cc0_mix (F := F) := rfl

theorem mix_table {F : FTy → Type} [FloatOps F] : Cert.Kernel2.defs₀ (F := F) = Cert.Kernel2Ideal.defs₀ (F := F) := by
  unfold Cert.Kernel2.defs₀ Cert.Kernel2Ideal.defs₀
  refine congrArg Defs.onTc (funext fun i => funext fun p => ?_)
  match i, p with
  | 0, (t, s) =>
    show Cert.Kernel2.cc0_mix _ _ _ _ _ _ _ _ _ _ _ _ _ _ _ _ _ _ _ _ _ _ _ _ _ _ _ _ _ = _
    rw [mix_body]
    rfl
  | ⟨_ + 1, h⟩, _ => exact absurd h (Nat.not_lt.2 (Nat.le_add_left _ _))

theorem mix_defs {F : FTy → Type} [FloatOps F] : Cert.Kernel2.defs (F := F) = Cert.Kernel2Ideal.defs (F := F) :=
  congrArg (Pipeline.defs Cert.Kernel2Ideal.pcfgs) mix_table

/-- The ideal program's run, at the machine's floats. -/
theorem frame_kernel2 : Cert.quiescent_Kernel2 := fun m g _ => by
  rw [mix_defs]
  exact Cert.Proof.Mix.frame (F := Bits) m g

theorem frame_reference2 : Cert.quiescent_Reference2Ideal := fun m g _ =>
  (θ_run Cert.Reference2Ideal.defs _ _).mono
    (fun r h => ⟨fun c => (h c).2.2.2, sem_eq_zero_of_no_sems rfl r.2⟩) (Cert.Reference2Ideal.Value.run m g)

theorem frame_kernel3 : Cert.quiescent_Kernel3 := fun m g _ => Cert.Kernel3.Gen.frame m g

theorem frame_kernel3Ideal : Cert.quiescent_Kernel3Ideal := fun m g _ => Cert.Kernel3Ideal.Gen.frame m g

/-! ## The projection call -/

theorem frame_kernel4 : Cert.quiescent_Kernel4 := fun m g _ => Cert.Kernel4.Gen.frame m g

theorem frame_kernel4Ideal : Cert.quiescent_Kernel4Ideal := fun m g _ => Cert.Kernel4Ideal.Gen.frame m g

theorem preserves : Cert.preserves_Kernel_KernelIdeal :=
  IdealRules.named_const.statement Cert.KernelIdeal.κ "mask" .f32 0xF149F2CA#32 ⊥ rfl

end Cert.Proof.Frames

end
-- ==== Proof.FfnRow.lean ====
/- The feed-forward call's value: every row of its result is one function of the same row of its input. -/
module

public import Idealize.ShloMosaic.Lib.Pointwise
public import proofs.«01_k».proof.Proof.Gen.Kernel3Ideal.Value
public import proofs.«01_k».proof.Proof.Gen.Reference3Ideal.Run

@[expose] public section

set_option maxRecDepth 16384

noncomputable section

namespace Cert.Proof.Ffn

open Idealize.ShloMosaic Idealize.ShloMosaic.Pointwise
open Cert.Kernel3Ideal Cert.Kernel3Ideal.Gen

/-- The reciprocal root of a row's mean square. -/
def inv (x : Fin 1024 → EReal) : EReal :=
  Ideal.rsqrt (Ideal.div (∑ k, x k * x k) (Ideal.ofBits .f32 0x44800000#32) + Ideal.ofBits .f32 0x358637BD#32)

/-- The normalized row times the gate-and-up weights. -/
def up (x g : Fin 1024 → EReal) (w : Fin 1024 → Fin 5632 → EReal) (l : Fin 5632) : EReal :=
  ∑ k, x k * inv x * g k * w k l

/-- The gated row times the down weights. -/
def down (u : Fin 5632 → EReal) (w : Fin 2816 → Fin 1024 → EReal) (l : Fin 1024) : EReal :=
  ∑ k : Fin 2816, u ⟨k.val, by omega⟩ * Ideal.logistic (u ⟨k.val, by omega⟩) * u ⟨2816 + k.val, by omega⟩ * w k l

/-- The row plus the normalized feed-forward of it. -/
def tail (x y g : Fin 1024 → EReal) (l : Fin 1024) : EReal := x l + y l * inv y * g l

/-- A row of the call's result. -/
def row (x g₁ g₂ : Fin 1024 → EReal) (wu : Fin 1024 → Fin 5632 → EReal) (wd : Fin 2816 → Fin 1024 → EReal) : Fin 1024 → EReal :=
  tail x (down (up x g₁ wu) wd) g₂

/-- The rows of a matrix of `n` rows, each put through `row`. -/
def rows (n : ℕ) (x : (⟨2, ![n, 1024]⟩ : Shape).Idx → EReal) (g₁ g₂ : S1x1024.Idx → EReal) (wu : S1024x5632.Idx → EReal)
    (wd : S2816x1024.Idx → EReal) (i : (⟨2, ![n, 1024]⟩ : Shape).Idx) : EReal :=
  row (fun k => x (ix2 (i 0) k)) (fun k => g₁ (ix2 0 k)) (fun k => g₂ (ix2 0 k)) (fun k l => wu (ix2 k l)) (fun k l => wd (ix2 k l)) (i 1)

theorem exists_ix2 {n k : ℕ} (i : (⟨2, ![n, k]⟩ : Shape).Idx) : ∃ (r : Fin n) (l : Fin k), i = ix2 r l := ⟨i 0, i 1, eq_ix2 i⟩

/-! ## The kernel's payloads, row by row -/

theorem pay2 (x : Vec Ideal S256x1024 .f32) (g : Vec Ideal S1x1024 .f32) (w : Vec Ideal S1024x5632 .bf16) (r : Fin 256) (l : Fin 5632) :
    k0_pay2 x g w (ix2 r l) = up (fun k => x (ix2 r k)) (fun k => g (ix2 0 k)) (fun k l => w (ix2 k l)) l := by
  pointwise [k0_pay2]
  rfl

theorem pay4 (x : Vec Ideal S256x1024 .f32) (g : Vec Ideal S1x1024 .f32) (w : Vec Ideal S1024x5632 .bf16) (r : Fin 256) (l : Fin 5632) :
    k0_pay4 (k0_pay3 x g) w (constant S256x5632 .f32 0x00000000#32) (ix2 r l) = up (fun k => x (ix2 r k)) (fun k => g (ix2 0 k)) (fun k l => w (ix2 k l)) l := by
  pointwise [k0_pay4, k0_pay3]
  rfl

theorem pay7 (u : FVec Ideal S256x5632 .f32) (w : Vec Ideal S2816x1024 .bf16) (r : Fin 256) (l : Fin 1024) :
    k0_pay7 u w (ix2 r l) = down (fun k => u (ix2 r k)) (fun k l => w (ix2 k l)) l := by
  pointwise [k0_pay7]
  rfl

theorem pay11 (x y : FVec Ideal S256x1024 .f32) (g : Vec Ideal S1x1024 .f32) (r : Fin 256) (l : Fin 1024) :
    k0_pay11 x y g (ix2 r l) = tail (fun k => x (ix2 r k)) (fun k => y (ix2 r k)) (fun k => g (ix2 0 k)) l := by
  pointwise [k0_pay11]
  rfl

/-- The first piece's payload; the other three are the same operations, cut at other places. -/
theorem piece0 (x : Vec Ideal S256x1024 .f32) (g₁ g₂ : Vec Ideal S1x1024 .f32) (wu : Vec Ideal S1024x5632 .bf16) (wd : Vec Ideal S2816x1024 .bf16)
    (i : S256x1024.Idx) : k0_pay11 x (k0_pay7 (k0_pay2 x g₁ wu) wd) g₂ i = rows 256 x g₁ g₂ wu wd i := by
  obtain ⟨r, l, rfl⟩ := exists_ix2 i
  rw [pay11]
  simp only [pay7, pay2]
  rfl

theorem piece1 (x : Vec Ideal S256x1024 .f32) (g₁ g₂ : Vec Ideal S1x1024 .f32) (wu : Vec Ideal S1024x5632 .bf16) (wd : Vec Ideal S2816x1024 .bf16)
    (i : S256x1024.Idx) :
    k0_pay13 x (k0_pay8 (k0_pay4 (k0_pay3 x g₁) wu (constant S256x5632 .f32 0x00000000#32)) wd) g₂
      (k0_pay12 (k0_pay4 (k0_pay3 x g₁) wu (constant S256x5632 .f32 0x00000000#32)) wd) i = rows 256 x g₁ g₂ wu wd i :=
  piece0 x g₁ g₂ wu wd i

theorem piece2 (x : Vec Ideal S256x1024 .f32) (g₁ g₂ : Vec Ideal S1x1024 .f32) (wu : Vec Ideal S1024x5632 .bf16) (wd : Vec Ideal S2816x1024 .bf16)
    (i : S256x1024.Idx) : k0_pay14 x (k0_pay9 (k0_pay5 x g₁ wu) wd) g₂ i = rows 256 x g₁ g₂ wu wd i :=
  piece0 x g₁ g₂ wu wd i

theorem piece3 (x : Vec Ideal S256x1024 .f32) (g₁ g₂ : Vec Ideal S1x1024 .f32) (wu : Vec Ideal S1024x5632 .bf16) (wd : Vec Ideal S2816x1024 .bf16)
    (i : S256x1024.Idx) : k0_pay1 x (k0_pay15 (k0_pay10 (k0_pay6 x g₁ wu) wd) g₂) i = rows 256 x g₁ g₂ wu wd i :=
  piece0 x g₁ g₂ wu wd i

/-! ## A block, the whole array, and the reference -/

/-- A load of the rows from `o` on reads `rows` of them as `rows` of the block, `o` rows down. -/
theorem rows_ld (o : ℕ) (ho : o + 256 ≤ 1024) (inb : ∀ a, (![o, 0] : Fin 2 → ℕ) a + S256x1024.size a ≤ S1024x1024.size a)
    (x : Vec Ideal S1024x1024 .f32) (g₁ g₂ : S1x1024.Idx → EReal) (wu : S1024x5632.Idx → EReal) (wd : S2816x1024.Idx → EReal) (i : S256x1024.Idx) :
    rows 256 (View.ld x (Rect.unit (s := S1024x1024) ![o, 0] S256x1024.size inb)) g₁ g₂ wu wd i
      = rows 1024 x g₁ g₂ wu wd ((Rect.unit (s := S1024x1024) ![o, 0] S256x1024.size inb).emb i) := by
  obtain ⟨r, l, rfl⟩ := exists_ix2 i
  have e1 : ((Rect.unit (s := S1024x1024) ![o, 0] S256x1024.size inb).emb (ix2 r l) 1) = (l : Fin 1024) :=
    Fin.ext (by show 0 + 1 * l.val = l.val; omega)
  have e0 : ∀ k : Fin 1024, View.ld x (Rect.unit (s := S1024x1024) ![o, 0] S256x1024.size inb) (ix2 r k)
      = x (ix2 ((Rect.unit (s := S1024x1024) ![o, 0] S256x1024.size inb).emb (ix2 r l) 0) k) := fun k => by
    show x _ = x _
    refine congrArg x (Shape.idx_ext₂ ?_ ?_)
    · rfl
    · show 0 + 1 * k.val = k.val; omega
  unfold rows
  rw [e1]
  exact congrArg (fun z => row z (fun k => g₁ (ix2 0 k)) (fun k => g₂ (ix2 0 k)) (fun k l => wu (ix2 k l)) (fun k l => wd (ix2 k l)) l) (funext e0)

theorem out0_5_eq (x : Vec Ideal S1024x1024 .f32) (g₁ g₂ : Vec Ideal S1x1024 .f32) (wu : Vec Ideal S1024x5632 .bf16) (wd : Vec Ideal S2816x1024 .bf16) :
    out0_5 x g₁ g₂ wu wd = rows 1024 x g₁ g₂ wu wd := by
  funext y
  unfold_out out0_5
  have hg : ∀ g : Vec Ideal S1x1024 .f32, View.ld g r0_4 = g := fun g => View.ld_unit_zero (by funext a; fin_cases a <;> rfl) _ g
  have hu : View.ld wu r0_5 = wu := View.ld_unit_zero (by funext a; fin_cases a <;> rfl) _ wu
  have hd : View.ld wd r0_6 = wd := View.ld_unit_zero (by funext a; fin_cases a <;> rfl) _ wd
  rw [hg, hg, hu, hd]
  refine View.canon_apply_of_pieces (Val := Elt Ideal) (S := S1024x1024) (e := .f32) (rows 1024 x g₁ g₂ wu wd) _ ?_ y (cover0_5 _ _ _ _ y)
  intro p hp
  simp only [List.mem_cons, List.not_mem_nil, or_false] at hp
  rcases hp with rfl | rfl | rfl | rfl
  · exact fun i => (piece3 _ g₁ g₂ wu wd i).trans (rows_ld 768 (by decide) _ x g₁ g₂ wu wd i)
  · exact fun i => (piece2 _ g₁ g₂ wu wd i).trans (rows_ld 512 (by decide) _ x g₁ g₂ wu wd i)
  · exact fun i => (piece1 _ g₁ g₂ wu wd i).trans (rows_ld 256 (by decide) _ x g₁ g₂ wu wd i)
  · exact fun i => (piece0 _ g₁ g₂ wu wd i).trans (rows_ld 0 (by decide) _ x g₁ g₂ wu wd i)

/-- The reference's result. -/
theorem ref_eq (m : (ℓ : Loc Cert.Reference3Ideal.nD Cert.Reference3Ideal.τ Cert.Reference3Ideal.sig) → Buf (Elt Ideal) ℓ) (c : Dev Cert.Reference3Ideal.nD) :
    Cert.Reference3Ideal.Value.res_main_v32 (F := Ideal) m c
      = rows 16384 (m ((c.tc : Thread _ Cert.Reference3Ideal.τ).loc Cert.Reference3Ideal.main_arg0)) (m ((c.tc : Thread _ Cert.Reference3Ideal.τ).loc Cert.Reference3Ideal.main_arg1))
          (m ((c.tc : Thread _ Cert.Reference3Ideal.τ).loc Cert.Reference3Ideal.main_arg2)) (m ((c.tc : Thread _ Cert.Reference3Ideal.τ).loc Cert.Reference3Ideal.main_arg3))
          (m ((c.tc : Thread _ Cert.Reference3Ideal.τ).loc Cert.Reference3Ideal.main_arg4)) := by
  funext i
  obtain ⟨r, l, rfl⟩ := exists_ix2 i
  pointwise [Cert.Reference3Ideal.Value.res_main_v32]
  rfl

end Cert.Proof.Ffn
-- ==== Proof.FfnValue.lean ====
/- The feed-forward call's whole result, and its algebraic claim: both programs end at one matrix. -/
module

public import proofs.«01_k».proof.Proof.FfnRow
public import proofs.«01_k».proof.Defs
public import Idealize.ShloMosaic.Lib.Quiescent
public import Idealize.ShloMosaic.Lib.Pipeline.ValueKit.Geometry

@[expose] public section

set_option maxRecDepth 16384

noncomputable section

namespace Cert.Proof.Ffn

open Idealize.ShloMosaic Idealize.ShloMosaic.TcCoe Idealize.ShloMosaic.Pointwise Idealize.SL.Sem
open Idealize.ShloMosaic.Pipeline (Dat)
open Cert.Kernel3Ideal Cert.Kernel3Ideal.Gen

variable (m : (ℓ : Loc nD τ sig) → Buf (Elt Ideal) ℓ) (c : Dev nD)

/-- The kernel's result. -/
abbrev G : S16384x1024.Idx → EReal :=
  rows 16384 (V m c main_arg0) (V m c main_arg1) (V m c main_arg2) (V m c main_arg3) (V m c main_arg4)

theorem blk1 (t : Fin cfg0.N) : iblk m c 1 t = V m c main_arg1 := by
  funext x
  show V m c main_arg1 ((win0_1.rect t).emb x) = _
  exact congrArg _ (funext fun a => Fin.ext (Pipeline.Window.rect_emb_val_of_index_zero win0_1 t a (by fin_cases a <;> rfl) x))
theorem blk2 (t : Fin cfg0.N) : iblk m c 2 t = V m c main_arg2 := by
  funext x
  show V m c main_arg2 ((win0_2.rect t).emb x) = _
  exact congrArg _ (funext fun a => Fin.ext (Pipeline.Window.rect_emb_val_of_index_zero win0_2 t a (by fin_cases a <;> rfl) x))
theorem blk3 (t : Fin cfg0.N) : iblk m c 3 t = V m c main_arg3 := by
  funext x
  show V m c main_arg3 ((win0_3.rect t).emb x) = _
  exact congrArg _ (funext fun a => Fin.ext (Pipeline.Window.rect_emb_val_of_index_zero win0_3 t a (by fin_cases a <;> rfl) x))
theorem blk4 (t : Fin cfg0.N) : iblk m c 4 t = V m c main_arg4 := by
  funext x
  show V m c main_arg4 ((win0_4.rect t).emb x) = _
  exact congrArg _ (funext fun a => Fin.ext (Pipeline.Window.rect_emb_val_of_index_zero win0_4 t a (by fin_cases a <;> rfl) x))

theorem index0 : ∀ t : Fin grid0.N, win0_0.index t 0 = t.val ∧ win0_0.index t 1 = 0 := by decide +kernel
theorem index5 : ∀ t : Fin grid0.N, win0_5.index t 0 = t.val ∧ win0_5.index t 1 = 0 := by decide +kernel

theorem flushed (t : Fin cfg0.N) : (dats m 0 c).flushed 5 t = ((cfg0.win 5).blk t).view.read (Elt Ideal) (G m c) := by
  rw [Cert.Kernel3Ideal.Value.flushed5, out0_5_eq, blk1, blk2, blk3, blk4]
  funext i
  show rows 1024 (iblk m c 0 t) _ _ _ _ i = rows 16384 (V m c main_arg0) _ _ _ _ ((win0_5.rect t).emb i)
  have h0 : ((win0_5.rect t).emb i 0 : ℕ) = t.val * 1024 + (i 0).val :=
    (Pipeline.Window.rect_emb_val win0_5 t i 0).trans (by rw [(index5 t).1]; rfl)
  have h1 : (win0_5.rect t).emb i 1 = i 1 :=
    Fin.ext (Pipeline.Window.rect_emb_val_of_index_zero win0_5 t 1 (index5 t).2 i)
  unfold rows
  rw [h1]
  refine congrArg (fun z => row z _ _ _ _ (i 1)) (funext fun k => ?_)
  show V m c main_arg0 ((win0_0.rect t).emb (ix2 (i 0) k)) = _
  refine congrArg _ (Shape.idx_ext₂ ?_ ?_)
  · refine (Pipeline.Window.rect_emb_val win0_0 t (ix2 (i 0) k) 0).trans (Eq.trans ?_ h0.symm)
    rw [(index0 t).1]; rfl
  · exact Pipeline.Window.rect_emb_val_of_index_zero win0_0 t 1 (index0 t).2 (ix2 (i 0) k)

theorem final : (dats m 0 c).arrAt 5 cfg0.N = G m c :=
  (dats m 0 c).arrAt_eq_of_cover 5 (G m c) (fun t _ => flushed m c t)
    (fun i => Pipeline.Window.Covers.cover (w := win0_5) (by decide +kernel) (Memref.isWhole_whole _) i)

theorem algebraic : Cert.algebraic_Kernel3Ideal_Reference3Ideal := by
  intro m g m' g' _ hm
  refine ⟨fun c => G m c, (θ_run Cert.Kernel3Ideal.defs _ _).mono (fun _ h c => ?_) (Cert.Kernel3Ideal.Value.run_blocks m g),
    (θ_run Cert.Reference3Ideal.defs _ _).mono (fun _ h c => ?_) (Cert.Reference3Ideal.Value.run m' g')⟩
  · exact ⟨(h c).1.trans (final m c), (h c).2⟩
  · refine ⟨(h c).1.trans ((ref_eq m' c).trans ?_), (h c).2⟩
    obtain ⟨h0, h1, h2, h3, h4⟩ := hm c
    rw [h0, h1, h2, h3, h4]

theorem frame_reference : Cert.quiescent_Reference3Ideal := fun m g _ =>
  (θ_run Cert.Reference3Ideal.defs _ _).mono (fun r h => ⟨fun c => (h c).2, sem_eq_zero_of_no_sems rfl r.2⟩) (Cert.Reference3Ideal.Value.run m g)

end Cert.Proof.Ffn
-- ==== Proof.MixRow.lean ====
/- The merge call's value: every row of its result is one function of the same row of its inputs and the two rows before. -/
module

public import proofs.«01_k».proof.Proof.FfnRow
public import proofs.«01_k».proof.Proof.MixBody
public import Idealize.ShloMosaic.Lib.KernelVsHost

@[expose] public section

set_option maxRecDepth 16384

noncomputable section

namespace Cert.Proof.Mix

open Idealize.ShloMosaic Idealize.ShloMosaic.Pointwise
open Cert.Kernel2Ideal Cert.Kernel2Ideal.Gen
open Cert.Proof.Ffn (inv exists_ix2)

/-- The normalized row times the projection weights. -/
def proj (x g : Fin 1024 → EReal) (w : Fin 1024 → Fin 3584 → EReal) (l : Fin 3584) : EReal :=
  ∑ k, x k * inv x * g k * w k l

/-- The convolution's input, of a projected row. -/
def zrow (p : Fin 3584 → EReal) (c : Fin 512) : EReal := p ⟨512 + c.val, by omega⟩ * p ⟨1024 + c.val, by omega⟩

/-- The three taps over a row and the two rows before. -/
def conv (w0 w1 w2 z z1 z2 : Fin 512 → EReal) (c : Fin 512) : EReal := w2 c * z c + w1 c * z1 c + w0 c * z2 c

/-- The convolution's branch. -/
def brA (p : Fin 3584 → EReal) (v : Fin 512 → EReal) (w : Fin 512 → Fin 1024 → EReal) (l : Fin 1024) : EReal :=
  ∑ k : Fin 512, p ⟨k.val, by omega⟩ * v k * w k l

/-- The attention's branch. -/
def brB (y : Fin 512 → EReal) (w : Fin 512 → Fin 1024 → EReal) (l : Fin 1024) : EReal := ∑ k : Fin 512, y k * w k l

/-- The gated sum of the branches times the output weights. -/
def mix (p : Fin 3584 → EReal) (a b : Fin 1024 → EReal) (w : Fin 1024 → Fin 1024 → EReal) (l : Fin 1024) : EReal :=
  ∑ k : Fin 1024, (Ideal.logistic (p ⟨1536 + k.val, by omega⟩) * a k + Ideal.logistic (p ⟨2560 + k.val, by omega⟩) * b k) * w k l

/-- A row of the call's result. -/
def row (x g₁ g₂ : Fin 1024 → EReal) (w : Fin 1024 → Fin 3584 → EReal) (y z1 z2 w0 w1 w2 : Fin 512 → EReal)
    (wa wb : Fin 512 → Fin 1024 → EReal) (wo : Fin 1024 → Fin 1024 → EReal) : Fin 1024 → EReal :=
  Ffn.tail x (mix (proj x g₁ w) (brA (proj x g₁ w) (conv w0 w1 w2 (zrow (proj x g₁ w)) z1 z2) wa) (brB y wb) wo) g₂

/-! ## The kernel's payloads, row by row -/

theorem pay5 (x : Vec Ideal S256x1024 .f32) (g : Vec Ideal S1x1024 .f32) (w : Vec Ideal S1024x3584 .bf16) (r : Fin 256) (l : Fin 3584) :
    k0_pay5 x g w (ix2 r l) = proj (fun k => x (ix2 r k)) (fun k => g (ix2 0 k)) (fun k l => w (ix2 k l)) l := by
  pointwise [k0_pay5, k0_pay1]
  rfl

theorem pay30 (p : FVec Ideal S256x3584 .f32) (r : Fin 256) (l : Fin 512) :
    k0_pay30 p (ix2 r l) = zrow (fun k => p (ix2 r k)) l := by
  pointwise [k0_pay30]
  rfl

/-- A row of the stacked carried and own rows, by the row's number. -/
theorem stack (s : FVec Ideal S8x512 .f32) (z : FVec Ideal S256x512 .f32) (n : Fin 264) (l : Fin 512) :
    concatenate S264x512 0 [⟨S8x512, s⟩, ⟨S256x512, z⟩] concatenates_S8x512_S256x512_S264x512_d0 (ix2 n l)
      = if h : n.val < 8 then s (ix2 ⟨n.val, h⟩ l) else z (ix2 ⟨n.val - 8, by omega⟩ l) := by
  pointwise []

theorem pay34 (p : FVec Ideal S256x3584 .f32) (zz : FVec Ideal S264x512 .f32) (c2 c1 c0 : Vec Ideal S1x512 .f32) (w : Vec Ideal S512x1024 .bf16)
    (r : Fin 256) (l : Fin 1024) :
    k0_pay34 (k0_pay29 p) zz (k0_pay33 p c2) 1#32 c1 c0 w (ix2 r l)
      = brA (fun k => p (ix2 r k))
          (conv (fun k => c0 (ix2 0 k)) (fun k => c1 (ix2 0 k)) (fun k => c2 (ix2 0 k)) (zrow fun k => p (ix2 r k))
            (fun k => zz (ix2 ⟨r.val + 7, by omega⟩ k)) (fun k => zz (ix2 ⟨r.val + 6, by omega⟩ k)))
          (fun k l => w (ix2 k l)) l := by
  pointwise [k0_pay34, k0_pay29, k0_pay33, k0_pay30]
  have h1 : ∀ (k : Fin 512) (h : (8 + r.val + 264 - 1) % 264 < 264), zz (ix2 (⟨(8 + r.val + 264 - 1) % 264, h⟩ : Fin 264) k) = zz (ix2 ⟨r.val + 7, by omega⟩ k) :=
    fun k h => congrArg zz (Shape.idx_ext₂ (by show (8 + r.val + 264 - 1) % 264 = r.val + 7; omega) rfl)
  have h2 : ∀ (k : Fin 512) (h : (8 + r.val + 264 - 2) % 264 < 264), zz (ix2 (⟨(8 + r.val + 264 - 2) % 264, h⟩ : Fin 264) k) = zz (ix2 ⟨r.val + 6, by omega⟩ k) :=
    fun k h => congrArg zz (Shape.idx_ext₂ (by show (8 + r.val + 264 - 2) % 264 = r.val + 6; omega) rfl)
  refine Finset.sum_congr rfl fun k _ => ?_
  exact congrArg₂ _ (congrArg₂ _ rfl (congrArg₂ _ (congrArg₂ _ rfl (congrArg₂ _ rfl (h1 k _))) (congrArg₂ _ rfl (h2 k _)))) rfl

theorem pay28 (y : Vec Ideal S256x512 .bf16) (w : Vec Ideal S512x1024 .bf16) (r : Fin 256) (l : Fin 1024) :
    k0_pay28 y w (ix2 r l) = brB (fun k => y (ix2 r k)) (fun k l => w (ix2 k l)) l := by
  pointwise [k0_pay28]
  rfl

theorem pay40 (p : FVec Ideal S256x3584 .f32) (a b : FVec Ideal S256x1024 .f32) (w : Vec Ideal S1024x1024 .bf16) (r : Fin 256) (l : Fin 1024) :
    k0_pay40 p a b w (ix2 r l) = mix (fun k => p (ix2 r k)) (fun k => a (ix2 r k)) (fun k => b (ix2 r k)) (fun k l => w (ix2 k l)) l := by
  pointwise [k0_pay40]
  rfl

theorem pay45 (x y : FVec Ideal S256x1024 .f32) (g : Vec Ideal S1x1024 .f32) (r : Fin 256) (l : Fin 1024) :
    k0_pay45 x y g (ix2 r l) = Ffn.tail (fun k => x (ix2 r k)) (fun k => y (ix2 r k)) (fun k => g (ix2 0 k)) l := by
  pointwise [k0_pay45]
  rfl

/-- A quarter's rows, from its rows of the inputs and the stacked rows its convolution reads. -/
theorem quarter (x : Vec Ideal S256x1024 .f32) (y : Vec Ideal S256x512 .bf16) (g₁ g₂ : Vec Ideal S1x1024 .f32) (w : Vec Ideal S1024x3584 .bf16)
    (zz : FVec Ideal S264x512 .f32) (c2 c1 c0 : Vec Ideal S1x512 .f32) (wa wb : Vec Ideal S512x1024 .bf16) (wo : Vec Ideal S1024x1024 .bf16)
    (r : Fin 256) (l : Fin 1024) :
    k0_pay45 x (k0_pay40 (k0_pay5 x g₁ w)
        (k0_pay34 (k0_pay29 (k0_pay5 x g₁ w)) zz (k0_pay33 (k0_pay5 x g₁ w) c2) 1#32 c1 c0 wa) (k0_pay28 y wb) wo) g₂ (ix2 r l)
      = row (fun k => x (ix2 r k)) (fun k => g₁ (ix2 0 k)) (fun k => g₂ (ix2 0 k)) (fun k l => w (ix2 k l)) (fun k => y (ix2 r k))
          (fun k => zz (ix2 ⟨r.val + 7, by omega⟩ k)) (fun k => zz (ix2 ⟨r.val + 6, by omega⟩ k))
          (fun k => c0 (ix2 0 k)) (fun k => c1 (ix2 0 k)) (fun k => c2 (ix2 0 k))
          (fun k l => wa (ix2 k l)) (fun k l => wb (ix2 k l)) (fun k l => wo (ix2 k l)) l := by
  rw [pay45]
  simp only [pay40, pay34, pay28, pay5]
  rfl

end Cert.Proof.Mix
-- ==== Proof.MixTile.lean ====
/- The merge call's tile: what the body leaves of the result and of the carried rows, row by row. -/
module

public import proofs.«01_k».proof.Proof.MixRow

@[expose] public section

set_option maxRecDepth 16384

noncomputable section

namespace Cert.Proof.Mix

open Idealize.ShloMosaic Idealize.ShloMosaic.Pointwise
open Cert.Kernel2Ideal Cert.Kernel2Ideal.Gen
open Cert.Proof.Ffn (inv exists_ix2)

/-- A tile's rows of the convolution's input, eight carried rows in front. -/
def zt (s : S8x512.Idx → EReal) (x : S1024x1024.Idx → EReal) (g : S1x1024.Idx → EReal) (w : S1024x3584.Idx → EReal) (n : ℕ) (l : Fin 512) : EReal :=
  if h : n < 8 then s (ix2 ⟨n, h⟩ l)
  else if h' : n - 8 < 1024 then zrow (proj (fun k => x (ix2 ⟨n - 8, h'⟩ k)) (fun k => g (ix2 0 k)) (fun k l => w (ix2 k l))) l
  else 0

/-- The tile of the result, by rows. -/
def tileRow (s : S8x512.Idx → EReal) (x : S1024x1024.Idx → EReal) (y : S1024x512.Idx → EReal) (g₁ g₂ : S1x1024.Idx → EReal) (w : S1024x3584.Idx → EReal)
    (cw : S3x512.Idx → EReal) (wb wo : S1024x1024.Idx → EReal) (r l : Fin 1024) : EReal :=
  row (fun k => x (ix2 r k)) (fun k => g₁ (ix2 0 k)) (fun k => g₂ (ix2 0 k)) (fun k l => w (ix2 k l)) (fun k => y (ix2 r k))
    (zt s x g₁ w (r.val + 7)) (zt s x g₁ w (r.val + 6)) (fun k => cw (ix2 0 k)) (fun k => cw (ix2 1 k)) (fun k => cw (ix2 2 k))
    (fun k l => wb (ix2 ⟨k.val, by omega⟩ l)) (fun k l => wb (ix2 ⟨512 + k.val, by omega⟩ l)) (fun k l => wo (ix2 k l)) l

/-- The carried rows the tile at a grid point reads: none at a sequence's start. -/
def sel (n : ℕ) (s : S8x512.Idx → EReal) : S8x512.Idx → EReal := if n % 8 = 0 then fun _ => 0 else s

theorem pay1 (x : Vec Ideal S256x1024 .f32) (r : Fin 256) (l : Fin 1024) : k0_pay1 x (ix2 r l) = x (ix2 r l) := by
  pointwise [k0_pay1]

theorem pay15 (p : FVec Ideal S256x3584 .f32) (n : Fin 8) (l : Fin 512) :
    k0_pay15 p (ix2 n l) = zrow (fun k => p (ix2 ⟨248 + n.val, by omega⟩ k)) l := by
  pointwise [k0_pay15, k0_pay13]
  rfl

theorem pay36 (p : FVec Ideal S256x3584 .f32) (n : Fin 8) (l : Fin 512) :
    k0_pay36 (k0_pay32 p) (ix2 n l) = zrow (fun k => p (ix2 ⟨248 + n.val, by omega⟩ k)) l := by
  pointwise [k0_pay36, k0_pay32, k0_pay30]
  rfl

theorem pay14 (t : Fin 16) (p : FVec Ideal S256x3584 .f32) (s : Vec Ideal S8x512 .f32) :
    k0_pay14 (BitVec.ofNat 32 t.val) p s
      = concatenate S264x512 0 [⟨S8x512, sel t.val s⟩, ⟨S256x512, k0_pay30 p⟩] concatenates_S8x512_S256x512_S264x512_d0 := by
  have h0 : (broadcast S8x512 (Scalar.ofBits .f32 0x00000000#32 : Ideal .f32) : FVec Ideal S8x512 .f32) = fun _ => (0 : EReal) := by
    funext i
    exact Ideal.ofBits_zero_f32
  have h : ∀ t : Fin 16, k0_pay14 (BitVec.ofNat 32 t.val) p s
      = concatenate S264x512 0 [⟨S8x512, if t.val % 8 = 0 then broadcast S8x512 (Scalar.ofBits .f32 0x00000000#32 : Ideal .f32) else s⟩, ⟨S256x512, k0_pay30 p⟩] concatenates_S8x512_S256x512_S264x512_d0 := fun t => by
    fin_cases t <;> rfl
  rw [h t, h0]
  rfl

/-- A load of the rows from `o` on. -/
theorem ldx (o : ℕ) (ho : o + 256 ≤ 1024) (inb : ∀ a, (![o, 0] : Fin 2 → ℕ) a + S256x1024.size a ≤ S1024x1024.size a) (x : Vec Ideal S1024x1024 .f32) (r : Fin 256) (l : Fin 1024) :
    View.ld x (Rect.unit (s := S1024x1024) ![o, 0] S256x1024.size inb) (ix2 r l) = x (ix2 ⟨o + r.val, by omega⟩ l) := by
  show x _ = x _
  refine congrArg x (Shape.idx_ext₂ ?_ ?_)
  · show o + 1 * r.val = o + r.val; omega
  · show 0 + 1 * l.val = l.val; omega

theorem ldy (o : ℕ) (ho : o + 256 ≤ 1024) (inb : ∀ a, (![o, 0] : Fin 2 → ℕ) a + S256x512.size a ≤ S1024x512.size a) (x : Vec Ideal S1024x512 .bf16) (r : Fin 256) (l : Fin 512) :
    View.ld x (Rect.unit (s := S1024x512) ![o, 0] S256x512.size inb) (ix2 r l) = x (ix2 ⟨o + r.val, by omega⟩ l) := by
  show x _ = x _
  refine congrArg x (Shape.idx_ext₂ ?_ ?_)
  · show o + 1 * r.val = o + r.val; omega
  · show 0 + 1 * l.val = l.val; omega

theorem ldc (o : Fin 3) (inb : ∀ a, (![o.val, 0] : Fin 2 → ℕ) a + S1x512.size a ≤ S3x512.size a) (x : Vec Ideal S3x512 .f32) (l : Fin 512) :
    View.ld x (Rect.unit (s := S3x512) ![o.val, 0] S1x512.size inb) (ix2 0 l) = x (ix2 o l) := by
  show x _ = x _
  refine congrArg x (Shape.idx_ext₂ ?_ ?_)
  · show o.val + 1 * 0 = o.val; omega
  · show 0 + 1 * l.val = l.val; omega

theorem ldb (o : ℕ) (ho : o + 512 ≤ 1024) (inb : ∀ a, (![o, 0] : Fin 2 → ℕ) a + S512x1024.size a ≤ S1024x1024.size a) (x : Vec Ideal S1024x1024 .bf16) (r : Fin 512) (l : Fin 1024) :
    View.ld x (Rect.unit (s := S1024x1024) ![o, 0] S512x1024.size inb) (ix2 r l) = x (ix2 ⟨o + r.val, by omega⟩ l) := by
  show x _ = x _
  refine congrArg x (Shape.idx_ext₂ ?_ ?_)
  · show o + 1 * r.val = o + r.val; omega
  · show 0 + 1 * l.val = l.val; omega

theorem ldg (g : Vec Ideal S1x1024 .f32) : View.ld g rG = g := View.ld_unit_zero (by funext a; fin_cases a <;> rfl) _ g
theorem ldw (w : Vec Ideal S1024x3584 .bf16) : View.ld w rW = w := View.ld_unit_zero (by funext a; fin_cases a <;> rfl) _ w
theorem ldo (w : Vec Ideal S1024x1024 .bf16) : View.ld w rO = w := View.ld_unit_zero (by funext a; fin_cases a <;> rfl) _ w
theorem lds (s : Vec Ideal S8x512 .f32) : View.ld s rS = s := View.ld_unit_zero (by funext a; fin_cases a <;> rfl) _ s

/-- The projections of the rows from `o` on. -/
theorem projs (o : ℕ) (ho : o + 256 ≤ 1024) (X : Vec Ideal S256x1024 .f32) (x : Vec Ideal S1024x1024 .f32)
    (hX : ∀ r k, X (ix2 r k) = x (ix2 ⟨o + r.val, by omega⟩ k)) (g : Vec Ideal S1x1024 .f32) (w : Vec Ideal S1024x3584 .bf16) (r : Fin 256) :
    (fun l => k0_pay5 X g w (ix2 r l))
      = proj (fun k => x (ix2 ⟨o + r.val, by omega⟩ k)) (fun k => g (ix2 0 k)) (fun k l => w (ix2 k l)) := by
  funext l
  rw [pay5]
  simp only [hX]

/-- The stacked rows of a quarter are the tile's, `o` rows down, if the rows in front are. -/
theorem stack_zt (o : ℕ) (ho : o + 256 ≤ 1024) (s : S8x512.Idx → EReal) (X : Vec Ideal S256x1024 .f32)
    (x : Vec Ideal S1024x1024 .f32) (hX : ∀ r k, X (ix2 r k) = x (ix2 ⟨o + r.val, by omega⟩ k)) (g : Vec Ideal S1x1024 .f32) (w : Vec Ideal S1024x3584 .bf16) (s' : FVec Ideal S8x512 .f32)
    (hs : ∀ (n : Fin 8) (l : Fin 512), s' (ix2 n l) = zt s x g w (o + n.val) l) (n : Fin 264) (l : Fin 512) :
    concatenate S264x512 0 [⟨S8x512, s'⟩, ⟨S256x512, k0_pay30 (k0_pay5 X g w)⟩] concatenates_S8x512_S256x512_S264x512_d0 (ix2 n l)
      = zt s x g w (o + n.val) l := by
  rw [stack]
  by_cases h : n.val < 8
  · rw [dif_pos h]; exact hs ⟨n.val, h⟩ l
  · rw [dif_neg h, pay30, projs o ho X x hX]
    unfold zt
    rw [dif_neg (by omega), dif_pos (by omega)]
    refine congrArg (fun z => zrow (proj z (fun k => g (ix2 0 k)) (fun k l => w (ix2 k l))) l) (funext fun k => congrArg x (Shape.idx_ext₂ ?_ rfl))
    show o + (n.val - 8) = o + n.val - 8
    omega

/-- The last eight rows of a quarter are the rows in front of the next. -/
theorem last_zt (o : ℕ) (ho : o + 256 ≤ 1024) (s : S8x512.Idx → EReal) (X : Vec Ideal S256x1024 .f32)
    (x : Vec Ideal S1024x1024 .f32) (hX : ∀ r k, X (ix2 r k) = x (ix2 ⟨o + r.val, by omega⟩ k)) (g : Vec Ideal S1x1024 .f32) (w : Vec Ideal S1024x3584 .bf16) (n : Fin 8) (l : Fin 512) :
    k0_pay15 (k0_pay5 X g w) (ix2 n l) = zt s x g w (o + 256 + n.val) l := by
  rw [pay15, projs o ho X x hX]
  unfold zt
  rw [dif_neg (by omega), dif_pos (by omega)]
  refine congrArg (fun z => zrow (proj z (fun k => g (ix2 0 k)) (fun k l => w (ix2 k l))) l) (funext fun k => congrArg x (Shape.idx_ext₂ ?_ rfl))
  show o + (248 + n.val) = o + 256 + n.val - 8
  omega

/-- A quarter of the tile. -/
theorem quarter_tile (o : ℕ) (ho : o + 256 ≤ 1024) (s : S8x512.Idx → EReal) (X : Vec Ideal S256x1024 .f32) (Y : Vec Ideal S256x512 .bf16)
    (x : Vec Ideal S1024x1024 .f32) (y : Vec Ideal S1024x512 .bf16) (hX : ∀ r k, X (ix2 r k) = x (ix2 ⟨o + r.val, by omega⟩ k)) (hY : ∀ r k, Y (ix2 r k) = y (ix2 ⟨o + r.val, by omega⟩ k))
    (g₁ g₂ : Vec Ideal S1x1024 .f32) (w : Vec Ideal S1024x3584 .bf16) (cw : Vec Ideal S3x512 .f32) (wb wo : Vec Ideal S1024x1024 .bf16) (zz : FVec Ideal S264x512 .f32)
    (hz : ∀ (n : Fin 264) (l : Fin 512), zz (ix2 n l) = zt s x g₁ w (o + n.val) l) (r : Fin 256) (l : Fin 1024) :
    k0_pay45 (k0_pay1 X)
        (k0_pay40 (k0_pay5 X g₁ w)
          (k0_pay34 (k0_pay29 (k0_pay5 X g₁ w)) zz
            (k0_pay33 (k0_pay5 X g₁ w) (View.ld cw rC2)) 1#32 (View.ld cw rC1) (View.ld cw rC0) (View.ld wb rA))
          (k0_pay28 Y (View.ld wb rB)) wo) g₂ (ix2 r l)
      = tileRow s x y g₁ g₂ w cw wb wo ⟨o + r.val, by omega⟩ l := by
  rw [pay45]
  simp only [pay40, pay34, pay28, projs o ho X x hX, pay1, hX, hY, hz]
  have c0 : ∀ k, View.ld cw rC0 (ix2 0 k) = cw (ix2 0 k) := fun k => ldc 0 _ cw k
  have c1 : ∀ k, View.ld cw rC1 (ix2 0 k) = cw (ix2 1 k) := fun k => ldc 1 _ cw k
  have c2 : ∀ k, View.ld cw rC2 (ix2 0 k) = cw (ix2 2 k) := fun k => ldc 2 _ cw k
  have a : ∀ (k : Fin 512) l, View.ld wb rA (ix2 k l) = wb (ix2 ⟨k.val, by omega⟩ l) := fun k l =>
    (ldb 0 (by omega) _ wb k l).trans (congrArg wb (Shape.idx_ext₂ (by show 0 + k.val = k.val; omega) rfl))
  have b : ∀ (k : Fin 512) l, View.ld wb rB (ix2 k l) = wb (ix2 ⟨512 + k.val, by omega⟩ l) := fun k l => ldb 512 (by omega) _ wb k l
  simp only [c0, c1, c2, a, b]
  rfl

/-- A quarter of the tile, as the piece the body writes. -/
theorem quarter_piece (o : ℕ) (ho : o + 256 ≤ 1024) (inb : ∀ a, (![o, 0] : Fin 2 → ℕ) a + S256x1024.size a ≤ S1024x1024.size a)
    (inb' : ∀ a, (![o, 0] : Fin 2 → ℕ) a + S256x512.size a ≤ S1024x512.size a) {s : S8x512.Idx → EReal} (x : Vec Ideal S1024x1024 .f32) (y : Vec Ideal S1024x512 .bf16)
    (g₁ g₂ : Vec Ideal S1x1024 .f32) (w : Vec Ideal S1024x3584 .bf16) (cw : Vec Ideal S3x512 .f32) (wb wo : Vec Ideal S1024x1024 .bf16) (zz : FVec Ideal S264x512 .f32)
    (hz : ∀ (n : Fin 264) (l : Fin 512), zz (ix2 n l) = zt s x g₁ w (o + n.val) l) (i : S256x1024.Idx) :
    k0_pay45 (k0_pay1 (View.ld x (Rect.unit (s := S1024x1024) ![o, 0] S256x1024.size inb)))
        (k0_pay40 (k0_pay5 (View.ld x (Rect.unit (s := S1024x1024) ![o, 0] S256x1024.size inb)) g₁ w)
          (k0_pay34 (k0_pay29 (k0_pay5 (View.ld x (Rect.unit (s := S1024x1024) ![o, 0] S256x1024.size inb)) g₁ w)) zz
            (k0_pay33 (k0_pay5 (View.ld x (Rect.unit (s := S1024x1024) ![o, 0] S256x1024.size inb)) g₁ w) (View.ld cw rC2)) 1#32 (View.ld cw rC1) (View.ld cw rC0) (View.ld wb rA))
          (k0_pay28 (View.ld y (Rect.unit (s := S1024x512) ![o, 0] S256x512.size inb')) (View.ld wb rB)) wo) g₂ i
      = tileRow s x y g₁ g₂ w cw wb wo ((Rect.unit (s := S1024x1024) ![o, 0] S256x1024.size inb).emb i 0) ((Rect.unit (s := S1024x1024) ![o, 0] S256x1024.size inb).emb i 1) := by
  obtain ⟨r, l, rfl⟩ := exists_ix2 i
  refine (quarter_tile o ho s _ _ x y (ldx o ho inb x) (ldy o ho inb' y) g₁ g₂ w cw wb wo zz hz r l).trans ?_
  exact congrArg₂ (tileRow s x y g₁ g₂ w cw wb wo) (Fin.ext (by show o + r.val = o + 1 * r.val; omega)) (Fin.ext (by show l.val = 0 + 1 * l.val; omega))

theorem out10_eq (i : grid0.Coords) (x : Vec Ideal S1024x1024 .f32) (y : Vec Ideal S1024x512 .bf16) (g₁ g₂ : Vec Ideal S1x1024 .f32) (w : Vec Ideal S1024x3584 .bf16)
    (cw : Vec Ideal S3x512 .f32) (wb wo : Vec Ideal S1024x1024 .bf16) (s : Vec Ideal S8x512 .f32) :
    out10 i x y g₁ g₂ w cw wb wo s = fun j => tileRow (sel (i 0).val s) x y g₁ g₂ w cw wb wo (j 0) (j 1) := by
  funext j
  unfold out10
  refine View.canon_apply_of_pieces (Val := Elt Ideal) (S := S1024x1024) (e := .f32) (fun j => tileRow (sel (i 0).val s) x y g₁ g₂ w cw wb wo (j 0) (j 1)) _ ?_ j (cover10 _ _ _ _ j)
  unfold m0 g1 m2 m3 p0 p1 p2 p3
  rw [ldg, ldg, ldw, ldo, lds]
  intro p hp
  simp only [List.mem_cons, List.not_mem_nil, or_false] at hp
  rcases hp with rfl | rfl | rfl | rfl
  · exact fun k => quarter_piece 768 (by omega) _ _ x y g₁ g₂ w cw wb wo _ (stack_zt 768 (by omega) _ _ x (ldx 768 (by omega) _ x) g₁ w _ (last_zt 512 (by omega) _ _ x (ldx 512 (by omega) _ x) g₁ w)) k
  · exact fun k => quarter_piece 512 (by omega) _ _ x y g₁ g₂ w cw wb wo _ (stack_zt 512 (by omega) _ _ x (ldx 512 (by omega) _ x) g₁ w _ (last_zt 256 (by omega) _ _ x (ldx 256 (by omega) _ x) g₁ w)) k
  · exact fun k => quarter_piece 256 (by omega) _ _ x y g₁ g₂ w cw wb wo _ (stack_zt 256 (by omega) _ _ x (ldx 256 (by omega) _ x) g₁ w _ (last_zt 0 (by omega) _ _ x (ldx 0 (by omega) _ x) g₁ w)) k
  · exact fun k => quarter_piece 0 (by omega) _ _ x y g₁ g₂ w cw wb wo (k0_pay14 (BitVec.ofNat 32 (i 0).val) (k0_pay5 (View.ld x rX0) g₁ w) s) (fun n l => by
      rw [pay14 (i 0)]
      exact stack_zt 0 (by omega) _ _ x (ldx 0 (by omega) _ x) g₁ w _ (fun n l => by
        unfold zt
        rw [dif_pos (by omega)]
        exact congrArg (sel _ s) (Shape.idx_ext₂ (by show n.val = 0 + n.val; omega) rfl)) n l) k

/-- The rows carried to the next tile. -/
theorem tail_eq (x : Vec Ideal S1024x1024 .f32) (g : Vec Ideal S1x1024 .f32) (w : Vec Ideal S1024x3584 .bf16) (n : Fin 8) (l : Fin 512) :
    tail x g w (ix2 n l) = zrow (proj (fun k => x (ix2 ⟨1016 + n.val, by omega⟩ k)) (fun k => g (ix2 0 k)) (fun k l => w (ix2 k l))) l := by
  unfold tail p3
  rw [ldg, ldw]
  refine (View.canon_apply_of_pieces (Val := Elt Ideal) (S := S8x512) (e := .f32)
    (fun j => zrow (proj (fun k => x (ix2 ⟨1016 + (j 0).val, by have := (j 0).isLt; show 1016 + (j 0).val < 1024; change (j 0).val < 8 at this; omega⟩ k)) (fun k => g (ix2 0 k)) (fun k l => w (ix2 k l))) (j 1)) _ ?_ (ix2 n l) (coverS _ _))
  intro p hp
  simp only [List.mem_cons, List.not_mem_nil, or_false] at hp
  subst hp
  intro i
  obtain ⟨n, l, rfl⟩ := exists_ix2 i
  have e1 : (rS.emb (ix2 n l) 1) = (l : Fin 512) := Fin.ext (by show 0 + 1 * l.val = l.val; omega)
  refine (pay36 (k0_pay5 (View.ld x rX3) g w) n l).trans ?_
  rw [projs 768 (by omega) _ x (ldx 768 (by omega) _ x)]
  refine Eq.trans ?_ (congrArg (zrow _) e1.symm)
  refine congrArg (fun z => zrow (proj z (fun k => g (ix2 0 k)) (fun k l => w (ix2 k l))) l) (funext fun k => congrArg x (Shape.idx_ext₂ ?_ rfl))
  show 768 + (248 + n.val) = 1016 + (0 + 1 * n.val)
  omega

end Cert.Proof.Mix
-- ==== Proof.MixRef.lean ====
/- The merge's reference, row by row. -/
module

public import proofs.«01_k».proof.Proof.MixRow
public import proofs.«01_k».proof.Proof.Gen.Reference2Ideal.Run

@[expose] public section

set_option maxRecDepth 16384

noncomputable section

namespace Cert.Proof.MixRef

open Idealize.ShloMosaic Idealize.ShloMosaic.Pointwise
open Cert.Reference2Ideal Cert.Reference2Ideal.Gen
open Cert.Proof.Mix (proj zrow conv brA brB mix row)

/-- The projections. -/
def P (x : FVec Ideal S2x8192x1024 .f32) (g₁ : FVec Ideal S1x1024 .f32) (w : FVec Ideal S1024x3584 .bf16) : FVec Ideal S2x8192x3584 .f32 :=
  Host.dotGeneral dot_S2x8192x1024_S1024x3584_S2x8192x3584_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g₁ shapeCasts_S1x1024_S1024)))) (extf .f32 w bitsLt_bf16_f32)

/-- The convolution's input, two zero rows in front of each sequence. -/
def Z (p : FVec Ideal S2x8192x3584 .f32) : FVec Ideal S2x8194x512 .f32 :=
  pad S2x8194x512 ![0, 2, 0] ![0, 0, 0] ![0, 0, 0] (mulf (extractStridedSlice S2x8192x512 ![0, 0, 512] p slices_S2x8192x3584_S2x8192x512_0_0_512) (extractStridedSlice S2x8192x512 ![0, 0, 1024] p slices_S2x8192x3584_S2x8192x512_0_0_1024)) (sitofp .f32 (constantI S_ 32 0#32)) pads_S2x8192x512_S2x8194x512_000_200_000 h_S_

/-- The convolution's branch. -/
def A (p : FVec Ideal S2x8192x3584 .f32) (z : FVec Ideal S2x8194x512 .f32) (cw : FVec Ideal S3x512 .f32) (wb : FVec Ideal S1024x1024 .bf16) : FVec Ideal S2x8192x1024 .f32 :=
  Host.dotGeneral dot_S2x8192x512_S512x1024_S2x8192x1024_2_0_01_1_n_n none (mulf (extractStridedSlice S2x8192x512 ![0, 0, 0] p slices_S2x8192x3584_S2x8192x512_0_0_0) (addf (addf (mulf (broadcastInDim S2x8192x512 ![0, 1, 2] bcast_S1x1x512_S2x8192x512_0_1_2 (broadcastInDim S1x1x512 ![2] bcast_S512_S1x1x512_2 (shapeCast _ (extractStridedSlice S1x512 ![0, 0] cw slices_S3x512_S1x512_0_0) shapeCasts_S1x512_S512))) (extractStridedSlice S2x8192x512 ![0, 0, 0] z slices_S2x8194x512_S2x8192x512_0_0_0)) (mulf (broadcastInDim S2x8192x512 ![0, 1, 2] bcast_S1x1x512_S2x8192x512_0_1_2 (broadcastInDim S1x1x512 ![2] bcast_S512_S1x1x512_2 (shapeCast _ (extractStridedSlice S1x512 ![1, 0] cw slices_S3x512_S1x512_1_0) shapeCasts_S1x512_S512))) (extractStridedSlice S2x8192x512 ![0, 1, 0] z slices_S2x8194x512_S2x8192x512_0_1_0))) (mulf (broadcastInDim S2x8192x512 ![0, 1, 2] bcast_S1x1x512_S2x8192x512_0_1_2 (broadcastInDim S1x1x512 ![2] bcast_S512_S1x1x512_2 (shapeCast _ (extractStridedSlice S1x512 ![2, 0] cw slices_S3x512_S1x512_2_0) shapeCasts_S1x512_S512))) (extractStridedSlice S2x8192x512 ![0, 2, 0] z slices_S2x8194x512_S2x8192x512_0_2_0)))) (extractStridedSlice S512x1024 ![0, 0] (extf .f32 wb bitsLt_bf16_f32) slices_S1024x1024_S512x1024_0_0)

/-- The attention's branch. -/
def B (y : FVec Ideal S2x8192x512 .bf16) (wb : FVec Ideal S1024x1024 .bf16) : FVec Ideal S2x8192x1024 .f32 :=
  Host.dotGeneral dot_S2x8192x512_S512x1024_S2x8192x1024_2_0_01_1_n_n none (extf .f32 y bitsLt_bf16_f32) (extractStridedSlice S512x1024 ![512, 0] (extf .f32 wb bitsLt_bf16_f32) slices_S1024x1024_S512x1024_512_0)

/-- The gated sum through the output weights. -/
def M (p : FVec Ideal S2x8192x3584 .f32) (a b : FVec Ideal S2x8192x1024 .f32) (wo : FVec Ideal S1024x1024 .bf16) : FVec Ideal S2x8192x1024 .f32 :=
  Host.dotGeneral dot_S2x8192x1024_S1024x1024_S2x8192x1024_2_0_01_1_n_n none (addf (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 1536] p slices_S2x8192x3584_S2x8192x1024_0_0_1536))))) a) (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 2560] p slices_S2x8192x3584_S2x8192x1024_0_0_2560))))) b)) (extf .f32 wo bitsLt_bf16_f32)

/-- The result, the sequences stacked. -/
def T (x f : FVec Ideal S2x8192x1024 .f32) (g₂ : FVec Ideal S1x1024 .f32) : FVec Ideal S16384x1024 .f32 :=
  shapeCast _ (addf x (mulf (mulf f (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf f f) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g₂ shapeCasts_S1x1024_S1024))))) shapeCasts_S2x8192x1024_S16384x1024

theorem res_eq (m : (ℓ : Loc nD τ sig) → Buf (Elt Ideal) ℓ) (c : Dev nD) :
    Value.res_main_v82 (F := Ideal) m c
      = T (m ((c.tc : Thread nD τ).loc main_arg0)) (M (P (m ((c.tc : Thread nD τ).loc main_arg0)) (m ((c.tc : Thread nD τ).loc main_arg2)) (m ((c.tc : Thread nD τ).loc main_arg4)))
          (A (P (m ((c.tc : Thread nD τ).loc main_arg0)) (m ((c.tc : Thread nD τ).loc main_arg2)) (m ((c.tc : Thread nD τ).loc main_arg4)))
            (Z (P (m ((c.tc : Thread nD τ).loc main_arg0)) (m ((c.tc : Thread nD τ).loc main_arg2)) (m ((c.tc : Thread nD τ).loc main_arg4))))
            (m ((c.tc : Thread nD τ).loc main_arg5)) (m ((c.tc : Thread nD τ).loc main_arg6)))
          (B (m ((c.tc : Thread nD τ).loc main_arg1)) (m ((c.tc : Thread nD τ).loc main_arg6)))
          (m ((c.tc : Thread nD τ).loc main_arg7))) (m ((c.tc : Thread nD τ).loc main_arg3)) := by
  unfold Value.res_main_v82 T M A B Z P
  rfl

theorem P_apply (x : FVec Ideal S2x8192x1024 .f32) (g₁ : FVec Ideal S1x1024 .f32) (w : FVec Ideal S1024x3584 .bf16) (b : Fin 2) (s : Fin 8192) (l : Fin 3584) :
    P x g₁ w (ix3 b s l) = proj (fun k => x (ix3 b s k)) (fun k => g₁ (ix2 0 k)) (fun k l => w (ix2 k l)) l := by
  pointwise [P]
  rfl

theorem Z_before (p : FVec Ideal S2x8192x3584 .f32) (b : Fin 2) (n : Fin 8194) (h : n.val < 2) (l : Fin 512) : Z p (ix3 b n l) = 0 := by
  unfold Z
  rw [pad_apply_of_not_inside _ _ _ _ _ _ _ _ 1 (fun hin => absurd hin.1 (by show ¬(2 ≤ n.val); omega))]
  show ((((0#32 : BitVec 32).toInt : ℤ) : ℝ) : EReal) = 0
  simp

theorem Z_inside (p : FVec Ideal S2x8192x3584 .f32) (b : Fin 2) (n : Fin 8194) (s : Fin 8192) (h : n.val = 2 + s.val) (l : Fin 512) :
    Z p (ix3 b n l) = zrow (fun k => p (ix3 b s k)) l := by
  unfold Z
  rw [pad_apply_of_inside _ _ _ _ _ _ _ _ (ix3 b s l) (fun a => by
    fin_cases a
    · show b.val = 0 + b.val * (0 + 1); omega
    · show n.val = 2 + s.val * (0 + 1); omega
    · show l.val = 0 + l.val * (0 + 1); omega)]
  pointwise []
  rfl

theorem A_apply (p : FVec Ideal S2x8192x3584 .f32) (z : FVec Ideal S2x8194x512 .f32) (cw : FVec Ideal S3x512 .f32) (wb : FVec Ideal S1024x1024 .bf16)
    (b : Fin 2) (s : Fin 8192) (l : Fin 1024) :
    A p z cw wb (ix3 b s l) = ∑ k : Fin 512, p (ix3 b s ⟨k.val, by omega⟩)
        * (cw (ix2 0 k) * z (ix3 b ⟨s.val, by omega⟩ k) + cw (ix2 1 k) * z (ix3 b ⟨1 + s.val, by omega⟩ k) + cw (ix2 2 k) * z (ix3 b ⟨2 + s.val, by omega⟩ k))
        * wb (ix2 ⟨k.val, by omega⟩ l) := by
  pointwise [A]

theorem B_apply (y : FVec Ideal S2x8192x512 .bf16) (wb : FVec Ideal S1024x1024 .bf16) (b : Fin 2) (s : Fin 8192) (l : Fin 1024) :
    B y wb (ix3 b s l) = brB (fun k => y (ix3 b s k)) (fun k l => wb (ix2 ⟨512 + k.val, by omega⟩ l)) l := by
  pointwise [B]
  rfl

theorem M_apply (p : FVec Ideal S2x8192x3584 .f32) (a b : FVec Ideal S2x8192x1024 .f32) (wo : FVec Ideal S1024x1024 .bf16) (i : Fin 2) (s : Fin 8192) (l : Fin 1024) :
    M p a b wo (ix3 i s l) = mix (fun k => p (ix3 i s k)) (fun k => a (ix3 i s k)) (fun k => b (ix3 i s k)) (fun k l => wo (ix2 k l)) l := by
  pointwise [M]
  rfl

theorem T_apply (x f : FVec Ideal S2x8192x1024 .f32) (g₂ : FVec Ideal S1x1024 .f32) (R : Fin 16384) (l : Fin 1024) :
    T x f g₂ (ix2 R l) = Ffn.tail (fun k => x (ix3 ⟨R.val / 8192, by omega⟩ ⟨R.val % 8192, by omega⟩ k))
      (fun k => f (ix3 ⟨R.val / 8192, by omega⟩ ⟨R.val % 8192, by omega⟩ k)) (fun k => g₂ (ix2 0 k)) l := by
  pointwise [T]
  rfl

/-- The convolution's input `d` rows before row `s` of sequence `b`, zero before the sequence. -/
def back (x : FVec Ideal S2x8192x1024 .f32) (g₁ : FVec Ideal S1x1024 .f32) (w : FVec Ideal S1024x3584 .bf16) (d : ℕ) (b : Fin 2) (s : Fin 8192) (l : Fin 512) : EReal :=
  if s.val < d then 0 else zrow (proj (fun k => x (ix3 b ⟨s.val - d, by omega⟩ k)) (fun k => g₁ (ix2 0 k)) (fun k l => w (ix2 k l))) l

theorem Z_back (x : FVec Ideal S2x8192x1024 .f32) (g₁ : FVec Ideal S1x1024 .f32) (w : FVec Ideal S1024x3584 .bf16) (d : ℕ) (hd : d ≤ 2) (b : Fin 2) (s : Fin 8192)
    (n : Fin 8194) (hn : n.val = 2 - d + s.val) (l : Fin 512) : Z (P x g₁ w) (ix3 b n l) = back x g₁ w d b s l := by
  unfold back
  by_cases h : s.val < d
  · rw [if_pos h, Z_before _ _ _ (by omega)]
  · rw [if_neg h, Z_inside _ b n ⟨s.val - d, by omega⟩ (by show n.val = 2 + (s.val - d); omega)]
    simp only [P_apply]

theorem M_row (x : FVec Ideal S2x8192x1024 .f32) (y : FVec Ideal S2x8192x512 .bf16) (g₁ : FVec Ideal S1x1024 .f32) (w : FVec Ideal S1024x3584 .bf16)
    (cw : FVec Ideal S3x512 .f32) (wb wo : FVec Ideal S1024x1024 .bf16) (b : Fin 2) (s : Fin 8192) (l : Fin 1024) :
    M (P x g₁ w) (A (P x g₁ w) (Z (P x g₁ w)) cw wb) (B y wb) wo (ix3 b s l)
      = mix (proj (fun k => x (ix3 b s k)) (fun k => g₁ (ix2 0 k)) (fun k l => w (ix2 k l)))
          (brA (proj (fun k => x (ix3 b s k)) (fun k => g₁ (ix2 0 k)) (fun k l => w (ix2 k l)))
            (conv (fun k => cw (ix2 0 k)) (fun k => cw (ix2 1 k)) (fun k => cw (ix2 2 k)) (zrow (proj (fun k => x (ix3 b s k)) (fun k => g₁ (ix2 0 k)) (fun k l => w (ix2 k l))))
              (back x g₁ w 1 b s) (back x g₁ w 2 b s)) (fun k l => wb (ix2 ⟨k.val, by omega⟩ l)))
          (brB (fun k => y (ix3 b s k)) (fun k l => wb (ix2 ⟨512 + k.val, by omega⟩ l))) (fun k l => wo (ix2 k l)) l := by
  have hA : ∀ l : Fin 1024, A (P x g₁ w) (Z (P x g₁ w)) cw wb (ix3 b s l)
      = brA (proj (fun k => x (ix3 b s k)) (fun k => g₁ (ix2 0 k)) (fun k l => w (ix2 k l)))
          (conv (fun k => cw (ix2 0 k)) (fun k => cw (ix2 1 k)) (fun k => cw (ix2 2 k)) (zrow (proj (fun k => x (ix3 b s k)) (fun k => g₁ (ix2 0 k)) (fun k l => w (ix2 k l))))
            (back x g₁ w 1 b s) (back x g₁ w 2 b s)) (fun k l => wb (ix2 ⟨k.val, by omega⟩ l)) l := fun l => by
    rw [A_apply]
    unfold brA conv
    refine Finset.sum_congr rfl fun k _ => ?_
    rw [Z_back x g₁ w 2 (le_refl 2) b s ⟨s.val, by omega⟩ (by show s.val = 2 - 2 + s.val; omega) k,
      Z_back x g₁ w 1 (by omega) b s ⟨1 + s.val, by omega⟩ (by show 1 + s.val = 2 - 1 + s.val; omega) k,
      Z_inside (P x g₁ w) b ⟨2 + s.val, by omega⟩ s rfl k, P_apply]
    simp only [P_apply]
    rw [add_comm (cw (ix2 0 k) * _) (cw (ix2 1 k) * _), add_comm, ← add_assoc]
  rw [M_apply]
  simp only [hA, P_apply, B_apply]

/-- A row of the reference's result. -/
theorem ref_apply (x : FVec Ideal S2x8192x1024 .f32) (y : FVec Ideal S2x8192x512 .bf16) (g₁ g₂ : FVec Ideal S1x1024 .f32) (w : FVec Ideal S1024x3584 .bf16)
    (cw : FVec Ideal S3x512 .f32) (wb wo : FVec Ideal S1024x1024 .bf16) (R : Fin 16384) (l : Fin 1024) :
    T x (M (P x g₁ w) (A (P x g₁ w) (Z (P x g₁ w)) cw wb) (B y wb) wo) g₂ (ix2 R l)
      = row (fun k => x (ix3 ⟨R.val / 8192, by omega⟩ ⟨R.val % 8192, by omega⟩ k)) (fun k => g₁ (ix2 0 k)) (fun k => g₂ (ix2 0 k)) (fun k l => w (ix2 k l))
          (fun k => y (ix3 ⟨R.val / 8192, by omega⟩ ⟨R.val % 8192, by omega⟩ k))
          (back x g₁ w 1 ⟨R.val / 8192, by omega⟩ ⟨R.val % 8192, by omega⟩) (back x g₁ w 2 ⟨R.val / 8192, by omega⟩ ⟨R.val % 8192, by omega⟩)
          (fun k => cw (ix2 0 k)) (fun k => cw (ix2 1 k)) (fun k => cw (ix2 2 k))
          (fun k l => wb (ix2 ⟨k.val, by omega⟩ l)) (fun k l => wb (ix2 ⟨512 + k.val, by omega⟩ l)) (fun k l => wo (ix2 k l)) l := by
  rw [T_apply]
  simp only [M_row]
  rfl

end Cert.Proof.MixRef
-- ==== Proof.MixValue.lean ====
/- The merge call's whole result, and its algebraic claim: both programs end at the same arrays. -/
module

public import proofs.«01_k».proof.Proof.MixTile
public import proofs.«01_k».proof.Proof.MixRef
public import proofs.«01_k».proof.Proof.MixLaunch
public import proofs.«01_k».proof.Defs
public import Idealize.ShloMosaic.Lib.Quiescent
public import Idealize.ShloMosaic.Lib.Pipeline.ValueKit.Geometry

@[expose] public section

set_option maxRecDepth 16384

noncomputable section

namespace Cert.Proof.Mix

open Idealize.ShloMosaic Idealize.ShloMosaic.TcCoe Idealize.ShloMosaic.Pointwise Idealize.SL.Sem
open Idealize.ShloMosaic.Pipeline (Dat)
open Cert.Kernel2Ideal Cert.Kernel2Ideal.Gen
open Cert.Proof.Ffn (exists_ix2)

/-- The convolution's input `d` rows before row `R`, zero before the row's sequence. -/
def zprev (x : S16384x1024.Idx → EReal) (g : S1x1024.Idx → EReal) (w : S1024x3584.Idx → EReal) (d : ℕ) (R : Fin 16384) (l : Fin 512) : EReal :=
  if R.val % 8192 < d then 0 else zrow (proj (fun k => x (ix2 ⟨R.val - d, by omega⟩ k)) (fun k => g (ix2 0 k)) (fun k l => w (ix2 k l))) l

/-- The whole result, by rows. -/
def wholeRow (x : S16384x1024.Idx → EReal) (y : S16384x512.Idx → EReal) (g₁ g₂ : S1x1024.Idx → EReal) (w : S1024x3584.Idx → EReal)
    (cw : S3x512.Idx → EReal) (wb wo : S1024x1024.Idx → EReal) (R : Fin 16384) (l : Fin 1024) : EReal :=
  row (fun k => x (ix2 R k)) (fun k => g₁ (ix2 0 k)) (fun k => g₂ (ix2 0 k)) (fun k l => w (ix2 k l)) (fun k => y (ix2 R k))
    (zprev x g₁ w 1 R) (zprev x g₁ w 2 R) (fun k => cw (ix2 0 k)) (fun k => cw (ix2 1 k)) (fun k => cw (ix2 2 k))
    (fun k l => wb (ix2 ⟨k.val, by omega⟩ l)) (fun k l => wb (ix2 ⟨512 + k.val, by omega⟩ l)) (fun k l => wo (ix2 k l)) l

variable (m : (ℓ : Loc nD τ sig) → Buf (Elt Ideal) ℓ) (c : Dev nD)

/-- The kernel's result. -/
abbrev G : S16384x1024.Idx → EReal := fun i =>
  wholeRow (V m c main_v0) (V m c main_v1) (V m c main_arg2) (V m c main_arg3) (V m c main_arg4) (V m c main_arg5) (V m c main_arg6) (V m c main_arg7) (i 0) (i 1)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel
theorem index10 : ∀ t : Fin grid0.N, win0_10.index t 0 = t.val ∧ win0_10.index t 1 = 0 := by decide +kernel
theorem index11 : ∀ t : Fin grid0.N, win0_11.index t 0 = t.val ∧ win0_11.index t 1 = 0 := by decide +kernel
theorem index12 : ∀ t : Fin grid0.N, win0_12.index t 0 = t.val ∧ win0_12.index t 1 = 0 := by decide +kernel
theorem coord : ∀ t : Fin grid0.N, (grid0.coords t 0).val = t.val := by decide +kernel

theorem blk0 (t : Fin cfg0.N) (r k : Fin 1024) (h : t.val * 1024 + r.val < 16384) :
    iblk m c 0 t (ix2 r k) = V m c main_v0 (ix2 (⟨t.val * 1024 + r.val, h⟩ : Fin 16384) k) := by
  show V m c main_v0 ((win0_0.rect t).emb (ix2 r k)) = _
  refine congrArg _ (Shape.idx_ext₂ ?_ ?_)
  · exact (Pipeline.Window.rect_emb_val win0_0 t (ix2 r k) 0).trans (by rw [(index0 t).1]; rfl)
  · exact Pipeline.Window.rect_emb_val_of_index_zero win0_0 t 1 (index0 t).2 (ix2 r k)
theorem blk1 (t : Fin cfg0.N) (r : Fin 1024) (k : Fin 512) (h : t.val * 1024 + r.val < 16384) :
    iblk m c 1 t (ix2 r k) = V m c main_v1 (ix2 (⟨t.val * 1024 + r.val, h⟩ : Fin 16384) k) := by
  show V m c main_v1 ((win0_1.rect t).emb (ix2 r k)) = _
  refine congrArg _ (Shape.idx_ext₂ ?_ ?_)
  · exact (Pipeline.Window.rect_emb_val win0_1 t (ix2 r k) 0).trans (by rw [(index1 t).1]; rfl)
  · exact Pipeline.Window.rect_emb_val_of_index_zero win0_1 t 1 (index1 t).2 (ix2 r k)
theorem blk2 (t : Fin cfg0.N) : iblk m c 2 t = V m c main_arg2 := by
  funext x
  show V m c main_arg2 ((win0_2.rect t).emb x) = _
  exact congrArg _ (funext fun a => Fin.ext (Pipeline.Window.rect_emb_val_of_index_zero win0_2 t a (by fin_cases a <;> rfl) x))
theorem blk3 (t : Fin cfg0.N) : iblk m c 3 t = V m c main_arg3 := by
  funext x
  show V m c main_arg3 ((win0_3.rect t).emb x) = _
  exact congrArg _ (funext fun a => Fin.ext (Pipeline.Window.rect_emb_val_of_index_zero win0_3 t a (by fin_cases a <;> rfl) x))
theorem blk4 (t : Fin cfg0.N) : iblk m c 4 t = V m c main_arg4 := by
  funext x
  show V m c main_arg4 ((win0_4.rect t).emb x) = _
  exact congrArg _ (funext fun a => Fin.ext (Pipeline.Window.rect_emb_val_of_index_zero win0_4 t a (by fin_cases a <;> rfl) x))
theorem blk5 (t : Fin cfg0.N) : iblk m c 5 t = V m c main_arg5 := by
  funext x
  show V m c main_arg5 ((win0_5.rect t).emb x) = _
  exact congrArg _ (funext fun a => Fin.ext (Pipeline.Window.rect_emb_val_of_index_zero win0_5 t a (by fin_cases a <;> rfl) x))
theorem blk6 (t : Fin cfg0.N) : iblk m c 6 t = V m c main_arg6 := by
  funext x
  show V m c main_arg6 ((win0_6.rect t).emb x) = _
  exact congrArg _ (funext fun a => Fin.ext (Pipeline.Window.rect_emb_val_of_index_zero win0_6 t a (by fin_cases a <;> rfl) x))
theorem blk7 (t : Fin cfg0.N) : iblk m c 7 t = V m c main_arg7 := by
  funext x
  show V m c main_arg7 ((win0_7.rect t).emb x) = _
  exact congrArg _ (funext fun a => Fin.ext (Pipeline.Window.rect_emb_val_of_index_zero win0_7 t a (by fin_cases a <;> rfl) x))

/-- A tile's stacked rows are the whole array's. -/
theorem zt_whole (t : Fin cfg0.N) (r : Fin 1024) (d e : ℕ) (hd : d ≤ 2) (he : e = r.val + 8 - d) (R : Fin 16384) (hR : R.val = t.val * 1024 + r.val) :
    zt (sel t.val (carry m c t.val)) (iblk m c 0 t) (V m c main_arg2) (V m c main_arg4) e = zprev (V m c main_v0) (V m c main_arg2) (V m c main_arg4) d R := by
  funext l
  have ht : t.val < 16 := t.isLt
  unfold zt zprev
  by_cases h : e < 8
  · rw [dif_pos h]
    unfold sel
    by_cases h8 : t.val % 8 = 0
    · rw [if_pos h8, if_pos (by omega)]
    · rw [if_neg h8, if_neg (by omega)]
      obtain ⟨t', ht'⟩ : ∃ t' : Fin cfg0.N, t.val = t'.val + 1 := ⟨⟨t.val - 1, by show t.val - 1 < 16; omega⟩, by show t.val = t.val - 1 + 1; omega⟩
      rw [ht', carry_succ, tail_eq, blk2, blk4]
      refine congrArg (fun z => zrow (proj z (fun k => V m c main_arg2 (ix2 0 k)) (fun k l => V m c main_arg4 (ix2 k l))) l) (funext fun k => ?_)
      refine (blk0 m c t' _ k (by show t'.val * 1024 + (1016 + e) < 16384; omega)).trans (congrArg _ (Shape.idx_ext₂ ?_ rfl))
      show t'.val * 1024 + (1016 + e) = R.val - d
      omega
  · rw [dif_neg h, dif_pos (by omega), if_neg (by omega)]
    refine congrArg (fun z => zrow (proj z (fun k => V m c main_arg2 (ix2 0 k)) (fun k l => V m c main_arg4 (ix2 k l))) l) (funext fun k => ?_)
    refine (blk0 m c t _ k (by show t.val * 1024 + (e - 8) < 16384; omega)).trans (congrArg _ (Shape.idx_ext₂ ?_ rfl))
    show t.val * 1024 + (e - 8) = R.val - d
    omega

theorem tile_whole (t : Fin cfg0.N) (r l : Fin 1024) (R : Fin 16384) (hR : R.val = t.val * 1024 + r.val) :
    tileRow (sel t.val (carry m c t.val)) (iblk m c 0 t) (iblk m c 1 t) (V m c main_arg2) (V m c main_arg3) (V m c main_arg4) (V m c main_arg5) (V m c main_arg6) (V m c main_arg7) r l
      = wholeRow (V m c main_v0) (V m c main_v1) (V m c main_arg2) (V m c main_arg3) (V m c main_arg4) (V m c main_arg5) (V m c main_arg6) (V m c main_arg7) R l := by
  have hlt : t.val * 1024 + r.val < 16384 := hR ▸ R.isLt
  have eR : (⟨t.val * 1024 + r.val, hlt⟩ : Fin 16384) = R := Fin.ext hR.symm
  have h0 : (fun k => iblk m c 0 t (ix2 r k)) = fun k => V m c main_v0 (ix2 R k) := funext fun k => (blk0 m c t r k hlt).trans (by rw [eR])
  have h1 : (fun k => iblk m c 1 t (ix2 r k)) = fun k => V m c main_v1 (ix2 R k) := funext fun k => (blk1 m c t r k hlt).trans (by rw [eR])
  unfold tileRow wholeRow
  rw [h0, h1, zt_whole m c t r 1 (r.val + 7) (by omega) (by omega) R hR, zt_whole m c t r 2 (r.val + 6) (by omega) (by omega) R hR]

theorem flushed10 (t : Fin cfg0.N) : (dats m 0 c).flushed 10 t = ((cfg0.win 10).blk t).view.read (Elt Ideal) (G m c) := by
  show (cfg0.win 10).cut (grid0.coords t) ((dats m 0 c).after 10 t) = _
  rw [after_10, out10_eq, coord, blk2, blk3, blk4, blk5, blk6, blk7]
  funext i
  show tileRow _ _ _ _ _ _ _ _ _ (i 0) (i 1) = G m c ((win0_10.rect t).emb i)
  have h0 : ((win0_10.rect t).emb i 0 : ℕ) = t.val * 1024 + (i 0).val :=
    (Pipeline.Window.rect_emb_val win0_10 t i 0).trans (by rw [(index10 t).1]; rfl)
  have h1 : (win0_10.rect t).emb i 1 = i 1 :=
    Fin.ext (Pipeline.Window.rect_emb_val_of_index_zero win0_10 t 1 (index10 t).2 i)
  refine (tile_whole m c t (i 0) (i 1) ((win0_10.rect t).emb i 0) h0).trans ?_
  exact congrArg (wholeRow _ _ _ _ _ _ _ _ _) h1.symm

theorem final10 : (dats m 0 c).arrAt 10 cfg0.N = G m c :=
  (dats m 0 c).arrAt_eq_of_cover 10 (G m c) (fun t _ => flushed10 m c t)
    (fun i => Pipeline.Window.Covers.cover (w := win0_10) (by decide +kernel) (Memref.isWhole_whole _) i)

/-- Rounding is no change over the extended reals. -/
theorem out11_eq (x : Vec Ideal S64x5632 .f32) : out11 x = x := by
  funext j
  unfold out11
  refine View.canon_apply_of_pieces (Val := Elt Ideal) (S := S64x5632) (e := .bf16) x _ ?_ j (cover11 _ j)
  intro p hp
  simp only [List.mem_cons, List.not_mem_nil, or_false] at hp
  subst hp
  exact fun i => rfl
theorem out12_eq (x : Vec Ideal S176x1024 .f32) : out12 x = x := by
  funext j
  unfold out12
  refine View.canon_apply_of_pieces (Val := Elt Ideal) (S := S176x1024) (e := .bf16) x _ ?_ j (cover12 _ j)
  intro p hp
  simp only [List.mem_cons, List.not_mem_nil, or_false] at hp
  subst hp
  exact fun i => rfl

theorem flushed11 (t : Fin cfg0.N) : (dats m 0 c).flushed 11 t = ((cfg0.win 11).blk t).view.read (Elt Ideal) (V m c main_arg8 : S1024x5632.Idx → EReal) := by
  show (cfg0.win 11).cut (grid0.coords t) ((dats m 0 c).after 11 t) = _
  rw [after_11, out11_eq]
  funext i
  show V m c main_arg8 ((win0_8.rect t).emb i) = V m c main_arg8 ((win0_11.rect t).emb i)
  refine congrArg _ (Shape.idx_ext₂ ?_ ?_)
  · refine (Pipeline.Window.rect_emb_val win0_8 t i 0).trans (Eq.trans ?_ (Pipeline.Window.rect_emb_val win0_11 t i 0).symm)
    rw [(index8 t).1, (index11 t).1]
  · exact (Pipeline.Window.rect_emb_val_of_index_zero win0_8 t 1 (index8 t).2 i).trans (Pipeline.Window.rect_emb_val_of_index_zero win0_11 t 1 (index11 t).2 i).symm
theorem flushed12 (t : Fin cfg0.N) : (dats m 0 c).flushed 12 t = ((cfg0.win 12).blk t).view.read (Elt Ideal) (V m c main_arg9 : S2816x1024.Idx → EReal) := by
  show (cfg0.win 12).cut (grid0.coords t) ((dats m 0 c).after 12 t) = _
  rw [after_12, out12_eq]
  funext i
  show V m c main_arg9 ((win0_9.rect t).emb i) = V m c main_arg9 ((win0_12.rect t).emb i)
  refine congrArg _ (Shape.idx_ext₂ ?_ ?_)
  · refine (Pipeline.Window.rect_emb_val win0_9 t i 0).trans (Eq.trans ?_ (Pipeline.Window.rect_emb_val win0_12 t i 0).symm)
    rw [(index9 t).1, (index12 t).1]
  · exact (Pipeline.Window.rect_emb_val_of_index_zero win0_9 t 1 (index9 t).2 i).trans (Pipeline.Window.rect_emb_val_of_index_zero win0_12 t 1 (index12 t).2 i).symm

theorem final11 : (dats m 0 c).arrAt 11 cfg0.N = (V m c main_arg8 : S1024x5632.Idx → EReal) :=
  (dats m 0 c).arrAt_eq_of_cover 11 (V m c main_arg8 : S1024x5632.Idx → EReal) (fun t _ => flushed11 m c t)
    (fun i => Pipeline.Window.Covers.cover (w := win0_11) (by decide +kernel) (Memref.isWhole_whole _) i)
theorem final12 : (dats m 0 c).arrAt 12 cfg0.N = (V m c main_arg9 : S2816x1024.Idx → EReal) :=
  (dats m 0 c).arrAt_eq_of_cover 12 (V m c main_arg9 : S2816x1024.Idx → EReal) (fun t _ => flushed12 m c t)
    (fun i => Pipeline.Window.Covers.cover (w := win0_12) (by decide +kernel) (Memref.isWhole_whole _) i)

/-! ## The sequences stacked -/

theorem V_v0 : (V m c main_v0 : S16384x1024.Idx → EReal) = shapeCast S16384x1024 (m ((c : Thread nD τ).loc main_arg0) : FVec Ideal S2x8192x1024 .f32) shapeCasts_S2x8192x1024_S16384x1024 := by
  rfl
theorem V_v1 : (V m c main_v1 : S16384x512.Idx → EReal) = shapeCast S16384x512 (m ((c : Thread nD τ).loc main_arg1) : FVec Ideal S2x8192x512 .bf16) shapeCasts_S2x8192x512_S16384x512 := by
  rfl

theorem stacked0 (x : FVec Ideal S2x8192x1024 .f32) (R : Fin 16384) (k : Fin 1024) :
    shapeCast S16384x1024 x shapeCasts_S2x8192x1024_S16384x1024 (ix2 R k) = x (ix3 (⟨R.val / 8192, by omega⟩ : Fin 2) (⟨R.val % 8192, by omega⟩ : Fin 8192) k) := by
  pointwise []
theorem stacked1 (x : FVec Ideal S2x8192x512 .bf16) (R : Fin 16384) (k : Fin 512) :
    shapeCast S16384x512 x shapeCasts_S2x8192x512_S16384x512 (ix2 R k) = x (ix3 (⟨R.val / 8192, by omega⟩ : Fin 2) (⟨R.val % 8192, by omega⟩ : Fin 8192) k) := by
  pointwise []

theorem back_eq (x : FVec Ideal S2x8192x1024 .f32) (g : FVec Ideal S1x1024 .f32) (w : FVec Ideal S1024x3584 .bf16) (d : ℕ) (R : Fin 16384) :
    MixRef.back x g w d (⟨R.val / 8192, by omega⟩ : Fin 2) (⟨R.val % 8192, by omega⟩ : Fin 8192) = zprev (shapeCast S16384x1024 x shapeCasts_S2x8192x1024_S16384x1024) g w d R := by
  funext l
  unfold MixRef.back zprev
  by_cases h : R.val % 8192 < d
  · rw [if_pos h, if_pos h]
  · rw [if_neg h, if_neg h]
    refine congrArg (fun z => zrow (proj z (fun k => g (ix2 0 k)) (fun k l => w (ix2 k l))) l) (funext fun k => ?_)
    rw [stacked0]
    have e0 : (⟨R.val / 8192, by omega⟩ : Fin 2) = ⟨(R.val - d) / 8192, by omega⟩ := Fin.ext (by show R.val / 8192 = (R.val - d) / 8192; omega)
    have e1 : (⟨R.val % 8192 - d, by omega⟩ : Fin 8192) = ⟨(R.val - d) % 8192, by omega⟩ := Fin.ext (by show R.val % 8192 - d = (R.val - d) % 8192; omega)
    rw [← e0, ← e1]

/-- The reference's result is the kernel's. -/
theorem ref_whole (x : FVec Ideal S2x8192x1024 .f32) (y : FVec Ideal S2x8192x512 .bf16) (g₁ g₂ : FVec Ideal S1x1024 .f32) (w : FVec Ideal S1024x3584 .bf16)
    (cw : FVec Ideal S3x512 .f32) (wb wo : FVec Ideal S1024x1024 .bf16) :
    MixRef.T x (MixRef.M (MixRef.P x g₁ w) (MixRef.A (MixRef.P x g₁ w) (MixRef.Z (MixRef.P x g₁ w)) cw wb) (MixRef.B y wb) wo) g₂
      = fun i => wholeRow (shapeCast S16384x1024 x shapeCasts_S2x8192x1024_S16384x1024) (shapeCast S16384x512 y shapeCasts_S2x8192x512_S16384x512) g₁ g₂ w cw wb wo (i 0) (i 1) := by
  funext i
  obtain ⟨R, l, rfl⟩ := exists_ix2 i
  refine (MixRef.ref_apply x y g₁ g₂ w cw wb wo R l).trans ?_
  show _ = wholeRow _ _ g₁ g₂ w cw wb wo R l
  unfold wholeRow
  simp only [stacked0, stacked1]
  rw [← back_eq x g₁ w 1 R, ← back_eq x g₁ w 2 R]

theorem G_eq : G m c = fun i => wholeRow (shapeCast S16384x1024 (m ((c : Thread nD τ).loc main_arg0) : FVec Ideal S2x8192x1024 .f32) shapeCasts_S2x8192x1024_S16384x1024)
    (shapeCast S16384x512 (m ((c : Thread nD τ).loc main_arg1) : FVec Ideal S2x8192x512 .bf16) shapeCasts_S2x8192x512_S16384x512)
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1) := by
  unfold G
  rw [V_v0, V_v1, V_main_arg2, V_main_arg3, V_main_arg4, V_main_arg5, V_main_arg6, V_main_arg7]

theorem algebraic : Cert.algebraic_Kernel2Ideal_Reference2Ideal := by
  intro m g m' g' _ hm
  refine ⟨fun c => G m c, fun c => V m c main_arg8, fun c => V m c main_arg9,
    (θ_run Cert.Kernel2Ideal.defs _ _).mono (fun r h c => ?_) (run_main m g),
    (θ_run Cert.Reference2Ideal.defs _ _).mono (fun _ h c => ?_) (Cert.Reference2Ideal.Value.run m' g')⟩
  · obtain ⟨h, -⟩ := h
    exact ⟨((h c).1 10).trans (final10 m c), ((h c).1 11).trans (final11 m c), ((h c).1 12).trans (final12 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩
  · obtain ⟨h0, h1, h2, h3, h4, h5, h6, h7, h8, h9⟩ := hm c
    refine ⟨(h c).1.trans ?_, (h c).2.1.trans ?_, (h c).2.2.1.trans ?_, (h c).2.2.2⟩
    · refine (MixRef.res_eq m' c).trans ?_
      rw [h0, h1, h2, h3, h4, h5, h6, h7, ref_whole]
      exact (G_eq m c).symm
    · rw [h8]
      exact (V_main_arg8 m c).symm
    · rw [h9]
      exact (V_main_arg9 m c).symm

end Cert.Proof.Mix
-- ==== Proof.QkvTile.lean ====
/- The projection call's values: a column of either result is one function of the same row of its input. -/
module

public import Idealize.ShloMosaic.Lib.Pointwise
public import Idealize.ShloMosaic.Lib.WholeRead
public import proofs.«01_k».proof.Proof.FfnRow
public import proofs.«01_k».proof.Proof.Gen.Kernel4Ideal.Value

@[expose] public section

set_option maxRecDepth 16384

noncomputable section

namespace Cert.Proof.Qkv

open Idealize.ShloMosaic Idealize.ShloMosaic.Pointwise
open Cert.Kernel4Ideal Cert.Kernel4Ideal.Gen
open Cert.Proof.Ffn (inv exists_ix2)

/-- A normalized row times a column of weights. -/
def proj (x g w : Fin 1024 → EReal) : EReal := ∑ k, x k * inv x * g k * w k

theorem exists_ix4 {a b c d : ℕ} (i : (⟨4, ![a, b, c, d]⟩ : Shape).Idx) :
    ∃ (p : Fin a) (q : Fin b) (r : Fin c) (s : Fin d), i = ix4 p q r s := ⟨i 0, i 1, i 2, i 3, eq_ix4 i⟩

/-! ## The payloads -/

theorem payV (x : Vec Ideal S1x256x1024 .f32) (g : Vec Ideal S1x1024 .f32) (w : Vec Ideal S1024x640 .bf16) (p q : Fin 1) (l : Fin 512) (r : Fin 256) :
    k0_pay21 (k0_pay10 x g w) (ix4 p q l r)
      = proj (fun k => x (ix3 0 r k)) (fun k => g (ix2 0 k)) (fun k => w (ix2 k ⟨l.val, by omega⟩)) := by
  pointwise [k0_pay21, k0_pay10, k0_pay9]
  rfl

theorem payQ (x : Vec Ideal S1x256x1024 .f32) (g : Vec Ideal S1x1024 .f32) (w : Vec Ideal S1024x512 .bf16) (p q : Fin 1) (l : Fin 512) (r : Fin 256) :
    k0_pay25 (k0_pay9 x g) w (ix4 p q l r)
      = proj (fun k => x (ix3 0 r k)) (fun k => g (ix2 0 k)) (fun k => w (ix2 k l)) := by
  pointwise [k0_pay25, k0_pay23, k0_pay9]
  rfl

theorem payW1 (w : Vec Ideal S512x1024 .f32) (k : Fin 1024) (l : Fin 512) :
    k0_pay1 w (ix2 k l) = w (ix2 l k) * Ideal.ofBits .f32 0x3E38AA3B#32 := by
  pointwise [k0_pay1]

theorem payW2 (w : Vec Ideal S1152x1024 .f32) (k : Fin 1024) (l : Fin 1152) : k0_pay2 w (ix2 k l) = w (ix2 l k) := by
  pointwise [k0_pay2]

/-! ## A point's results -/

/-- A block of results: column `o + l` of the weights against row `512 t + r` of the block. -/
def tile (o : ℕ) (ho : o + 512 ≤ 1664) (x : Vec Ideal S1x1024x1024 .f32) (g : Vec Ideal S1x1024 .f32) (w : Vec Ideal S1024x1664 .bf16) :
    Vec Ideal S1x2x512x512 .bf16 := fun i =>
  proj (fun k => x (ix3 0 (⟨512 * (i 1).val + (i 3).val, by
      have h1 : (i 1).val < 2 := (i 1).isLt
      have h3 : (i 3).val < 512 := (i 3).isLt
      omega⟩ : Fin 1024) k)) (fun k => g (ix2 0 k))
    (fun k => w (ix2 k (⟨o + (i 2).val, by
      have h2 : (i 2).val < 512 := (i 2).isLt
      omega⟩ : Fin 1664)))

/-- The rows of a quarter, read from the block. -/
theorem row_piece (o : ℕ) (ho : o + 512 ≤ 1664) (x : Vec Ideal S1x1024x1024 .f32) (g : Vec Ideal S1x1024 .f32) (w : Vec Ideal S1024x1664 .bf16)
    {m2 : Memref sig .tc .vmem S1x1024x1024 .f32} (h2 : m2.IsWhole) {m3 : Memref sig .tc .vmem S1x1024 .f32} (h3 : m3.IsWhole)
    (O t U : ℕ) (hO : O = 512 * t + U) (inbX : ∀ a, (![0, O, 0] : Fin 3 → ℕ) a + S1x256x1024.size a ≤ S1x1024x1024.size a)
    (inbG : ∀ a, (![0, 0] : Fin 2 → ℕ) a + S1x1024.size a ≤ S1x1024.size a)
    (inbO : ∀ a, (![0, t, 0, U] : Fin 4 → ℕ) a + S1x1x512x256.size a ≤ S1x2x512x512.size a) (p q : Fin 1) (l : Fin 512) (r : Fin 256)
    (W : Fin 1024 → EReal) (hW : ∀ k, W k = w (ix2 k (⟨o + l.val, by omega⟩ : Fin 1664))) :
    proj (fun k => View.readAt (Elt Ideal) m2.view (Rect.unit (s := S1x1024x1024) ![0, O, 0] S1x256x1024.size inbX).toLoadRect (h2.unread x) (ix3 0 r k))
        (fun k => View.readAt (Elt Ideal) m3.view (Rect.unit (s := S1x1024) ![0, 0] S1x1024.size inbG).toLoadRect (h3.unread g) (ix2 0 k)) W
      = tile o ho x g w ((Rect.unit (s := S1x2x512x512) ![0, t, 0, U] S1x1x512x256.size inbO).emb (ix4 p q l r)) := by
  have hq : q.val = 0 := by omega
  unfold tile
  refine congr (congrArg₂ proj (funext fun k => ?_) (funext fun k => ?_)) (funext fun k => ?_)
  · rw [h2.readAt_unread]
    refine congrArg x (funext fun a => Fin.ext ?_)
    fin_cases a
    · rfl
    · show O + 1 * r.val = 512 * (t + 1 * q.val) + (U + 1 * r.val); omega
    · show 0 + 1 * k.val = k.val; omega
  · rw [h3.readAt_unread]
    refine congrArg g (Shape.idx_ext₂ ?_ ?_)
    · rfl
    · show 0 + 1 * k.val = k.val; omega
  · rw [hW k]
    refine congrArg w (Shape.idx_ext₂ ?_ ?_)
    · rfl
    · show o + l.val = o + (0 + 1 * l.val); omega

theorem pieceQ (x : Vec Ideal S1x1024x1024 .f32) (g : Vec Ideal S1x1024 .f32) (w : Vec Ideal S1024x1664 .bf16)
    {m2 : Memref sig .tc .vmem S1x1024x1024 .f32} (h2 : m2.IsWhole) {m3 : Memref sig .tc .vmem S1x1024 .f32} (h3 : m3.IsWhole)
    (O t U : ℕ) (hO : O = 512 * t + U) (inbX : ∀ a, (![0, O, 0] : Fin 3 → ℕ) a + S1x256x1024.size a ≤ S1x1024x1024.size a)
    (inbG : ∀ a, (![0, 0] : Fin 2 → ℕ) a + S1x1024.size a ≤ S1x1024.size a)
    (inbO : ∀ a, (![0, t, 0, U] : Fin 4 → ℕ) a + S1x1x512x256.size a ≤ S1x2x512x512.size a)
    (W : Vec Ideal S1024x512 .bf16) (hW : ∀ (k : Fin 1024) (l : Fin 512), W (ix2 k l) = w (ix2 k (⟨0 + l.val, by omega⟩ : Fin 1664))) (y : S1x1x512x256.Idx) :
    k0_pay25 (k0_pay9 (View.readAt (Elt Ideal) m2.view (Rect.unit (s := S1x1024x1024) ![0, O, 0] S1x256x1024.size inbX).toLoadRect (h2.unread x))
        (View.readAt (Elt Ideal) m3.view (Rect.unit (s := S1x1024) ![0, 0] S1x1024.size inbG).toLoadRect (h3.unread g))) W y
      = tile 0 (by decide) x g w ((Rect.unit (s := S1x2x512x512) ![0, t, 0, U] S1x1x512x256.size inbO).emb y) := by
  obtain ⟨p, q, l, r, rfl⟩ := exists_ix4 y
  rw [payQ]
  exact row_piece 0 _ x g w h2 h3 O t U hO inbX inbG inbO p q l r _ fun k => hW k l

theorem pieceV (x : Vec Ideal S1x1024x1024 .f32) (g : Vec Ideal S1x1024 .f32) (w : Vec Ideal S1024x1664 .bf16)
    {m2 : Memref sig .tc .vmem S1x1024x1024 .f32} (h2 : m2.IsWhole) {m3 : Memref sig .tc .vmem S1x1024 .f32} (h3 : m3.IsWhole)
    (O t U : ℕ) (hO : O = 512 * t + U) (inbX : ∀ a, (![0, O, 0] : Fin 3 → ℕ) a + S1x256x1024.size a ≤ S1x1024x1024.size a)
    (inbG : ∀ a, (![0, 0] : Fin 2 → ℕ) a + S1x1024.size a ≤ S1x1024.size a)
    (inbO : ∀ a, (![0, t, 0, U] : Fin 4 → ℕ) a + S1x1x512x256.size a ≤ S1x2x512x512.size a)
    (W : Vec Ideal S1024x640 .bf16) (hW : ∀ (k : Fin 1024) (l : Fin 640), W (ix2 k l) = w (ix2 k (⟨1024 + l.val, by omega⟩ : Fin 1664))) (y : S1x1x512x256.Idx) :
    k0_pay21 (k0_pay10 (View.readAt (Elt Ideal) m2.view (Rect.unit (s := S1x1024x1024) ![0, O, 0] S1x256x1024.size inbX).toLoadRect (h2.unread x))
        (View.readAt (Elt Ideal) m3.view (Rect.unit (s := S1x1024) ![0, 0] S1x1024.size inbG).toLoadRect (h3.unread g)) W) y
      = tile 1024 (by decide) x g w ((Rect.unit (s := S1x2x512x512) ![0, t, 0, U] S1x1x512x256.size inbO).emb y) := by
  obtain ⟨p, q, l, r, rfl⟩ := exists_ix4 y
  rw [payV]
  exact row_piece 1024 _ x g w h2 h3 O t U hO inbX inbG inbO p q l r _ fun k => hW k ⟨l.val, by omega⟩

/-- A load of columns of the weights the scratch holds. -/
theorem cols {m : Memref sig .tc .vmem S1024x1664 .bf16} (n o : ℕ) (ho : o + n ≤ 1664) (f : m.view.ty.Contents (Elt Ideal)) (w : Vec Ideal S1024x1664 .bf16)
    (hf : m.view.read (Elt Ideal) f = w) (inb : ∀ a, (![0, o] : Fin 2 → ℕ) a + (⟨2, ![1024, n]⟩ : Shape).size a ≤ S1024x1664.size a) (k : Fin 1024) (l : Fin n) :
    View.readAt (Elt Ideal) m.view (Rect.unit (s := S1024x1664) ![0, o] (⟨2, ![1024, n]⟩ : Shape).size inb).toLoadRect f (ix2 k l)
      = w (ix2 k (⟨o + l.val, by omega⟩ : Fin 1664)) := by
  rw [View.readAt_apply, hf]
  refine congrArg w (Shape.idx_ext₂ ?_ ?_)
  · show 0 + 1 * k.val = k.val; omega
  · show o + 1 * l.val = o + l.val; omega

/-- The weights in the scratch: a column of the transposed projection weights, the first 512 of them scaled. -/
def w16 (x2 : Vec Ideal S1664x1024 .f32) : Vec Ideal S1024x1664 .bf16 := fun i =>
  if (i 1).val < 512 then x2 (ix2 (i 1) (i 0)) * Ideal.ofBits .f32 0x3E38AA3B#32 else x2 (ix2 (i 1) (i 0))

theorem pieceW1 (w : Vec Ideal S1664x1024 .f32) {m4 : Memref sig .tc .vmem S1664x1024 .f32} (h4 : m4.IsWhole) (y : S1024x512.Idx) :
    k0_pay1 (View.readAt (Elt Ideal) m4.view (Rect.unit (s := S1664x1024) ![0, 0] S512x1024.size inb_S1664x1024_S512x1024_0_0).toLoadRect (h4.unread w)) y
      = w16 w ((Rect.unit (s := S1024x1664) ![0, 0] S1024x512.size inb_S1024x1664_S1024x512_0_0).emb y) := by
  obtain ⟨k, l, rfl⟩ := exists_ix2 y
  rw [payW1, h4.readAt_unread]
  unfold w16
  rw [if_pos (by show 0 + 1 * l.val < 512; omega)]
  refine congrArg (· * _) (congrArg w (Shape.idx_ext₂ ?_ ?_))
  · rfl
  · rfl

theorem pieceW2 (w : Vec Ideal S1664x1024 .f32) {m4 : Memref sig .tc .vmem S1664x1024 .f32} (h4 : m4.IsWhole) (y : S1024x1152.Idx) :
    k0_pay2 (View.readAt (Elt Ideal) m4.view (Rect.unit (s := S1664x1024) ![512, 0] S1152x1024.size inb_S1664x1024_S1152x1024_512_0).toLoadRect (h4.unread w)) y
      = w16 w ((Rect.unit (s := S1024x1664) ![0, 512] S1024x1152.size inb_S1024x1664_S1024x1152_0_512).emb y) := by
  obtain ⟨k, l, rfl⟩ := exists_ix2 y
  rw [payW2, h4.readAt_unread]
  unfold w16
  rw [if_neg (by show ¬(512 + 1 * l.val < 512); omega)]
  refine congrArg w (Shape.idx_ext₂ ?_ ?_)
  · rfl
  · rfl

theorem b6 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1664x1024 .f32) (harg4 : arg4.IsWhole) (arg5 : Memref sig .tc .smem S8 .f32) (harg5 : arg5.IsWhole) (arg6 : Memref sig .tc .vmem S256x256 .bf16) (harg6 : arg6.IsWhole) (arg7 : Memref sig .tc .vmem S1024x128 .bf16) (harg7 : arg7.IsWhole) (arg8 : Memref sig .tc .vmem S1x2x512x512 .bf16) (harg8 : arg8.IsWhole) (arg9 : Memref sig .tc .vmem S1x1024x1024 .bf16) (harg9 : arg9.IsWhole) (arg10 : Memref sig .tc .vmem S1x2x512x512 .bf16) (harg10 : arg10.IsWhole) (arg11 : Memref sig .tc .vmem S1x2x1x128 .i32) (harg11 : arg11.IsWhole) (arg12 : Memref sig .tc .vmem S1024x1664 .bf16) (harg12 : arg12.IsWhole) (arg13 : Memref sig .tc .vmem S1x128 .f32) (harg13 : arg13.IsWhole) (arg14 : Memref sig .tc .vmem S1x128 .f32) (harg14 : arg14.IsWhole) (arg15 : Memref sig .tc .vmem S16x128 .f32) (harg15 : arg15.IsWhole) (hc0 : ¬cond0_0 i) (hc1 : ¬cond0_1 i)
    (x0 : Vec Ideal S1x1024x1024 .f32) (x1 : Vec Ideal S1x1024 .f32) (x2 : Vec Ideal S1664x1024 .f32) (x3 : Vec Ideal S8 .f32) (x4 : Vec Ideal S256x256 .bf16) (x5 : Vec Ideal S1024x128 .bf16) (xs0 : Vec Ideal S1024x1664 .bf16) (xs1 : Vec Ideal S1x128 .f32) (xs2 : Vec Ideal S1x128 .f32) (xs3 : Vec Ideal S16x128 .f32) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3
      = tile 0 (by decide) x0 x1 xs0 := by
  funext y
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3)]
  refine View.canon_apply_of_pieces (Val := Elt Ideal) (S := S1x2x512x512) (e := .bf16) (tile 0 (by decide) x0 x1 xs0) _ ?_ y (cover0_B_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 y)
  delta kernelRun0_B
  dsimp only
  intro p hp
  simp only [List.mem_cons, List.not_mem_nil, or_false] at hp
  rcases hp with rfl | rfl | rfl | rfl
  · exact fun z => pieceQ x0 x1 xs0 harg2 harg3 768 1 256 rfl inb_S1x1024x1024_S1x256x1024_0_768_0 inb_S1x1024_S1x1024_0_0 inb_S1x2x512x512_S1x1x512x256_0_1_0_256 _ (cols 512 0 (by decide) _ xs0 (harg12.read_unread xs0) inb_S1024x1664_S1024x512_0_0) z
  · exact fun z => pieceQ x0 x1 xs0 harg2 harg3 512 1 0 rfl inb_S1x1024x1024_S1x256x1024_0_512_0 inb_S1x1024_S1x1024_0_0 inb_S1x2x512x512_S1x1x512x256_0_1_0_0 _ (cols 512 0 (by decide) _ xs0 (harg12.read_unread xs0) inb_S1024x1664_S1024x512_0_0) z
  · exact fun z => pieceQ x0 x1 xs0 harg2 harg3 256 0 256 rfl inb_S1x1024x1024_S1x256x1024_0_256_0 inb_S1x1024_S1x1024_0_0 inb_S1x2x512x512_S1x1x512x256_0_0_0_256 _ (cols 512 0 (by decide) _ xs0 (harg12.read_unread xs0) inb_S1024x1664_S1024x512_0_0) z
  · exact fun z => pieceQ x0 x1 xs0 harg2 harg3 0 0 0 rfl inb_S1x1024x1024_S1x256x1024_0_0_0 inb_S1x1024_S1x1024_0_0 inb_S1x2x512x512_S1x1x512x256_0_0_0_0 _ (cols 512 0 (by decide) _ xs0 (harg12.read_unread xs0) inb_S1024x1664_S1024x512_0_0) z

theorem b8 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1664x1024 .f32) (harg4 : arg4.IsWhole) (arg5 : Memref sig .tc .smem S8 .f32) (harg5 : arg5.IsWhole) (arg6 : Memref sig .tc .vmem S256x256 .bf16) (harg6 : arg6.IsWhole) (arg7 : Memref sig .tc .vmem S1024x128 .bf16) (harg7 : arg7.IsWhole) (arg8 : Memref sig .tc .vmem S1x2x512x512 .bf16) (harg8 : arg8.IsWhole) (arg9 : Memref sig .tc .vmem S1x1024x1024 .bf16) (harg9 : arg9.IsWhole) (arg10 : Memref sig .tc .vmem S1x2x512x512 .bf16) (harg10 : arg10.IsWhole) (arg11 : Memref sig .tc .vmem S1x2x1x128 .i32) (harg11 : arg11.IsWhole) (arg12 : Memref sig .tc .vmem S1024x1664 .bf16) (harg12 : arg12.IsWhole) (arg13 : Memref sig .tc .vmem S1x128 .f32) (harg13 : arg13.IsWhole) (arg14 : Memref sig .tc .vmem S1x128 .f32) (harg14 : arg14.IsWhole) (arg15 : Memref sig .tc .vmem S16x128 .f32) (harg15 : arg15.IsWhole) (hc0 : ¬cond0_0 i) (hc1 : ¬cond0_1 i)
    (x0 : Vec Ideal S1x1024x1024 .f32) (x1 : Vec Ideal S1x1024 .f32) (x2 : Vec Ideal S1664x1024 .f32) (x3 : Vec Ideal S8 .f32) (x4 : Vec Ideal S256x256 .bf16) (x5 : Vec Ideal S1024x128 .bf16) (xs0 : Vec Ideal S1024x1664 .bf16) (xs1 : Vec Ideal S1x128 .f32) (xs2 : Vec Ideal S1x128 .f32) (xs3 : Vec Ideal S16x128 .f32) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3
      = tile 1024 (by decide) x0 x1 xs0 := by
  funext y
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3)]
  refine View.canon_apply_of_pieces (Val := Elt Ideal) (S := S1x2x512x512) (e := .bf16) (tile 1024 (by decide) x0 x1 xs0) _ ?_ y (cover0_B_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 y)
  delta kernelRun0_B
  dsimp only
  intro p hp
  simp only [List.mem_cons, List.not_mem_nil, or_false] at hp
  rcases hp with rfl | rfl | rfl | rfl
  · exact fun z => pieceV x0 x1 xs0 harg2 harg3 768 1 256 rfl inb_S1x1024x1024_S1x256x1024_0_768_0 inb_S1x1024_S1x1024_0_0 inb_S1x2x512x512_S1x1x512x256_0_1_0_256 _ (cols 640 1024 (by decide) _ xs0 (harg12.read_unread xs0) inb_S1024x1664_S1024x640_0_1024) z
  · exact fun z => pieceV x0 x1 xs0 harg2 harg3 512 1 0 rfl inb_S1x1024x1024_S1x256x1024_0_512_0 inb_S1x1024_S1x1024_0_0 inb_S1x2x512x512_S1x1x512x256_0_1_0_0 _ (cols 640 1024 (by decide) _ xs0 (harg12.read_unread xs0) inb_S1024x1664_S1024x640_0_1024) z
  · exact fun z => pieceV x0 x1 xs0 harg2 harg3 256 0 256 rfl inb_S1x1024x1024_S1x256x1024_0_256_0 inb_S1x1024_S1x1024_0_0 inb_S1x2x512x512_S1x1x512x256_0_0_0_256 _ (cols 640 1024 (by decide) _ xs0 (harg12.read_unread xs0) inb_S1024x1664_S1024x640_0_1024) z
  · exact fun z => pieceV x0 x1 xs0 harg2 harg3 0 0 0 rfl inb_S1x1024x1024_S1x256x1024_0_0_0 inb_S1x1024_S1x1024_0_0 inb_S1x2x512x512_S1x1x512x256_0_0_0_0 _ (cols 640 1024 (by decide) _ xs0 (harg12.read_unread xs0) inb_S1024x1664_S1024x640_0_1024) z

theorem c6 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1664x1024 .f32) (harg4 : arg4.IsWhole) (arg5 : Memref sig .tc .smem S8 .f32) (harg5 : arg5.IsWhole) (arg6 : Memref sig .tc .vmem S256x256 .bf16) (harg6 : arg6.IsWhole) (arg7 : Memref sig .tc .vmem S1024x128 .bf16) (harg7 : arg7.IsWhole) (arg8 : Memref sig .tc .vmem S1x2x512x512 .bf16) (harg8 : arg8.IsWhole) (arg9 : Memref sig .tc .vmem S1x1024x1024 .bf16) (harg9 : arg9.IsWhole) (arg10 : Memref sig .tc .vmem S1x2x512x512 .bf16) (harg10 : arg10.IsWhole) (arg11 : Memref sig .tc .vmem S1x2x1x128 .i32) (harg11 : arg11.IsWhole) (arg12 : Memref sig .tc .vmem S1024x1664 .bf16) (harg12 : arg12.IsWhole) (arg13 : Memref sig .tc .vmem S1x128 .f32) (harg13 : arg13.IsWhole) (arg14 : Memref sig .tc .vmem S1x128 .f32) (harg14 : arg14.IsWhole) (arg15 : Memref sig .tc .vmem S16x128 .f32) (harg15 : arg15.IsWhole) (hc0 : ¬cond0_0 i) (hc1 : cond0_1 i)
    (x0 : Vec Ideal S1x1024x1024 .f32) (x1 : Vec Ideal S1x1024 .f32) (x2 : Vec Ideal S1664x1024 .f32) (x3 : Vec Ideal S8 .f32) (x4 : Vec Ideal S256x256 .bf16) (x5 : Vec Ideal S1024x128 .bf16) (xs0 : Vec Ideal S1024x1664 .bf16) :
    out0_C_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0
      = tile 0 (by decide) x0 x1 xs0 := by
  funext y
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0)]
  refine View.canon_apply_of_pieces (Val := Elt Ideal) (S := S1x2x512x512) (e := .bf16) (tile 0 (by decide) x0 x1 xs0) _ ?_ y (cover0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 y)
  delta kernelRun0_C
  dsimp only
  intro p hp
  simp only [List.mem_cons, List.not_mem_nil, or_false] at hp
  rcases hp with rfl | rfl | rfl | rfl
  · exact fun z => pieceQ x0 x1 xs0 harg2 harg3 768 1 256 rfl inb_S1x1024x1024_S1x256x1024_0_768_0 inb_S1x1024_S1x1024_0_0 inb_S1x2x512x512_S1x1x512x256_0_1_0_256 _ (cols 512 0 (by decide) _ xs0 (harg12.read_unread xs0) inb_S1024x1664_S1024x512_0_0) z
  · exact fun z => pieceQ x0 x1 xs0 harg2 harg3 512 1 0 rfl inb_S1x1024x1024_S1x256x1024_0_512_0 inb_S1x1024_S1x1024_0_0 inb_S1x2x512x512_S1x1x512x256_0_1_0_0 _ (cols 512 0 (by decide) _ xs0 (harg12.read_unread xs0) inb_S1024x1664_S1024x512_0_0) z
  · exact fun z => pieceQ x0 x1 xs0 harg2 harg3 256 0 256 rfl inb_S1x1024x1024_S1x256x1024_0_256_0 inb_S1x1024_S1x1024_0_0 inb_S1x2x512x512_S1x1x512x256_0_0_0_256 _ (cols 512 0 (by decide) _ xs0 (harg12.read_unread xs0) inb_S1024x1664_S1024x512_0_0) z
  · exact fun z => pieceQ x0 x1 xs0 harg2 harg3 0 0 0 rfl inb_S1x1024x1024_S1x256x1024_0_0_0 inb_S1x1024_S1x1024_0_0 inb_S1x2x512x512_S1x1x512x256_0_0_0_0 _ (cols 512 0 (by decide) _ xs0 (harg12.read_unread xs0) inb_S1024x1664_S1024x512_0_0) z

theorem c8 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1664x1024 .f32) (harg4 : arg4.IsWhole) (arg5 : Memref sig .tc .smem S8 .f32) (harg5 : arg5.IsWhole) (arg6 : Memref sig .tc .vmem S256x256 .bf16) (harg6 : arg6.IsWhole) (arg7 : Memref sig .tc .vmem S1024x128 .bf16) (harg7 : arg7.IsWhole) (arg8 : Memref sig .tc .vmem S1x2x512x512 .bf16) (harg8 : arg8.IsWhole) (arg9 : Memref sig .tc .vmem S1x1024x1024 .bf16) (harg9 : arg9.IsWhole) (arg10 : Memref sig .tc .vmem S1x2x512x512 .bf16) (harg10 : arg10.IsWhole) (arg11 : Memref sig .tc .vmem S1x2x1x128 .i32) (harg11 : arg11.IsWhole) (arg12 : Memref sig .tc .vmem S1024x1664 .bf16) (harg12 : arg12.IsWhole) (arg13 : Memref sig .tc .vmem S1x128 .f32) (harg13 : arg13.IsWhole) (arg14 : Memref sig .tc .vmem S1x128 .f32) (harg14 : arg14.IsWhole) (arg15 : Memref sig .tc .vmem S16x128 .f32) (harg15 : arg15.IsWhole) (hc0 : ¬cond0_0 i) (hc1 : cond0_1 i)
    (x0 : Vec Ideal S1x1024x1024 .f32) (x1 : Vec Ideal S1x1024 .f32) (x2 : Vec Ideal S1664x1024 .f32) (x3 : Vec Ideal S8 .f32) (x4 : Vec Ideal S256x256 .bf16) (x5 : Vec Ideal S1024x128 .bf16) (xs0 : Vec Ideal S1024x1664 .bf16) :
    out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0
      = tile 1024 (by decide) x0 x1 xs0 := by
  funext y
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0)]
  refine View.canon_apply_of_pieces (Val := Elt Ideal) (S := S1x2x512x512) (e := .bf16) (tile 1024 (by decide) x0 x1 xs0) _ ?_ y (cover0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 y)
  delta kernelRun0_C
  dsimp only
  intro p hp
  simp only [List.mem_cons, List.not_mem_nil, or_false] at hp
  rcases hp with rfl | rfl | rfl | rfl
  · exact fun z => pieceV x0 x1 xs0 harg2 harg3 768 1 256 rfl inb_S1x1024x1024_S1x256x1024_0_768_0 inb_S1x1024_S1x1024_0_0 inb_S1x2x512x512_S1x1x512x256_0_1_0_256 _ (cols 640 1024 (by decide) _ xs0 (harg12.read_unread xs0) inb_S1024x1664_S1024x640_0_1024) z
  · exact fun z => pieceV x0 x1 xs0 harg2 harg3 512 1 0 rfl inb_S1x1024x1024_S1x256x1024_0_512_0 inb_S1x1024_S1x1024_0_0 inb_S1x2x512x512_S1x1x512x256_0_1_0_0 _ (cols 640 1024 (by decide) _ xs0 (harg12.read_unread xs0) inb_S1024x1664_S1024x640_0_1024) z
  · exact fun z => pieceV x0 x1 xs0 harg2 harg3 256 0 256 rfl inb_S1x1024x1024_S1x256x1024_0_256_0 inb_S1x1024_S1x1024_0_0 inb_S1x2x512x512_S1x1x512x256_0_0_0_256 _ (cols 640 1024 (by decide) _ xs0 (harg12.read_unread xs0) inb_S1024x1664_S1024x640_0_1024) z
  · exact fun z => pieceV x0 x1 xs0 harg2 harg3 0 0 0 rfl inb_S1x1024x1024_S1x256x1024_0_0_0 inb_S1x1024_S1x1024_0_0 inb_S1x2x512x512_S1x1x512x256_0_0_0_0 _ (cols 640 1024 (by decide) _ xs0 (harg12.read_unread xs0) inb_S1024x1664_S1024x640_0_1024) z

theorem a6 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1664x1024 .f32) (harg4 : arg4.IsWhole) (arg5 : Memref sig .tc .smem S8 .f32) (harg5 : arg5.IsWhole) (arg6 : Memref sig .tc .vmem S256x256 .bf16) (harg6 : arg6.IsWhole) (arg7 : Memref sig .tc .vmem S1024x128 .bf16) (harg7 : arg7.IsWhole) (arg8 : Memref sig .tc .vmem S1x2x512x512 .bf16) (harg8 : arg8.IsWhole) (arg9 : Memref sig .tc .vmem S1x1024x1024 .bf16) (harg9 : arg9.IsWhole) (arg10 : Memref sig .tc .vmem S1x2x512x512 .bf16) (harg10 : arg10.IsWhole) (arg11 : Memref sig .tc .vmem S1x2x1x128 .i32) (harg11 : arg11.IsWhole) (arg12 : Memref sig .tc .vmem S1024x1664 .bf16) (harg12 : arg12.IsWhole) (arg13 : Memref sig .tc .vmem S1x128 .f32) (harg13 : arg13.IsWhole) (arg14 : Memref sig .tc .vmem S1x128 .f32) (harg14 : arg14.IsWhole) (arg15 : Memref sig .tc .vmem S16x128 .f32) (harg15 : arg15.IsWhole) (hc0 : cond0_0 i) (hc1 : cond0_1 i)
    (x0 : Vec Ideal S1x1024x1024 .f32) (x1 : Vec Ideal S1x1024 .f32) (x2 : Vec Ideal S1664x1024 .f32) (x3 : Vec Ideal S8 .f32) (x4 : Vec Ideal S256x256 .bf16) (x5 : Vec Ideal S1024x128 .bf16) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
      = tile 0 (by decide) x0 x1 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) := by
  funext y
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  refine View.canon_apply_of_pieces (Val := Elt Ideal) (S := S1x2x512x512) (e := .bf16) (tile 0 (by decide) x0 x1 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)) _ ?_ y (cover0_A_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 y)
  delta kernelRun0_A
  dsimp only
  intro p hp
  simp only [List.mem_cons, List.not_mem_nil, or_false] at hp
  rcases hp with rfl | rfl | rfl | rfl
  · exact fun z => pieceQ x0 x1 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) harg2 harg3 768 1 256 rfl inb_S1x1024x1024_S1x256x1024_0_768_0 inb_S1x1024_S1x1024_0_0 inb_S1x2x512x512_S1x1x512x256_0_1_0_256 _ (cols 512 0 (by decide) _ (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) (View.read_writes_of_cover _ _ _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)) inb_S1024x1664_S1024x512_0_0) z
  · exact fun z => pieceQ x0 x1 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) harg2 harg3 512 1 0 rfl inb_S1x1024x1024_S1x256x1024_0_512_0 inb_S1x1024_S1x1024_0_0 inb_S1x2x512x512_S1x1x512x256_0_1_0_0 _ (cols 512 0 (by decide) _ (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) (View.read_writes_of_cover _ _ _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)) inb_S1024x1664_S1024x512_0_0) z
  · exact fun z => pieceQ x0 x1 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) harg2 harg3 256 0 256 rfl inb_S1x1024x1024_S1x256x1024_0_256_0 inb_S1x1024_S1x1024_0_0 inb_S1x2x512x512_S1x1x512x256_0_0_0_256 _ (cols 512 0 (by decide) _ (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) (View.read_writes_of_cover _ _ _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)) inb_S1024x1664_S1024x512_0_0) z
  · exact fun z => pieceQ x0 x1 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) harg2 harg3 0 0 0 rfl inb_S1x1024x1024_S1x256x1024_0_0_0 inb_S1x1024_S1x1024_0_0 inb_S1x2x512x512_S1x1x512x256_0_0_0_0 _ (cols 512 0 (by decide) _ (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) (View.read_writes_of_cover _ _ _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)) inb_S1024x1664_S1024x512_0_0) z

theorem a8 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1664x1024 .f32) (harg4 : arg4.IsWhole) (arg5 : Memref sig .tc .smem S8 .f32) (harg5 : arg5.IsWhole) (arg6 : Memref sig .tc .vmem S256x256 .bf16) (harg6 : arg6.IsWhole) (arg7 : Memref sig .tc .vmem S1024x128 .bf16) (harg7 : arg7.IsWhole) (arg8 : Memref sig .tc .vmem S1x2x512x512 .bf16) (harg8 : arg8.IsWhole) (arg9 : Memref sig .tc .vmem S1x1024x1024 .bf16) (harg9 : arg9.IsWhole) (arg10 : Memref sig .tc .vmem S1x2x512x512 .bf16) (harg10 : arg10.IsWhole) (arg11 : Memref sig .tc .vmem S1x2x1x128 .i32) (harg11 : arg11.IsWhole) (arg12 : Memref sig .tc .vmem S1024x1664 .bf16) (harg12 : arg12.IsWhole) (arg13 : Memref sig .tc .vmem S1x128 .f32) (harg13 : arg13.IsWhole) (arg14 : Memref sig .tc .vmem S1x128 .f32) (harg14 : arg14.IsWhole) (arg15 : Memref sig .tc .vmem S16x128 .f32) (harg15 : arg15.IsWhole) (hc0 : cond0_0 i) (hc1 : cond0_1 i)
    (x0 : Vec Ideal S1x1024x1024 .f32) (x1 : Vec Ideal S1x1024 .f32) (x2 : Vec Ideal S1664x1024 .f32) (x3 : Vec Ideal S8 .f32) (x4 : Vec Ideal S256x256 .bf16) (x5 : Vec Ideal S1024x128 .bf16) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
      = tile 1024 (by decide) x0 x1 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) := by
  funext y
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  refine View.canon_apply_of_pieces (Val := Elt Ideal) (S := S1x2x512x512) (e := .bf16) (tile 1024 (by decide) x0 x1 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)) _ ?_ y (cover0_A_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 y)
  delta kernelRun0_A
  dsimp only
  intro p hp
  simp only [List.mem_cons, List.not_mem_nil, or_false] at hp
  rcases hp with rfl | rfl | rfl | rfl
  · exact fun z => pieceV x0 x1 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) harg2 harg3 768 1 256 rfl inb_S1x1024x1024_S1x256x1024_0_768_0 inb_S1x1024_S1x1024_0_0 inb_S1x2x512x512_S1x1x512x256_0_1_0_256 _ (cols 640 1024 (by decide) _ (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) (View.read_writes_of_cover _ _ _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)) inb_S1024x1664_S1024x640_0_1024) z
  · exact fun z => pieceV x0 x1 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) harg2 harg3 512 1 0 rfl inb_S1x1024x1024_S1x256x1024_0_512_0 inb_S1x1024_S1x1024_0_0 inb_S1x2x512x512_S1x1x512x256_0_1_0_0 _ (cols 640 1024 (by decide) _ (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) (View.read_writes_of_cover _ _ _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)) inb_S1024x1664_S1024x640_0_1024) z
  · exact fun z => pieceV x0 x1 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) harg2 harg3 256 0 256 rfl inb_S1x1024x1024_S1x256x1024_0_256_0 inb_S1x1024_S1x1024_0_0 inb_S1x2x512x512_S1x1x512x256_0_0_0_256 _ (cols 640 1024 (by decide) _ (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) (View.read_writes_of_cover _ _ _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)) inb_S1024x1664_S1024x640_0_1024) z
  · exact fun z => pieceV x0 x1 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) harg2 harg3 0 0 0 rfl inb_S1x1024x1024_S1x256x1024_0_0_0 inb_S1x1024_S1x1024_0_0 inb_S1x2x512x512_S1x1x512x256_0_0_0_0 _ (cols 640 1024 (by decide) _ (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) (View.read_writes_of_cover _ _ _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)) inb_S1024x1664_S1024x640_0_1024) z

theorem a_w16 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1664x1024 .f32) (harg4 : arg4.IsWhole) (arg5 : Memref sig .tc .smem S8 .f32) (harg5 : arg5.IsWhole) (arg6 : Memref sig .tc .vmem S256x256 .bf16) (harg6 : arg6.IsWhole) (arg7 : Memref sig .tc .vmem S1024x128 .bf16) (harg7 : arg7.IsWhole) (arg8 : Memref sig .tc .vmem S1x2x512x512 .bf16) (harg8 : arg8.IsWhole) (arg9 : Memref sig .tc .vmem S1x1024x1024 .bf16) (harg9 : arg9.IsWhole) (arg10 : Memref sig .tc .vmem S1x2x512x512 .bf16) (harg10 : arg10.IsWhole) (arg11 : Memref sig .tc .vmem S1x2x1x128 .i32) (harg11 : arg11.IsWhole) (arg12 : Memref sig .tc .vmem S1024x1664 .bf16) (harg12 : arg12.IsWhole) (arg13 : Memref sig .tc .vmem S1x128 .f32) (harg13 : arg13.IsWhole) (arg14 : Memref sig .tc .vmem S1x128 .f32) (harg14 : arg14.IsWhole) (arg15 : Memref sig .tc .vmem S16x128 .f32) (harg15 : arg15.IsWhole) (hc0 : cond0_0 i) (hc1 : cond0_1 i)
    (x0 : Vec Ideal S1x1024x1024 .f32) (x1 : Vec Ideal S1x1024 .f32) (x2 : Vec Ideal S1664x1024 .f32) (x3 : Vec Ideal S8 .f32) (x4 : Vec Ideal S256x256 .bf16) (x5 : Vec Ideal S1024x128 .bf16) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = w16 x2 := by
  funext y
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  refine View.canon_apply_of_pieces (Val := Elt Ideal) (S := S1024x1664) (e := .bf16) (w16 x2) _ ?_ y (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 y)
  delta kernelRun0_A
  dsimp only
  intro p hp
  rcases List.mem_cons.mp hp with rfl | hp
  · exact fun z => pieceW2 x2 harg4 z
  rcases List.mem_singleton.mp hp with rfl
  exact fun z => pieceW1 x2 harg4 z

end Cert.Proof.Qkv
-- ==== Proof.QkvRef.lean ====
/- The projection call's reference, entry by entry. -/
module

public import proofs.«01_k».proof.Proof.QkvTile
public import proofs.«01_k».proof.Proof.Gen.Reference4Ideal.Run
public import Idealize.ShloMosaic.Lib.KernelVsHost

@[expose] public section

set_option maxRecDepth 16384

noncomputable section

namespace Cert.Proof.QkvRef

open Idealize.ShloMosaic Idealize.ShloMosaic.Pointwise
open Cert.Reference4Ideal Cert.Reference4Ideal.Gen
open Cert.Proof.Qkv (proj exists_ix4)

/-- The projections. -/
def P (x : FVec Ideal S2x8192x1024 .f32) (g : FVec Ideal S1x1024 .f32) (w : FVec Ideal S1024x5128 .f32) : FVec Ideal S2x8192x5128 .f32 :=
  Host.dotGeneral dot_S2x8192x1024_S1024x5128_S2x8192x5128_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) w

/-- The queries. -/
def Q (p : FVec Ideal S2x8192x5128 .f32) : FVec Ideal S2x16x512x512 .bf16 :=
  truncf .bf16 (transpose S2x16x512x512 [0, 1, 3, 2] (shapeCast _ (mulf (extractStridedSlice S2x8192x512 ![0, 0, 0] p slices_S2x8192x5128_S2x8192x512_0_0_0) (broadcastInDim S2x8192x512 ![] bcast_S_S2x8192x512 (constant S_ .f32 0x3E38AA3B#32))) shapeCasts_S2x8192x512_S2x16x512x512) transposes_S2x16x512x512_S2x16x512x512_0_1_3_2) bitsLt_bf16_f32

/-- The values. -/
def V (p : FVec Ideal S2x8192x5128 .f32) : FVec Ideal S2x16x512x512 .bf16 :=
  truncf .bf16 (transpose S2x16x512x512 [0, 1, 3, 2] (shapeCast _ (extractStridedSlice S2x8192x512 ![0, 0, 1024] p slices_S2x8192x5128_S2x8192x512_0_0_1024) shapeCasts_S2x8192x512_S2x16x512x512) transposes_S2x16x512x512_S2x16x512x512_0_1_3_2) bitsLt_bf16_f32

theorem P_apply (x : FVec Ideal S2x8192x1024 .f32) (g : FVec Ideal S1x1024 .f32) (w : FVec Ideal S1024x5128 .f32) (b : Fin 2) (s : Fin 8192) (l : Fin 5128) :
    P x g w (ix3 b s l) = proj (fun k => x (ix3 b s k)) (fun k => g (ix2 0 k)) (fun k => w (ix2 k l)) := by
  pointwise [P]
  rfl

theorem Q_apply (p : FVec Ideal S2x8192x5128 .f32) (b : Fin 2) (t : Fin 16) (l r : Fin 512) :
    Q p (ix4 b t l r) = p (ix3 b (⟨t.val * 512 + r.val, by omega⟩ : Fin 8192) (⟨l.val, by omega⟩ : Fin 5128)) * Ideal.ofBits .f32 0x3E38AA3B#32 := by
  pointwise [Q]

theorem V_apply (p : FVec Ideal S2x8192x5128 .f32) (b : Fin 2) (t : Fin 16) (l r : Fin 512) :
    V p (ix4 b t l r) = p (ix3 b (⟨t.val * 512 + r.val, by omega⟩ : Fin 8192) (⟨1024 + l.val, by omega⟩ : Fin 5128)) := by
  pointwise [V]

theorem scale_real : ∃ s : ℝ, 0 ≤ s ∧ Ideal.ofBits .f32 0x3E38AA3B#32 = (s : EReal) := by
  refine ⟨_, ?_, by simp [Ideal.ofBits, Ideal.ieee]; rfl⟩
  positivity

/-- A scaled projection is the projection of scaled weights. -/
theorem proj_scale (x g w : Fin 1024 → EReal) :
    proj x g w * Ideal.ofBits .f32 0x3E38AA3B#32 = proj x g fun k => w k * Ideal.ofBits .f32 0x3E38AA3B#32 := by
  obtain ⟨s, h0, hs⟩ := scale_real
  rw [hs]
  have h0' : (0 : EReal) ≤ (s : EReal) := EReal.coe_nonneg.mpr h0
  have key : ∀ (S : Finset (Fin 1024)) (f : Fin 1024 → EReal), (∑ k ∈ S, f k) * (s : EReal) = ∑ k ∈ S, f k * (s : EReal) := fun S f => by
    induction S using Finset.induction_on with
    | empty => simp
    | insert a S ha ih => rw [Finset.sum_insert ha, Finset.sum_insert ha, EReal.right_distrib_of_nonneg_of_ne_top h0' (EReal.coe_ne_top s), ih]
  unfold proj
  rw [key]
  exact Finset.sum_congr rfl fun k _ => mul_assoc _ _ _

end Cert.Proof.QkvRef
-- ==== Proof.QkvValue.lean ====
/- The projection call's queries and values, and its algebraic claim: both programs end at the same arrays. -/
module

public import proofs.«01_k».proof.Proof.QkvTile
public import proofs.«01_k».proof.Proof.QkvRef
public import proofs.«01_k».proof.Defs
public import Idealize.ShloMosaic.Lib.Quiescent
public import Idealize.ShloMosaic.Lib.StableHlo.RunRead
public import Idealize.ShloMosaic.Lib.Pipeline.ValueKit.Geometry

@[expose] public section

set_option maxRecDepth 16384

noncomputable section

namespace Cert.Proof.Qkv

open Idealize.ShloMosaic Idealize.ShloMosaic.TcCoe Idealize.ShloMosaic.Pointwise Idealize.SL.Sem
open Idealize.ShloMosaic.Pipeline (Dat)
open Cert.Kernel4Ideal Cert.Kernel4Ideal.Gen
open Cert.Proof.Ffn (exists_ix2)

/-- Both results' arrays: column `l` of some weights against every row, the rows in tiles of 512, a tile's columns first. -/
def cols16 (f : Fin 512 → Fin 1024 → EReal) (x : S2x8192x1024.Idx → EReal) (g : S1x1024.Idx → EReal) (i : S2x16x512x512.Idx) : EReal :=
  proj (fun k => x (ix3 (i 0) (⟨(i 1).val * 512 + (i 3).val, by
      have h1 : (i 1).val < 16 := (i 1).isLt
      have h3 : (i 3).val < 512 := (i 3).isLt
      omega⟩ : Fin 8192) k)) (fun k => g (ix2 0 k)) (f (i 2))

/-- The query weights, scaled, and the value weights. -/
def wq (w : S1024x5128.Idx → EReal) (l : Fin 512) (k : Fin 1024) : EReal := w (ix2 k (⟨l.val, by omega⟩ : Fin 5128)) * Ideal.ofBits .f32 0x3E38AA3B#32
def wv (w : S1024x5128.Idx → EReal) (l : Fin 512) (k : Fin 1024) : EReal := w (ix2 k (⟨1024 + l.val, by omega⟩ : Fin 5128))

variable (m : (ℓ : Loc nD τ sig) → Buf (Elt Ideal) ℓ) (c : Dev nD)

/-- The arguments. -/
abbrev ax : S2x8192x1024.Idx → EReal := m ((c.tc : Thread nD τ).loc main_arg0)
abbrev ag : S1x1024.Idx → EReal := m ((c.tc : Thread nD τ).loc main_arg1)
abbrev aw : S1024x5128.Idx → EReal := m ((c.tc : Thread nD τ).loc main_arg2)

/-! ## The blocks -/

theorem V_main_v11 : V m c main_v11 = transpose S5128x1024 [1, 0] (aw m c) transposes_S1024x5128_S5128x1024_1_0 := by
  unfold V
  simp only [List.flatten_cons, List.flatten_nil, List.append_nil, hostOps0, hostOps0_1, hostOps0_2, List.cons_append, List.nil_append]
  after_reads_simp

theorem blk1 (t : Fin cfg0.N) : iblk m c 1 t = ag m c := by
  funext x
  refine Eq.trans ?_ (congrFun (V_main_arg1 m c) x)
  show V m c main_arg1 ((win0_1.rect t).emb x) = _
  exact congrArg _ (funext fun a => Fin.ext (Pipeline.Window.rect_emb_val_of_index_zero win0_1 t a (by fin_cases a <;> rfl) x))

theorem index0 : ∀ t : Fin grid0.N, win0_0.index t 0 = t.val / 8 ∧ win0_0.index t 1 = t.val % 8 ∧ win0_0.index t 2 = 0 := by decide +kernel
theorem index2 : ∀ t : Fin grid0.N, win0_2.index t 0 = 0 ∧ win0_2.index t 1 = 0 := by decide +kernel

theorem blk0 (t : Fin cfg0.N) (r k : Fin 1024) (b : Fin 2) (s : Fin 8192) (hb : b.val = t.val / 8) (hs : s.val = t.val % 8 * 1024 + r.val) :
    iblk m c 0 t (ix3 0 r k) = ax m c (ix3 b s k) := by
  refine Eq.trans ?_ (congrFun (V_main_arg0 m c) (ix3 b s k))
  show V m c main_arg0 ((win0_0.rect t).emb (ix3 0 r k)) = _
  refine congrArg _ (funext fun a => Fin.ext ?_)
  refine (Pipeline.Window.rect_emb_val win0_0 t (ix3 0 r k) a).trans ?_
  fin_cases a
  · show win0_0.index t 0 * 1 + 0 = b.val
    rw [(index0 t).1]; omega
  · show win0_0.index t 1 * 1024 + r.val = s.val
    rw [(index0 t).2.1]; omega
  · show win0_0.index t 2 * 1024 + k.val = k.val
    rw [(index0 t).2.2]; omega

/-- The weights' block: the transposed weights' first rows. -/
theorem blk2 (t : Fin cfg0.N) (n : Fin 1664) (k : Fin 1024) : X0_2 m c t (ix2 n k) = aw m c (ix2 k (⟨n.val, by omega⟩ : Fin 5128)) := by
  unfold X0_2 Pipeline.Window.fill
  rw [dif_pos (moved0_2 t _)]
  have hv : ∀ (p : Fin 5128) (q : Fin 1024), V m c main_v11 (ix2 p q) = aw m c (ix2 q p) := fun p q => by
    rw [V_main_v11]
    pointwise []
  refine Eq.trans ?_ (hv ⟨n.val, by omega⟩ k)
  show V m c main_v11 ((win0_2.rect t).emb _) = _
  refine congrArg _ (Shape.idx_ext₂ ?_ ?_)
  · exact Pipeline.Window.rect_emb_val_of_index_zero win0_2 t 0 (index2 t).1 _
  · exact Pipeline.Window.rect_emb_val_of_index_zero win0_2 t 1 (index2 t).2 _

/-! ## The points -/

/-- The weights the scratch holds from the first point on. -/
def ws : Vec Ideal S1024x1664 .bf16 := fun i =>
  if (i 1).val < 512 then aw m c (ix2 (i 0) (⟨(i 1).val, lt_trans (i 1).isLt (by decide)⟩ : Fin 5128)) * Ideal.ofBits .f32 0x3E38AA3B#32
  else aw m c (ix2 (i 0) (⟨(i 1).val, lt_trans (i 1).isLt (by decide)⟩ : Fin 5128))

theorem w16_eq (t : Fin cfg0.N) : w16 (X0_2 m c t) = ws m c := by
  funext i
  obtain ⟨k, n, rfl⟩ := exists_ix2 i
  unfold w16 ws
  exact congrArg (fun z : EReal => if n.val < 512 then z * Ideal.ofBits .f32 0x3E38AA3B#32 else z) (blk2 m c t n k)

theorem scratch : ∀ (n : ℕ) (hn : n < cfg0.N), (outsAt0 m c n hn).2.2.2.2.1 = ws m c
  | 0, hn => by
    rw [outsAt0_A m c ⟨0, hn⟩ rfl rfl]
    dsimp only
    rw [a_w16, w16_eq]
  | n + 1, hn => by
    have hN : n + 1 < 16 := lt_of_lt_of_eq hn N_0
    have h0 : ¬(n + 1) % 16 = 0 := by omega
    have key : ∀ (j : ℕ) (hj : j < cfg0.N), j = n → (outsAt0 m c j hj).2.2.2.2.1 = ws m c := fun j hj e => by
      subst e
      exact scratch j hj
    by_cases h1 : (n + 1) % 8 = 0
    · rw [outsAt0_C m c ⟨n + 1, hn⟩ h0 h1]
      dsimp only
      unfold sout0_C_0
      exact key _ _ (Nat.add_sub_cancel n 1)
    · rw [outsAt0_B m c ⟨n + 1, hn⟩ h0 h1]
      dsimp only
      unfold sout0_B_0
      exact key _ _ (Nat.add_sub_cancel n 1)

theorem at6 (t : Fin cfg0.N) : (outsAt0 m c t.val t.isLt).1 = tile 0 (by decide) (iblk m c 0 t) (iblk m c 1 t) (ws m c) := by
  have hN : t.val < 16 := lt_of_lt_of_eq t.isLt N_0
  by_cases h0 : t.val % 16 = 0
  · have h1 : t.val % 8 = 0 := by omega
    rw [outsAt0_A m c t h0 h1]
    dsimp only
    rw [a6, a_w16, w16_eq]
  · by_cases h1 : t.val % 8 = 0
    · rw [outsAt0_C m c t h0 h1]
      dsimp only
      rw [c6, scratch]
    · rw [outsAt0_B m c t h0 h1]
      dsimp only
      rw [b6, scratch]

theorem at8 (t : Fin cfg0.N) : (outsAt0 m c t.val t.isLt).2.2.1 = tile 1024 (by decide) (iblk m c 0 t) (iblk m c 1 t) (ws m c) := by
  have hN : t.val < 16 := lt_of_lt_of_eq t.isLt N_0
  by_cases h0 : t.val % 16 = 0
  · have h1 : t.val % 8 = 0 := by omega
    rw [outsAt0_A m c t h0 h1]
    dsimp only
    rw [a8, a_w16, w16_eq]
  · by_cases h1 : t.val % 8 = 0
    · rw [outsAt0_C m c t h0 h1]
      dsimp only
      rw [c8, scratch]
    · rw [outsAt0_B m c t h0 h1]
      dsimp only
      rw [b8, scratch]

/-- A place of a point's block, as the place of the array it goes to. -/
theorem tile_array (o : ℕ) (ho : o + 512 ≤ 1664) (f : Fin 512 → Fin 1024 → EReal) (hf : ∀ (l : Fin 512) (k : Fin 1024), ws m c (ix2 k (⟨o + l.val, by omega⟩ : Fin 1664)) = f l k)
    (t : Fin cfg0.N) (b : Fin 2) (T : Fin 16) (l r : Fin 512) (ht : t.val = 8 * b.val + T.val / 2) (j : S1x2x512x512.Idx)
    (h1 : (j 1).val = T.val % 2) (h2 : (j 2).val = l.val) (h3 : (j 3).val = r.val) :
    tile o ho (iblk m c 0 t) (iblk m c 1 t) (ws m c) j = cols16 f (ax m c) (ag m c) (ix4 b T l r) := by
  unfold tile cols16
  refine congr (congrArg₂ proj (funext fun k => ?_) (funext fun k => ?_)) (funext fun k => ?_)
  · exact blk0 m c t _ k _ _ (by show b.val = _; omega) (by show T.val * 512 + r.val = t.val % 8 * 1024 + (512 * (j 1).val + (j 3).val); omega)
  · exact congrFun (blk1 m c t) _
  · refine Eq.trans ?_ (hf l k)
    refine congrArg (ws m c) (Shape.idx_ext₂ ?_ ?_)
    · rfl
    · show o + (j 2).val = o + l.val; omega

theorem ws_q (l : Fin 512) (k : Fin 1024) : ws m c (ix2 k (⟨0 + l.val, by omega⟩ : Fin 1664)) = wq (aw m c) l k := by
  unfold ws wq
  rw [if_pos (by show 0 + l.val < 512; omega)]
  refine congrArg (· * _) (congrArg (aw m c) (Shape.idx_ext₂ rfl ?_))
  show 0 + l.val = l.val; omega

theorem ws_v (l : Fin 512) (k : Fin 1024) : ws m c (ix2 k (⟨1024 + l.val, by omega⟩ : Fin 1664)) = wv (aw m c) l k := by
  unfold ws wv
  rw [if_neg (by show ¬(1024 + l.val < 512); omega)]
  rfl

theorem final6 : Cert.Kernel4Ideal.Value.G6 m c = cols16 (wq (aw m c)) (ax m c) (ag m c) := by
  funext i
  obtain ⟨b, T, l, r, rfl⟩ := exists_ix4 i
  have hp : Cert.Kernel4Ideal.Value.pt6Of (ix4 b T l r) = 8 * b.val + T.val / 2 := by
    show 8 * (b.val / 1 - 0) + 1 * (T.val / 2 - 0) + 1 * (l.val / 512 - 0) + 1 * (r.val / 512 - 0) = _
    omega
  have hN : Cert.Kernel4Ideal.Value.pt6Of (ix4 b T l r) < cfg0.N := by rw [hp]; exact lt_of_lt_of_eq (by omega) N_0.symm
  unfold Cert.Kernel4Ideal.Value.G6
  rw [dif_pos hN, ← Cert.Kernel4Ideal.Value.outsAt0_sweep m c _ hN, at6 m c ⟨_, hN⟩]
  exact tile_array m c 0 _ _ (ws_q m c) ⟨_, hN⟩ b T l r hp _ rfl (Nat.mod_eq_of_lt l.isLt) (Nat.mod_eq_of_lt r.isLt)

theorem final8 : Cert.Kernel4Ideal.Value.G8 m c = cols16 (wv (aw m c)) (ax m c) (ag m c) := by
  funext i
  obtain ⟨b, T, l, r, rfl⟩ := exists_ix4 i
  have hp : Cert.Kernel4Ideal.Value.pt8Of (ix4 b T l r) = 8 * b.val + T.val / 2 := by
    show 8 * (b.val / 1 - 0) + 1 * (T.val / 2 - 0) + 1 * (l.val / 512 - 0) + 1 * (r.val / 512 - 0) = _
    omega
  have hN : Cert.Kernel4Ideal.Value.pt8Of (ix4 b T l r) < cfg0.N := by rw [hp]; exact lt_of_lt_of_eq (by omega) N_0.symm
  unfold Cert.Kernel4Ideal.Value.G8
  rw [dif_pos hN, ← Cert.Kernel4Ideal.Value.outsAt0_sweep m c _ hN, at8 m c ⟨_, hN⟩]
  exact tile_array m c 1024 _ _ (ws_v m c) ⟨_, hN⟩ b T l r hp _ rfl (Nat.mod_eq_of_lt l.isLt) (Nat.mod_eq_of_lt r.isLt)

/-! ## The claims -/

theorem ref_q (x : FVec Ideal S2x8192x1024 .f32) (g : FVec Ideal S1x1024 .f32) (w : FVec Ideal S1024x5128 .f32) :
    QkvRef.Q (QkvRef.P x g w) = cols16 (wq w) x g := by
  funext i
  obtain ⟨b, T, l, r, rfl⟩ := exists_ix4 i
  rw [QkvRef.Q_apply, QkvRef.P_apply, QkvRef.proj_scale]
  rfl

theorem ref_v (x : FVec Ideal S2x8192x1024 .f32) (g : FVec Ideal S1x1024 .f32) (w : FVec Ideal S1024x5128 .f32) :
    QkvRef.V (QkvRef.P x g w) = cols16 (wv w) x g := by
  funext i
  obtain ⟨b, T, l, r, rfl⟩ := exists_ix4 i
  rw [QkvRef.V_apply, QkvRef.P_apply]
  rfl

theorem algebraic : Cert.algebraic_Kernel4Ideal_Reference4Ideal := by
  intro m g m' g' _ hm
  refine ⟨fun c => cols16 (wq (aw m c)) (ax m c) (ag m c), fun c => cols16 (wv (aw m c)) (ax m c) (ag m c),
    (θ_run Cert.Kernel4Ideal.defs _ _).mono (fun _ h c => ?_) (Cert.Kernel4Ideal.Value.run m g),
    (θ_run Cert.Reference4Ideal.defs _ _).mono (fun _ h c => ?_) (Cert.Reference4Ideal.Value.run m' g')⟩
  · exact ⟨(h c).1.trans (final6 m c), (h c).2.2.1.trans (final8 m c), (h c).2.2.2.2⟩
  · obtain ⟨h0, h1, h2, _⟩ := hm c
    refine ⟨(h c).1.trans ((ref_q _ _ _).trans ?_), (h c).2.1.trans ((ref_v _ _ _).trans ?_), (h c).2.2⟩
    · rw [h0, h1, h2]
    · rw [h0, h1, h2]

theorem frame_reference : Cert.quiescent_Reference4Ideal := fun m g _ =>
  (θ_run Cert.Reference4Ideal.defs _ _).mono (fun r h => ⟨fun c => (h c).2.2, sem_eq_zero_of_no_sems rfl r.2⟩) (Cert.Reference4Ideal.Value.run m g)

end Cert.Proof.Qkv
-- ==== Proof.AttnWeights.lean ====
/- What the attention call leaves of the three weights that it casts on the way: their blocks, and the whole arrays. The
   third reads its blocks of 512 rows from row 1544 on of the transposed input projection, which no whole number of blocks
   reaches, and leaves them transposed back. -/
module

public import proofs.«01_k».proof.Proof.AttnLaunch
public import Idealize.ShloMosaic.Lib.Pointwise
public import Idealize.ShloMosaic.Lib.Pipeline.ValueKit.Geometry

@[expose] public section

set_option maxRecDepth 16384

noncomputable section

namespace Cert.Proof.AttnIdeal

open Cert.KernelIdeal Cert.KernelIdeal.Gen
open Idealize.ShloMosaic Idealize.ShloMosaic.TcCoe Idealize.ShloMosaic.Pointwise Idealize.SL.Sem
open Idealize.ShloMosaic.Pipeline (Dat RDat Cfg Window)

/-! ## One block: rounding is no change over the extended reals -/

theorem pay10 (x : Vec Ideal S128x1024 .f32) (i : S128x1024.Idx) : k0_pay614 x i = x i := by
  unfold k0_pay614
  exact congrFun (shapeCast_self x _) i

theorem pay12 (x : Vec Ideal S512x1024 .f32) (l : Fin 1024) (r : Fin 512) : k0_pay617 (k0_pay616 x) (ix2 l r) = x (ix2 r l) := by
  pointwise [k0_pay617, k0_pay616]

theorem rider10_eq (x : Vec Ideal S128x1024 .f32) : rider10 x = x := by
  funext j
  unfold rider10
  refine View.canon_apply_of_pieces (Val := Elt Ideal) (S := S128x1024) (e := .bf16) x _ ?_ j (cover10 _ j)
  intro p hp
  simp only [List.mem_cons, List.not_mem_nil, or_false] at hp
  subst hp
  exact fun i => pay10 _ i

theorem rider11_eq (x : Vec Ideal S128x1024 .f32) : rider11 x = x := by
  funext j
  unfold rider11
  refine View.canon_apply_of_pieces (Val := Elt Ideal) (S := S128x1024) (e := .bf16) x _ ?_ j (cover11 _ j)
  intro p hp
  simp only [List.mem_cons, List.not_mem_nil, or_false] at hp
  subst hp
  exact fun i => rfl

/-- A block's transpose. -/
def flip512 (x : Vec Ideal S512x1024 .f32) : S1024x512.Idx → EReal := fun j => x (ix2 (⟨(j 1).val, (j 1).isLt⟩ : Fin 512) (⟨(j 0).val, (j 0).isLt⟩ : Fin 1024))

theorem rider12_eq (x : Vec Ideal S512x1024 .f32) : rider12 x = flip512 x := by
  funext j
  unfold rider12
  refine View.canon_apply_of_pieces (Val := Elt Ideal) (S := S1024x512) (e := .bf16) (flip512 x) _ ?_ j (cover12 _ j)
  intro p hp
  simp only [List.mem_cons, List.not_mem_nil, or_false] at hp
  subst hp
  intro i
  refine (congrArg _ (Shape.idx_ext₂ rfl rfl : i = ix2 (i 0) (i 1))).trans ((pay12 _ (i 0) (i 1)).trans ?_)
  exact congrArg x (Shape.idx_ext₂ rfl rfl)

/-! ## The windows -/

theorem same7 : ∀ (t : Fin grid0.N) (a : Fin 2), cc0_transform_3 (grid0.coords t) a = cc0_transform_7 (grid0.coords t) a := by decide +kernel
theorem same8 : ∀ (t : Fin grid0.N) (a : Fin 2), cc0_transform_4 (grid0.coords t) a = cc0_transform_8 (grid0.coords t) a := by decide +kernel
theorem zero9 : ∀ t : Fin grid0.N, cc0_transform_9 (grid0.coords t) 0 = 0 := by decide +kernel
theorem zero5 : ∀ t : Fin grid0.N, cc0_transform_5 (grid0.coords t) 1 = 0 := by decide +kernel
/-- The third weight's rows begin at row 1544. -/
theorem rows5 : ∀ t : Fin grid0.N, cc0_transform_5 (grid0.coords t) 0 = 1544 + cc0_transform_9 (grid0.coords t) 1 * 512 := by decide +kernel

/-- Some contents of the table: no window's index map reads it. -/
def nought : (pcfgs (F := Ideal) 0).Adm := ⟨fun _ _ => Classical.arbitrary _, trivial⟩

theorem covers7 : (((pcfg0 (F := Ideal)).at nought).win 7).Covers := by decide +kernel
theorem covers8 : (((pcfg0 (F := Ideal)).at nought).win 8).Covers := by decide +kernel
theorem covers9 : (((pcfg0 (F := Ideal)).at nought).win 9).Covers := by decide +kernel

variable (m : (ℓ : Loc nD τ sig) → Buf (Elt Ideal) ℓ) (ρ : Dev nD → PrngReg) (c : Dev nD)

/-! ## The arrays -/

/-- The gates' and the convolution's columns of the input projection, from its transpose. -/
def rest (wT : S5128x1024.Idx → EReal) : S1024x3584.Idx → EReal := fun j =>
  wT (ix2 (⟨1544 + (j 1).val, by have h : (j 1).val < 3584 := (j 1).isLt; omega⟩ : Fin 5128) (⟨(j 0).val, (j 0).isLt⟩ : Fin 1024))

theorem flushed7 (t : Fin (cfgA m).N) : (dats m 0 c).flushed 7 t = (((cfgA m).win 7).blk t).view.read (Elt Ideal) (V m c main_v1 : S1024x1024.Idx → EReal) := by
  show ((cfgA m).win 7).cut (grid0.coords t) ((dats m 0 c).after 7 t) = _
  rw [after_7]
  refine (congrArg (((cfgA m).win 7).cut (grid0.coords t)) (rider10_eq (iblk m c 3 t))).trans ?_
  funext i
  show V m c main_v1 ((((cfgA m).win 3).rect t).emb i) = V m c main_v1 ((((cfgA m).win 7).rect t).emb i)
  refine congrArg _ (Shape.idx_ext₂ ?_ ?_)
  · refine (Pipeline.Window.rect_emb_val ((cfgA m).win 3) t i (0 : Fin 2)).trans (Eq.trans ?_ (Pipeline.Window.rect_emb_val ((cfgA m).win 7) t i (0 : Fin 2)).symm)
    show cc0_transform_3 (grid0.coords t) 0 * 128 + _ = cc0_transform_7 (grid0.coords t) 0 * 128 + _
    rw [same7]
  · refine (Pipeline.Window.rect_emb_val ((cfgA m).win 3) t i (1 : Fin 2)).trans (Eq.trans ?_ (Pipeline.Window.rect_emb_val ((cfgA m).win 7) t i (1 : Fin 2)).symm)
    show cc0_transform_3 (grid0.coords t) 1 * 1024 + _ = cc0_transform_7 (grid0.coords t) 1 * 1024 + _
    rw [same7]

theorem flushed8 (t : Fin (cfgA m).N) : (dats m 0 c).flushed 8 t = (((cfgA m).win 8).blk t).view.read (Elt Ideal) (V m c main_arg5 : S1024x1024.Idx → EReal) := by
  show ((cfgA m).win 8).cut (grid0.coords t) ((dats m 0 c).after 8 t) = _
  rw [after_8]
  refine (congrArg (((cfgA m).win 8).cut (grid0.coords t)) (rider11_eq (iblk m c 4 t))).trans ?_
  funext i
  show V m c main_arg5 ((((cfgA m).win 4).rect t).emb i) = V m c main_arg5 ((((cfgA m).win 8).rect t).emb i)
  refine congrArg _ (Shape.idx_ext₂ ?_ ?_)
  · refine (Pipeline.Window.rect_emb_val ((cfgA m).win 4) t i (0 : Fin 2)).trans (Eq.trans ?_ (Pipeline.Window.rect_emb_val ((cfgA m).win 8) t i (0 : Fin 2)).symm)
    show cc0_transform_4 (grid0.coords t) 0 * 128 + _ = cc0_transform_8 (grid0.coords t) 0 * 128 + _
    rw [same8]
  · refine (Pipeline.Window.rect_emb_val ((cfgA m).win 4) t i (1 : Fin 2)).trans (Eq.trans ?_ (Pipeline.Window.rect_emb_val ((cfgA m).win 8) t i (1 : Fin 2)).symm)
    show cc0_transform_4 (grid0.coords t) 1 * 1024 + _ = cc0_transform_8 (grid0.coords t) 1 * 1024 + _
    rw [same8]

theorem flushed9 (t : Fin (cfgA m).N) : (dats m 0 c).flushed 9 t = (((cfgA m).win 9).blk t).view.read (Elt Ideal) (rest (V m c main_v0)) := by
  show ((cfgA m).win 9).cut (grid0.coords t) ((dats m 0 c).after 9 t) = _
  rw [after_9]
  refine (congrArg (((cfgA m).win 9).cut (grid0.coords t)) (rider12_eq (iblk m c 5 t))).trans ?_
  refine funext fun (i : S1024x512.Idx) => ?_
  show V m c main_v0 ((((cfgA m).win 5).rect t).emb (ix2 (i 1) (i 0))) = rest (V m c main_v0) ((((cfgA m).win 9).rect t).emb i)
  refine congrArg _ (Shape.idx_ext₂ ?_ ?_)
  · refine (Pipeline.Window.rect_emb_val_off ((cfgA m).win 5) t (ix2 (i 1) (i 0)) (0 : Fin 2)).trans ?_
    show cc0_transform_5 (grid0.coords t) 0 + (i 1).val = 1544 + ((((cfgA m).win 9).rect t).emb i (1 : Fin 2)).val
    rw [Pipeline.Window.rect_emb_val ((cfgA m).win 9) t i (1 : Fin 2), rows5]
    show 1544 + cc0_transform_9 (grid0.coords t) 1 * 512 + (i 1).val = 1544 + (cc0_transform_9 (grid0.coords t) 1 * 512 + (i 1).val)
    omega
  · exact (Pipeline.Window.rect_emb_val_of_index_zero ((cfgA m).win 5) t (1 : Fin 2) (zero5 t) (ix2 (i 1) (i 0))).trans
      (Pipeline.Window.rect_emb_val_of_index_zero ((cfgA m).win 9) t (0 : Fin 2) (zero9 t) i).symm

theorem final7 : (dats m 0 c).arrAt 7 (cfgA m).N = (V m c main_v1 : S1024x1024.Idx → EReal) :=
  (dats m 0 c).arrAt_eq_of_cover 7 (V m c main_v1 : S1024x1024.Idx → EReal) (fun t _ => flushed7 m c t)
    (fun i => Pipeline.Window.Covers.cover (w := (cfgA m).win 7) covers7 (Memref.isWhole_whole _) i)
theorem final8 : (dats m 0 c).arrAt 8 (cfgA m).N = (V m c main_arg5 : S1024x1024.Idx → EReal) :=
  (dats m 0 c).arrAt_eq_of_cover 8 (V m c main_arg5 : S1024x1024.Idx → EReal) (fun t _ => flushed8 m c t)
    (fun i => Pipeline.Window.Covers.cover (w := (cfgA m).win 8) covers8 (Memref.isWhole_whole _) i)
theorem final9 : (dats m 0 c).arrAt 9 (cfgA m).N = rest (V m c main_v0) :=
  (dats m 0 c).arrAt_eq_of_cover 9 (rest (V m c main_v0)) (fun t _ => flushed9 m c t)
    (fun i => Pipeline.Window.Covers.cover (w := (cfgA m).win 9) covers9 (Memref.isWhole_whole _) i)

/-! ## The run -/

theorem V_main_v1 : (V m c main_v1 : S1024x1024.Idx → EReal) = shapeCast S1024x1024 (m ((c : Thread nD τ).loc main_arg4) : FVec Ideal S2x512x1024 .f32) shapeCasts_S2x512x1024_S1024x1024 := by
  rfl
theorem V_main_v0 : (V m c main_v0 : S5128x1024.Idx → EReal) = transpose S5128x1024 [1, 0] (m ((c : Thread nD τ).loc main_arg6) : FVec Ideal S1024x5128 .f32) transposes_S1024x5128_S5128x1024_1_0 := by
  rfl

/-- The third weight's whole array: the columns from 1544 on of the input projection. -/
theorem rest_eq (w : FVec Ideal S1024x5128 .f32) (l : Fin 1024) (r : Fin 3584) :
    rest (transpose S5128x1024 [1, 0] w transposes_S1024x5128_S5128x1024_1_0) (ix2 l r) = w (ix2 l (⟨1544 + r.val, by omega⟩ : Fin 5128)) := by
  show transpose S5128x1024 [1, 0] w transposes_S1024x5128_S5128x1024_1_0 (ix2 (⟨1544 + r.val, by omega⟩ : Fin 5128) l) = _
  pointwise []

/-- From any memory whose table is nonnegative: the three weights, and the arguments unchanged. -/
theorem run_weights (hn : Nonneg m) : θ_run defs (onTc (τ := τ) (main (F := Ideal))) ⟨m, fun _ => 0, ρ⟩ (fun r => ∀ c : Dev nD,
      r.2.mem ((c.tc : Thread nD τ).loc main_v2_1) = shapeCast S1024x1024 (m ((c.tc : Thread nD τ).loc main_arg4) : FVec Ideal S2x512x1024 .f32) shapeCasts_S2x512x1024_S1024x1024
      ∧ r.2.mem ((c.tc : Thread nD τ).loc main_v2_2) = (m ((c.tc : Thread nD τ).loc main_arg5) : FVec Ideal S1024x1024 .f32)
      ∧ r.2.mem ((c.tc : Thread nD τ).loc main_v2_3) = rest (transpose S5128x1024 [1, 0] (m ((c.tc : Thread nD τ).loc main_arg6) : FVec Ideal S1024x5128 .f32) transposes_S1024x5128_S5128x1024_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    ((((dats m 0 c).toRForget_arrAt_iff (fgt := forgets) (w := 7) rfl _ _).mp ((h.1 c).1 7)).trans (final7 m c)).trans (V_main_v1 m c),
    ((((dats m 0 c).toRForget_arrAt_iff (fgt := forgets) (w := 8) rfl _ _).mp ((h.1 c).1 8)).trans (final8 m c)).trans (V_main_arg5 m c),
    ((((dats m 0 c).toRForget_arrAt_iff (fgt := forgets) (w := 9) rfl _ _).mp ((h.1 c).1 9)).trans (final9 m c)).trans (congrArg rest (V_main_v0 m c)),
    ((h.1 c).2 main_arg0 (show main_arg0 ∈ Pipeline.restRefs sig spec0 by decide)).trans (V_main_arg0 m c),
    (RDat.FramePost.arr_in h.1 c 0 rfl).trans ((A_eq m c 0).trans (V_main_arg1 m c)),
    (RDat.FramePost.arr_in h.1 c 1 rfl).trans ((A_eq m c 1).trans (V_main_arg2 m c)),
    (RDat.FramePost.arr_in h.1 c 2 rfl).trans ((A_eq m c 2).trans (V_main_arg3 m c)),
    ((h.1 c).2 main_arg4 (show main_arg4 ∈ Pipeline.restRefs sig spec0 by decide)).trans (V_main_arg4 m c),
    (RDat.FramePost.arr_in h.1 c 4 rfl).trans ((A_eq m c 4).trans (V_main_arg5 m c)),
    ((h.1 c).2 main_arg6 (show main_arg6 ∈ Pipeline.restRefs sig spec0 by decide)).trans (V_main_arg6 m c)⟩) (run_main m ρ hn)

end Cert.Proof.AttnIdeal

end
-- ==== Proof.Same.lean ====
/- The attention call's two programs, of all its results and of the three weights, have one text: only what they return
   differs. So what is proved of the one holds of the other. -/
module

public import proofs.«01_k».proof.Proof.Gen.Kernel
public import proofs.«01_k».proof.Proof.Gen.KernelIdeal
public import proofs.«01_k».proof.Proof.Gen.Kernel5
public import proofs.«01_k».proof.Proof.Gen.Kernel5Ideal

@[expose] public section

set_option maxRecDepth 16384

noncomputable section

open Idealize.ShloMosaic Idealize.ShloMosaic.TcCoe Idealize.SL.Sem

namespace Cert.Proof.Same

variable {F : FTy → Type} [FloatOps F]

section
variable [Named F]

theorem body : Cert.Kernel5Ideal.cc0_attn (F := F) = Cert.KernelIdeal.cc0_attn (F := F) := rfl

theorem table : Cert.Kernel5Ideal.defs₀ (F := F) = Cert.KernelIdeal.defs₀ (F := F) := by
  unfold Cert.Kernel5Ideal.defs₀ Cert.KernelIdeal.defs₀
  refine congrArg Defs.onTc (funext fun i => funext fun p => ?_)
  match i, p with
  | 0, (t, s) =>
    show Cert.Kernel5Ideal.cc0_attn _ _ _ _ _ _ _ _ _ _ _ _ _ _ _ _ _ _ _ _ _ _ _ _ _ _ _ _ _ _ _ _ _ _ _ = _
    rw [body]
    rfl
  | ⟨_ + 1, h⟩, _ => exact absurd h (Nat.not_lt.2 (Nat.le_add_left _ _))

theorem defs : Cert.Kernel5Ideal.defs (F := F) = Cert.KernelIdeal.defs (F := F) :=
  congrArg (Pipeline.defs Cert.KernelIdeal.pcfgs) table

theorem main : Cert.Kernel5Ideal.main (F := F) = Cert.KernelIdeal.main (F := F) := rfl

end

/-! ## The bit-exact programs -/

theorem bits_body : Cert.Kernel5.cc0_attn (F := F) = Cert.Kernel.cc0_attn (F := F) := rfl

theorem bits_table : Cert.Kernel5.defs₀ (F := F) = Cert.Kernel.defs₀ (F := F) := by
  unfold Cert.Kernel5.defs₀ Cert.Kernel.defs₀
  refine congrArg Defs.onTc (funext fun i => funext fun p => ?_)
  match i, p with
  | 0, (t, s) =>
    show Cert.Kernel5.cc0_attn _ _ _ _ _ _ _ _ _ _ _ _ _ _ _ _ _ _ _ _ _ _ _ _ _ _ _ _ _ _ _ _ _ _ _ = _
    rw [bits_body]
    rfl
  | ⟨_ + 1, h⟩, _ => exact absurd h (Nat.not_lt.2 (Nat.le_add_left _ _))

theorem bits_defs : Cert.Kernel5.defs (F := F) = Cert.Kernel.defs (F := F) :=
  congrArg (Pipeline.defs Cert.Kernel.pcfgs) bits_table

theorem bits_main : Cert.Kernel5.main (F := F) = Cert.Kernel.main (F := F) := rfl

end Cert.Proof.Same

end
-- ==== Proof.Weights.lean ====
/- The three weights that the attention call casts on the way: the frames and the algebraic claim. -/
module

public import proofs.«01_k».proof.Proof.Frames
public import proofs.«01_k».proof.Proof.AttnWeights
public import proofs.«01_k».proof.Proof.Same
public import proofs.«01_k».proof.Proof.Gen.Reference5Ideal.Run

@[expose] public section

set_option maxRecDepth 16384

noncomputable section

namespace Cert.Proof.Weights

open Idealize.ShloMosaic Idealize.ShloMosaic.TcCoe Idealize.ShloMosaic.Pointwise Idealize.SL.Sem
open Cert.Proof.AttnIdeal (rest rest_eq run_weights)

theorem frame_kernel : Cert.quiescent_Kernel5 := fun m g h => by
  rw [Same.bits_defs, Same.bits_main]
  exact Cert.Proof.AttnBits.frame (F := Bits) m g (Frames.nonneg_bits m h)

theorem frame_kernelIdeal : Cert.quiescent_Kernel5Ideal := fun m g h => by
  rw [Same.defs, Same.main]
  exact Cert.Proof.AttnIdeal.frame (F := Ideal) m g (Frames.nonneg_ideal m h)

theorem frame_reference : Cert.quiescent_Reference5Ideal := fun m g _ =>
  (θ_run Cert.Reference5Ideal.defs _ _).mono
    (fun r h => ⟨fun c => (h c).2.2.2, sem_eq_zero_of_no_sems rfl r.2⟩) (Cert.Reference5Ideal.Value.run m g)

theorem preserves : Cert.preserves_Kernel5_Kernel5Ideal :=
  IdealRules.named_const.statement Cert.Kernel5Ideal.κ "mask" .f32 0xF149F2CA#32 ⊥ rfl

/-- The reference's slice is the kernel's rows. -/
theorem slice_rest (w : FVec Ideal Cert.KernelIdeal.S1024x5128 .f32) :
    (truncf .bf16 (extractStridedSlice Cert.Reference5Ideal.S1024x3584 ![0, 1544] w Cert.Reference5Ideal.Facts₀.slices_S1024x5128_S1024x3584_0_1544) Cert.Reference5Ideal.Facts₀.bitsLt_bf16_f32 : Cert.KernelIdeal.S1024x3584.Idx → EReal)
      = rest (transpose Cert.KernelIdeal.S5128x1024 [1, 0] w Cert.KernelIdeal.Facts₀.transposes_S1024x5128_S5128x1024_1_0) := by
  funext i
  have e : i = ix2 (⟨(i 0).val, (i 0).isLt⟩ : Fin 1024) (⟨(i 1).val, (i 1).isLt⟩ : Fin 3584) := Shape.idx_ext₂ rfl rfl
  rw [e, rest_eq]
  pointwise []

theorem algebraic : Cert.algebraic_Kernel5Ideal_Reference5Ideal := by
  intro m g m' g' hp hm
  refine ⟨fun c => shapeCast Cert.KernelIdeal.S1024x1024 (m ((c.tc : Thread Cert.KernelIdeal.nD Cert.KernelIdeal.τ).loc Cert.KernelIdeal.main_arg4) : FVec Ideal Cert.KernelIdeal.S2x512x1024 .f32) Cert.KernelIdeal.Facts₀.shapeCasts_S2x512x1024_S1024x1024,
    fun c => (m ((c.tc : Thread Cert.KernelIdeal.nD Cert.KernelIdeal.τ).loc Cert.KernelIdeal.main_arg5) : FVec Ideal Cert.KernelIdeal.S1024x1024 .f32),
    fun c => rest (transpose Cert.KernelIdeal.S5128x1024 [1, 0] (m ((c.tc : Thread Cert.KernelIdeal.nD Cert.KernelIdeal.τ).loc Cert.KernelIdeal.main_arg6) : FVec Ideal Cert.KernelIdeal.S1024x5128 .f32) Cert.KernelIdeal.Facts₀.transposes_S1024x5128_S5128x1024_1_0), ?_,
    (θ_run Cert.Reference5Ideal.defs _ _).mono (fun _ h c => ?_) (Cert.Reference5Ideal.Value.run m' g')⟩
  · rw [Same.defs, Same.main]
    exact run_weights m g (Frames.nonneg_ideal m hp)
  · obtain ⟨_, _, _, _, h4, h5, h6⟩ := hm c
    refine ⟨(h c).1.trans ?_, (h c).2.1.trans ?_, (h c).2.2.1.trans ?_, (h c).2.2.2⟩
    · rw [h4]
      rfl
    · rw [h5]
      rfl
    · rw [h6]
      exact slice_rest _

end Cert.Proof.Weights

end
-- ==== Proof.lean ====
/- The whole certificate, put together from the claims proved in the modules beside it. -/
module

public import proofs.«01_k».proof.Defs
public import proofs.«01_k».proof.Proof.Frames
public import proofs.«01_k».proof.Proof.FfnValue
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Pre_first_nonneg
public import proofs.«01_k».proof.Proof.MixValue
public import proofs.«01_k».proof.Proof.QkvValue
public import proofs.«01_k».proof.Proof.Weights
public import proofs.«01_k».proof.Proof.Gen.Reference5Ideal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_first_nonneg.Gen.facts,
    Frames.frame_kernel, Frames.frame_kernelIdeal, Frames.frame_reference, Frames.frame_kernel2, (fun m g _ => Mix.frame m g), Frames.frame_reference2, Frames.frame_kernel3, Frames.frame_kernel3Ideal, Ffn.frame_reference, Frames.frame_kernel4, Frames.frame_kernel4Ideal, Qkv.frame_reference, Weights.frame_kernel, Weights.frame_kernelIdeal, Weights.frame_reference, Frames.preserves, trivial, Mix.algebraic, trivial, Ffn.algebraic, trivial, Qkv.algebraic, Weights.preserves, Weights.algebraic⟩

end Cert.Proof

end
